-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))).2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))).1 = (fun _ => 1#1)
    ∧ (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v101_0)) (v1 : (c : Dev Cert.KernelIdeal.nD) → Buf (Elt Ideal) ((c.tc : Thread Cert.KernelIdeal.nD Cert.KernelIdeal.τ).loc Cert.KernelIdeal.main_v101_1)) (v2 : (c : Dev Cert.KernelIdeal.nD) → Buf (Elt Ideal) ((c.tc : Thread Cert.KernelIdeal.nD Cert.KernelIdeal.τ).loc Cert.KernelIdeal.main_v101_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101_0) = v0 c
          ∧ r.2.mem ((c.tc : Thread Cert.KernelIdeal.nD Cert.KernelIdeal.τ).loc Cert.KernelIdeal.main_v101_1) = v1 c
          ∧ r.2.mem ((c.tc : Thread Cert.KernelIdeal.nD Cert.KernelIdeal.τ).loc Cert.KernelIdeal.main_v101_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v13) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0_0)) (v1 : (c : Dev Cert.DwIdeal.nD) → Buf (Elt Ideal) ((c.tc : Thread Cert.DwIdeal.nD Cert.DwIdeal.τ).loc Cert.DwIdeal.main_v0_1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0_0) = v0 c
          ∧ r.2.mem ((c.tc : Thread Cert.DwIdeal.nD Cert.DwIdeal.τ).loc Cert.DwIdeal.main_v0_1) = v1 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v23) = v0 c
          ∧ r.2.mem ((c.tc : Thread Cert.DwReferenceIdeal.nD Cert.DwReferenceIdeal.τ).loc Cert.DwReferenceIdeal.main_v24) = v1 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_Fwd_FwdIdeal : Prop :=
  True

def algebraic_FwdIdeal_FwdReferenceIdeal [hFwdIdeal : Cert.FwdIdeal.Facts] [hFwdReferenceIdeal : Cert.FwdReferenceIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v0)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v12) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1))

def preserves_Gate_GateIdeal : Prop :=
  True

def algebraic_GateIdeal_GateReferenceIdeal_pre_finite_gate [hGateIdeal : Cert.GateIdeal.Facts] [hGateReferenceIdeal : Cert.GateReferenceIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_finite_gate m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v13) = v0 c
          ∧ r.2.mem ((c.tc : Thread Cert.GateReferenceIdeal.nD Cert.GateReferenceIdeal.τ).loc Cert.GateReferenceIdeal.main_v14) = v1 c
          ∧ r.2.mem ((c.tc : Thread Cert.GateReferenceIdeal.nD Cert.GateReferenceIdeal.τ).loc Cert.GateReferenceIdeal.main_v15) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxReferenceIdeal : Cert.DxReferenceIdeal.Facts) (hDw : Cert.Dw.Facts) (hDwIdeal : Cert.DwIdeal.Facts) (hDwReferenceIdeal : Cert.DwReferenceIdeal.Facts) (hFwd : Cert.Fwd.Facts) (hFwdIdeal : Cert.FwdIdeal.Facts) (hFwdReferenceIdeal : Cert.FwdReferenceIdeal.Facts) (hGate : Cert.Gate.Facts) (hGateIdeal : Cert.GateIdeal.Facts) (hGateReferenceIdeal : Cert.GateReferenceIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dx (hDx := hDx)
    ∧ quiescent_DxIdeal (hDxIdeal := hDxIdeal)
    ∧ quiescent_DxReferenceIdeal (hDxReferenceIdeal := hDxReferenceIdeal)
    ∧ quiescent_Dw (hDw := hDw)
    ∧ quiescent_DwIdeal (hDwIdeal := hDwIdeal)
    ∧ quiescent_DwReferenceIdeal (hDwReferenceIdeal := hDwReferenceIdeal)
    ∧ quiescent_Fwd (hFwd := hFwd)
    ∧ quiescent_FwdIdeal (hFwdIdeal := hFwdIdeal)
    ∧ quiescent_FwdReferenceIdeal (hFwdReferenceIdeal := hFwdReferenceIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_Dx_DxIdeal
    ∧ algebraic_DxIdeal_DxReferenceIdeal (hDxIdeal := hDxIdeal) (hDxReferenceIdeal := hDxReferenceIdeal)
    ∧ preserves_Dw_DwIdeal
    ∧ algebraic_DwIdeal_DwReferenceIdeal (hDwIdeal := hDwIdeal) (hDwReferenceIdeal := hDwReferenceIdeal)
    ∧ preserves_Fwd_FwdIdeal
    ∧ algebraic_FwdIdeal_FwdReferenceIdeal (hFwdIdeal := hFwdIdeal) (hFwdReferenceIdeal := hFwdReferenceIdeal)
    ∧ preserves_Gate_GateIdeal
    ∧ algebraic_GateIdeal_GateReferenceIdeal_pre_finite_gate (hGateIdeal := hGateIdeal) (hGateReferenceIdeal := hGateReferenceIdeal) (hPre_finite_gate := hPre_finite_gate)
-- ==== Pre_finite.lean ====
abbrev S8448x2048 : Shape := ⟨2, ![8448, 2048]⟩
abbrev S8448x512 : Shape := ⟨2, ![8448, 512]⟩
abbrev S8448x5120 : Shape := ⟨2, ![8448, 5120]⟩
abbrev S_ : Shape := ⟨0, ![]⟩

class Facts : Prop where
  bcast_S_S8448x2048 : S_.BroadcastsInDim S8448x2048 (![] : Fin 0 → Fin S8448x2048.rank)
  bcast_S_S8448x512 : S_.BroadcastsInDim S8448x512 (![] : Fin 0 → Fin S8448x512.rank)
  slices_S8448x5120_S8448x512_0_4608 : S8448x5120.Slices ![0, 4608] S8448x512

variable [Facts]

def fn {F : FTy → Type} [FloatOps F] (main_arg0 : FVec F S8448x2048 .f32) (main_arg1 : FVec F S8448x512 .f32) (main_arg2 : FVec F S8448x5120 .f32) (main_arg3 : FVec F S8448x2048 .f32) : IVec S8448x2048 1 × IVec S8448x512 1 × IVec S8448x512 1 × IVec S8448x2048 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S8448x512 .f32 := Host.absf main_arg1
  let main_cst_0 : FVec F S_ .f32 := constant S_ .f32 0x7F800000#32
  let main_v4 : FVec F S8448x512 .f32 := broadcastInDim S8448x512 ![] bcast_S_S8448x512 main_cst_0
  let main_v5 : IVec S8448x512 1 := cmpf .olt main_v3 main_v4
  let main_v6 : FVec F S8448x512 .f32 := (extractStridedSlice S8448x512 ![0, 4608] · slices_S8448x5120_S8448x512_0_4608) main_arg2
  let main_v7 : FVec F S8448x512 .f32 := Host.absf main_v6
  let main_cst_1 : FVec F S_ .f32 := constant S_ .f32 0x7F800000#32
  let main_v8 : FVec F S8448x512 .f32 := broadcastInDim S8448x512 ![] bcast_S_S8448x512 main_cst_1
  let main_v9 : IVec S8448x512 1 := cmpf .olt main_v7 main_v8
  let main_v10 : FVec F S8448x2048 .f32 := Host.absf main_arg3
  let main_cst_2 : FVec F S_ .f32 := constant S_ .f32 0x7F800000#32
  let main_v11 : FVec F S8448x2048 .f32 := broadcastInDim S8448x2048 ![] bcast_S_S8448x2048 main_cst_2
  let main_v12 : IVec S8448x2048 1 := cmpf .olt main_v10 main_v11
  (main_v2, main_v5, main_v9, main_v12)
-- ==== Pre_finite_gate.lean ====
abbrev S8448x2048 : Shape := ⟨2, ![8448, 2048]⟩
abbrev S8448x5120 : Shape := ⟨2, ![8448, 5120]⟩
abbrev S_ : Shape := ⟨0, ![]⟩

class Facts : Prop where
  bcast_S_S8448x2048 : S_.BroadcastsInDim S8448x2048 (![] : Fin 0 → Fin S8448x2048.rank)

variable [Facts]

def fn {F : FTy → Type} [FloatOps F] (main_arg0 : FVec F S8448x2048 .bf16) (main_arg1 : FVec F S8448x2048 .bf16) (main_arg2 : FVec F S8448x5120 .bf16) : IVec S8448x2048 1 × IVec S8448x2048 1 :=
  let main_v0 : FVec F S8448x2048 .bf16 := Host.absf main_arg0
  let main_cst : FVec F S_ .bf16 := constant S_ .bf16 0x7F80#16
  let main_v1 : FVec F S8448x2048 .bf16 := broadcastInDim S8448x2048 ![] bcast_S_S8448x2048 main_cst
  let main_v2 : IVec S8448x2048 1 := cmpf .olt main_v0 main_v1
  let main_v3 : FVec F S8448x2048 .bf16 := Host.absf main_arg1
  let main_cst_0 : FVec F S_ .bf16 := constant S_ .bf16 0x7F80#16
  let main_v4 : FVec F S8448x2048 .bf16 := broadcastInDim S8448x2048 ![] bcast_S_S8448x2048 main_cst_0
  let main_v5 : IVec S8448x2048 1 := cmpf .olt main_v3 main_v4
  (main_v2, main_v5)
-- ==== Kernel.lean ====
abbrev S8448x2048 : Shape := ⟨2, ![8448, 2048]⟩
abbrev S8448x512 : Shape := ⟨2, ![8448, 512]⟩
abbrev S8448x5120 : Shape := ⟨2, ![8448, 5120]⟩
abbrev S_ : Shape := ⟨0, ![]⟩
abbrev S256x2048 : Shape := ⟨2, ![256, 2048]⟩
abbrev S256x512 : Shape := ⟨2, ![256, 512]⟩
abbrev S256x4x4x128 : Shape := ⟨4, ![256, 4, 4, 128]⟩
abbrev S256x4x128 : Shape := ⟨3, ![256, 4, 128]⟩
abbrev S4x256x256x4 : Shape := ⟨4, ![4, 256, 256, 4]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S8192x2048 : Shape := ⟨2, ![8192, 2048]⟩
abbrev S8192x4x4x128 : Shape := ⟨4, ![8192, 4, 4, 128]⟩
abbrev S8448x4x128 : Shape := ⟨3, ![8448, 4, 128]⟩
abbrev S4x8448x8192x4 : Shape := ⟨4, ![4, 8448, 8192, 4]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x4x8448 : Shape := ⟨3, ![4, 4, 8448]⟩
abbrev S4x128x4x256 : Shape := ⟨4, ![4, 128, 4, 256]⟩
abbrev S4x128x4x8192 : Shape := ⟨4, ![4, 128, 4, 8192]⟩
abbrev S8448x4x4x128 : Shape := ⟨4, ![8448, 4, 4, 128]⟩
abbrev S8448x4x4 : Shape := ⟨3, ![8448, 4, 4]⟩
abbrev S4x4x33x256 : Shape := ⟨4, ![4, 4, 33, 256]⟩
abbrev S4x33x4x256 : Shape := ⟨4, ![4, 33, 4, 256]⟩
abbrev S33x256x4x4 : Shape := ⟨4, ![33, 256, 4, 4]⟩
abbrev S33x256x4x128 : Shape := ⟨4, ![33, 256, 4, 128]⟩
abbrev S4x33x128x256 : Shape := ⟨4, ![4, 33, 128, 256]⟩
abbrev S8448x128 : Shape := ⟨2, ![8448, 128]⟩
abbrev S1x33x128x256 : Shape := ⟨4, ![1, 33, 128, 256]⟩
abbrev S1x1x4x256 : Shape := ⟨4, ![1, 1, 4, 256]⟩
abbrev S256x128 : Shape := ⟨2, ![256, 128]⟩
abbrev S1x1x1x256 : Shape := ⟨4, ![1, 1, 1, 256]⟩
abbrev S1x256 : Shape := ⟨2, ![1, 256]⟩
abbrev S1x1x128x256 : Shape := ⟨4, ![1, 1, 128, 256]⟩
abbrev S128x256 : Shape := ⟨2, ![128, 256]⟩
abbrev S256x256 : Shape := ⟨2, ![256, 256]⟩
abbrev S1024x128 : Shape := ⟨2, ![1024, 128]⟩
abbrev S1024x256 : Shape := ⟨2, ![1024, 256]⟩

abbrev nBuf : Space → Nat
  | .hbm => 126
  | .vmem => 20
  | .smem => 0
  | _ => 0

abbrev bufTy : (tb : Table) → Fin (tcTables nBuf tb) → BufTy
  | .hbm, ⟨0, _⟩ => ⟨S8448x2048, .f32⟩
  | .hbm, ⟨1, _⟩ => ⟨S8448x512, .f32⟩
  | .hbm, ⟨2, _⟩ => ⟨S8448x5120, .f32⟩
  | .hbm, ⟨3, _⟩ => ⟨S8448x2048, .f32⟩
  | .hbm, ⟨4, _⟩ => ⟨S8448x512, .f32⟩
  | .hbm, ⟨5, _⟩ => ⟨S_, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S_, .f32⟩
  | .hbm, ⟨10, _⟩ => ⟨S8448x2048, .f32⟩
  | .hbm, ⟨11, _⟩ => ⟨S8448x2048, .f32⟩
  | .hbm, ⟨12, _⟩ => ⟨S8448x2048, .bf16⟩
  | .hbm, ⟨13, _⟩ => ⟨S8448x512, .bf16⟩
  | .hbm, ⟨14, _⟩ => ⟨S256x2048, .f32⟩
  | .hbm, ⟨15, _⟩ => ⟨S256x512, .f32⟩
  | .hbm, ⟨16, _⟩ => ⟨S256x4x4x128, .f32⟩
  | .hbm, ⟨17, _⟩ => ⟨S256x4x128, .f32⟩
  | .hbm, ⟨18, _⟩ => ⟨S4x256x256x4, .f32⟩
  | .hbm, ⟨19, _⟩ => ⟨S4x4x256x256, .f32⟩
  | .hbm, ⟨20, _⟩ => ⟨S_, .f32⟩
  | .hbm, ⟨21, _⟩ => ⟨S4x4x256x256, .f32⟩
  | .hbm, ⟨22, _⟩ => ⟨S4x4x256x256, .f32⟩
  | .hbm, ⟨23, _⟩ => ⟨S_, .f32⟩
  | .hbm, ⟨24, _⟩ => ⟨S4x4x256, .f32⟩
  | .hbm, ⟨25, _⟩ => ⟨S4x4x256x1, .f32⟩
  | .hbm, ⟨26, _⟩ => ⟨S4x4x256x256, .f32⟩
  | .hbm, ⟨27, _⟩ => ⟨S4x4x256x256, .f32⟩
  | .hbm, ⟨28, _⟩ => ⟨S4x4x256x256, .f32⟩
  | .hbm, ⟨29, _⟩ => ⟨S_, .f32⟩
  | .hbm, ⟨30, _⟩ => ⟨S4x4x256, .f32⟩
  | .hbm, ⟨31, _⟩ => ⟨S4x4x256, .f32⟩
  | .hbm, ⟨32, _⟩ => ⟨S4x4x256, .f32⟩
  | .hbm, ⟨33, _⟩ => ⟨S8192x2048, .f32⟩
  | .hbm, ⟨34, _⟩ => ⟨S8192x4x4x128, .f32⟩
  | .hbm, ⟨35, _⟩ => ⟨S8448x4x128, .f32⟩
  | .hbm, ⟨36, _⟩ => ⟨S4x8448x8192x4, .f32⟩
  | .hbm, ⟨37, _⟩ => ⟨S4x4x8192x8448, .f32⟩
  | .hbm, ⟨38, _⟩ => ⟨S_, .f32⟩
  | .hbm, ⟨39, _⟩ => ⟨S4x4x8192x8448, .f32⟩
  | .hbm, ⟨40, _⟩ => ⟨S4x4x8192x8448, .f32⟩
  | .hbm, ⟨41, _⟩ => ⟨S_, .f32⟩
  | .hbm, ⟨42, _⟩ => ⟨S4x4x8192, .f32⟩
  | .hbm, ⟨43, _⟩ => ⟨S4x4x8192x1, .f32⟩
  | .hbm, ⟨44, _⟩ => ⟨S4x4x8192x8448, .f32⟩
  | .hbm, ⟨45, _⟩ => ⟨S4x4x8192x8448, .f32⟩
  | .hbm, ⟨46, _⟩ => ⟨S4x4x8192x8448, .f32⟩
  | .hbm, ⟨47, _⟩ => ⟨S_, .f32⟩
  | .hbm, ⟨48, _⟩ => ⟨S4x4x8192, .f32⟩
  | .hbm, ⟨49, _⟩ => ⟨S4x4x8192, .f32⟩
  | .hbm, ⟨50, _⟩ => ⟨S4x4x8192, .f32⟩
  | .hbm, ⟨51, _⟩ => ⟨S4x4x8448, .f32⟩
  | .hbm, ⟨52, _⟩ => ⟨S_, .f32⟩
  | .hbm, ⟨53, _⟩ => ⟨S_, .f32⟩
  | .hbm, ⟨54, _⟩ => ⟨S4x4x8448, .f32⟩
  | .hbm, ⟨55, _⟩ => ⟨S4x4x8448, .f32⟩
  | .hbm, ⟨56, _⟩ => ⟨S256x2048, .f32⟩
  | .hbm, ⟨57, _⟩ => ⟨S256x512, .f32⟩
  | .hbm, ⟨58, _⟩ => ⟨S256x512, .f32⟩
  | .hbm, ⟨59, _⟩ => ⟨S256x4x4x128, .f32⟩
  | .hbm, ⟨60, _⟩ => ⟨S256x4x128, .f32⟩
  | .hbm, ⟨61, _⟩ => ⟨S4x256x256x4, .f32⟩
  | .hbm, ⟨62, _⟩ => ⟨S4x4x256x256, .f32⟩
  | .hbm, ⟨63, _⟩ => ⟨S_, .f32⟩
  | .hbm, ⟨64, _⟩ => ⟨S4x4x256x256, .f32⟩
  | .hbm, ⟨65, _⟩ => ⟨S4x4x256x256, .f32⟩
  | .hbm, ⟨66, _⟩ => ⟨S_, .f32⟩
  | .hbm, ⟨67, _⟩ => ⟨S4x4x256, .f32⟩
  | .hbm, ⟨68, _⟩ => ⟨S_, .f32⟩
  | .hbm, ⟨69, _⟩ => ⟨S4x4x256, .f32⟩
  | .hbm, ⟨70, _⟩ => ⟨S4x4x256, .f32⟩
  | .hbm, ⟨71, _⟩ => ⟨S4x4x256x1, .f32⟩
  | .hbm, ⟨72, _⟩ => ⟨S4x4x256x256, .f32⟩
  | .hbm, ⟨73, _⟩ => ⟨S4x4x256x256, .f32⟩
  | .hbm, ⟨74, _⟩ => ⟨S4x4x256x256, .f32⟩
  | .hbm, ⟨75, _⟩ => ⟨S_, .f32⟩
  | .hbm, ⟨76, _⟩ => ⟨S4x4x256, .f32⟩
  | .hbm, ⟨77, _⟩ => ⟨S4x4x256x1, .f32⟩
  | .hbm, ⟨78, _⟩ => ⟨S4x4x256x256, .f32⟩
  | .hbm, ⟨79, _⟩ => ⟨S4x4x256x256, .f32⟩
  | .hbm, ⟨80, _⟩ => ⟨S256x4x128, .f32⟩
  | .hbm, ⟨81, _⟩ => ⟨S4x128x4x256, .f32⟩
  | .hbm, ⟨82, _⟩ => ⟨S256x4x4x128, .f32⟩
  | .hbm, ⟨83, _⟩ => ⟨S256x2048, .f32⟩
  | .hbm, ⟨84, _⟩ => ⟨S8192x2048, .f32⟩
  | .hbm, ⟨85, _⟩ => ⟨S8192x4x4x128, .f32⟩
  | .hbm, ⟨86, _⟩ => ⟨S8448x4x128, .f32⟩
  | .hbm, ⟨87, _⟩ => ⟨S4x8448x8192x4, .f32⟩
  | .hbm, ⟨88, _⟩ => ⟨S4x4x8192x8448, .f32⟩
  | .hbm, ⟨89, _⟩ => ⟨S_, .f32⟩
  | .hbm, ⟨90, _⟩ => ⟨S4x4x8192x8448, .f32⟩
  | .hbm, ⟨91, _⟩ => ⟨S4x4x8192x8448, .f32⟩
  | .hbm, ⟨92, _⟩ => ⟨S_, .f32⟩
  | .hbm, ⟨93, _⟩ => ⟨S4x4x8192, .f32⟩
  | .hbm, ⟨94, _⟩ => ⟨S_, .f32⟩
  | .hbm, ⟨95, _⟩ => ⟨S4x4x8192, .f32⟩
  | .hbm, ⟨96, _⟩ => ⟨S4x4x8192, .f32⟩
  | .hbm, ⟨97, _⟩ => ⟨S4x4x8192x1, .f32⟩
  | .hbm, ⟨98, _⟩ => ⟨S4x4x8192x8448, .f32⟩
  | .hbm, ⟨99, _⟩ => ⟨S4x4x8192x8448, .f32⟩
  | .hbm, ⟨100, _⟩ => ⟨S4x4x8192x8448, .f32⟩
  | .hbm, ⟨101, _⟩ => ⟨S_, .f32⟩
  | .hbm, ⟨102, _⟩ => ⟨S4x4x8192, .f32⟩
  | .hbm, ⟨103, _⟩ => ⟨S4x4x8192x1, .f32⟩
  | .hbm, ⟨104, _⟩ => ⟨S4x4x8192x8448, .f32⟩
  | .hbm, ⟨105, _⟩ => ⟨S4x4x8192x8448, .f32⟩
  | .hbm, ⟨106, _⟩ => ⟨S8448x4x128, .f32⟩
  | .hbm, ⟨107, _⟩ => ⟨S4x128x4x8192, .f32⟩
  | .hbm, ⟨108, _⟩ => ⟨S8192x4x4x128, .f32⟩
  | .hbm, ⟨109, _⟩ => ⟨S8192x2048, .f32⟩
  | .hbm, ⟨110, _⟩ => ⟨S8448x2048, .f32⟩
  | .hbm, ⟨111, _⟩ => ⟨S8448x2048, .f32⟩
  | .hbm, ⟨112, _⟩ => ⟨S8448x4x4x128, .f32⟩
  | .hbm, ⟨113, _⟩ => ⟨S_, .f32⟩
  | .hbm, ⟨114, _⟩ => ⟨S8448x4x4, .f32⟩
  | .hbm, ⟨115, _⟩ => ⟨S4x4x33x256, .f32⟩
  | .hbm, ⟨116, _⟩ => ⟨S4x33x4x256, .f32⟩
  | .hbm, ⟨117, _⟩ => ⟨S33x256x4x4, .f32⟩
  | .hbm, ⟨118, _⟩ => ⟨S4x33x4x256, .f32⟩
  | .hbm, ⟨119, _⟩ => ⟨S8448x2048, .bf16⟩
  | .hbm, ⟨120, _⟩ => ⟨S33x256x4x128, .bf16⟩
  | .hbm, ⟨121, _⟩ => ⟨S4x33x128x256, .bf16⟩
  | .hbm, ⟨122, _⟩ => ⟨S8448x5120, .bf16⟩
  | .hbm, ⟨123, _⟩ => ⟨S8448x2048, .f32⟩
  | .hbm, ⟨124, _⟩ => ⟨S8448x512, .f32⟩
  | .hbm, ⟨125, _⟩ => ⟨S8448x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S8448x128, .bf16⟩
  | .local _ .vmem, ⟨5, _⟩ => ⟨S8448x128, .bf16⟩
  | .local _ .vmem, ⟨6, _⟩ => ⟨S8448x128, .bf16⟩
  | .local _ .vmem, ⟨7, _⟩ => ⟨S8448x128, .bf16⟩
  | .local _ .vmem, ⟨8, _⟩ => ⟨S1x33x128x256, .bf16⟩
  | .local _ .vmem, ⟨9, _⟩ => ⟨S1x33x128x256, .bf16⟩
  | .local _ .vmem, ⟨10, _⟩ => ⟨S1x1x4x256, .f32⟩
  | .local _ .vmem, ⟨11, _⟩ => ⟨S1x1x4x256, .f32⟩
  | .local _ .vmem, ⟨12, _⟩ => ⟨S1x1x4x256, .f32⟩
  | .local _ .vmem, ⟨13, _⟩ => ⟨S1x1x4x256, .f32⟩
  | .local _ .vmem, ⟨14, _⟩ => ⟨S256x512, .f32⟩
  | .local _ .vmem, ⟨15, _⟩ => ⟨S256x512, .f32⟩
  | .local _ .vmem, ⟨16, _⟩ => ⟨S8448x128, .f32⟩
  | .local _ .vmem, ⟨17, _⟩ => ⟨S8448x128, .f32⟩
  | .local _ .vmem, ⟨18, _⟩ => ⟨S8448x128, .f32⟩
  | .local _ .vmem, ⟨19, _⟩ => ⟨S8448x128, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_12 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_15 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_16 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101_0 : Ref sig .tc := ⟨.hbm, 123, rfl⟩
abbrev main_v101_1 : Ref sig .tc := ⟨.hbm, 124, rfl⟩
abbrev main_v101_2 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 33], ![false, false]⟩

@[reducible] def k0_t1_loop (i : grid0.Coords) : Scf.Loop 32 :=
  let c0_i32_85 : BitVec 32 := 0#32
  let arg1 : BitVec 32 := BitVec.ofNat 32 (i 1).val
  let c0_i32_83 : BitVec 32 := 0#32
  let v119 : BitVec 1 := Scalar.cmpi .eq arg1 c0_i32_83
  let c0_i32_84 : BitVec 32 := 0#32
  let c8_i32 : BitVec 32 := 8#32
  let v120 : BitVec 32 := Scalar.select v119 c0_i32_84 c8_i32
  let v121 : BitVec 32 := Scalar.subi v120 c0_i32_85
  let c1_i32 : BitVec 32 := 1#32
  let v123 : BitVec 32 := Scalar.divsi v121 c1_i32
  let v124 : BitVec 32 := Scalar.muli v123 c1_i32
  let v125 : BitVec 32 := Scalar.addi c0_i32_85 v124
  let c1_i32_86 : BitVec 32 := 1#32
  ⟨c0_i32_85, v125, c1_i32_86⟩
def k0_mult1 (i : grid0.Coords) (k0_t1 : Fin (k0_t1_loop i).trips) : BitVec 32 :=
  let c1_i32_101 : BitVec 32 := 1#32
  let c4_i32 : BitVec 32 := 4#32
  let c0_i32_85 : BitVec 32 := 0#32
  let c1_i32_86 : BitVec 32 := 1#32
  let arg12 : BitVec 32 := Scf.iv c0_i32_85 c1_i32_86 k0_t1
  let v147 : BitVec 32 := Scalar.muli c4_i32 arg12
  let v148 : BitVec 32 := Scalar.addi c1_i32_101 v147
  let c256_i32 : BitVec 32 := 256#32
  let v149 : BitVec 32 := Scalar.muli v148 c256_i32
  v149
def k0_off1 (i : grid0.Coords) (k0_t1 : Fin (k0_t1_loop i).trips) (c0_i32_102 : BitVec 32) : Fin 4 → Nat :=
  let c0_103 : Index := 0#32
  let c1_i32_101 : BitVec 32 := 1#32
  let c4_i32 : BitVec 32 := 4#32
  let c0_i32_85 : BitVec 32 := 0#32
  let c1_i32_86 : BitVec 32 := 1#32
  let arg12 : BitVec 32 := Scf.iv c0_i32_85 c1_i32_86 k0_t1
  let v147 : BitVec 32 := Scalar.muli c4_i32 arg12
  let v148 : BitVec 32 := Scalar.addi c1_i32_101 v147
  let v151 : BitVec 32 := Scalar.addi v148 c0_i32_102
  let v152 : Index := Scalar.indexCast v151
  let c0_104 : Index := 0#32
  let c0_105 : Index := 0#32
  ![0, v152.toNat, 0, 0]
def k0_off2 (i : grid0.Coords) (k0_t1 : Fin (k0_t1_loop i).trips) : Fin 2 → Nat :=
  let c1_i32_101 : BitVec 32 := 1#32
  let c4_i32 : BitVec 32 := 4#32
  let c0_i32_85 : BitVec 32 := 0#32
  let c1_i32_86 : BitVec 32 := 1#32
  let arg12 : BitVec 32 := Scf.iv c0_i32_85 c1_i32_86 k0_t1
  let v147 : BitVec 32 := Scalar.muli c4_i32 arg12
  let v148 : BitVec 32 := Scalar.addi c1_i32_101 v147
  let c256_i32 : BitVec 32 := 256#32
  let v149 : BitVec 32 := Scalar.muli v148 c256_i32
  let v150 : BitVec 32 := v149
  let v167 : Index := Scalar.indexCast v150
  let c0_116 : Index := 0#32
  ![v167.toNat, 0]
@[reducible] def k0_t2_loop (i : grid0.Coords) : Scf.Loop 32 :=
  let c0_i32_85 : BitVec 32 := 0#32
  let arg1 : BitVec 32 := BitVec.ofNat 32 (i 1).val
  let c0_i32_83 : BitVec 32 := 0#32
  let v119 : BitVec 1 := Scalar.cmpi .eq arg1 c0_i32_83
  let c0_i32_84 : BitVec 32 := 0#32
  let c8_i32 : BitVec 32 := 8#32
  let v120 : BitVec 32 := Scalar.select v119 c0_i32_84 c8_i32
  let v121 : BitVec 32 := Scalar.subi v120 c0_i32_85
  let c1_i32 : BitVec 32 := 1#32
  let v123 : BitVec 32 := Scalar.divsi v121 c1_i32
  let v124 : BitVec 32 := Scalar.muli v123 c1_i32
  let v125 : BitVec 32 := Scalar.addi c0_i32_85 v124
  let v122 : BitVec 32 := Scalar.addi c0_i32_85 v121
  let c1_i32_87 : BitVec 32 := 1#32
  ⟨v125, v122, c1_i32_87⟩
def k0_mult2 (i : grid0.Coords) (k0_t2 : Fin (k0_t2_loop i).trips) : BitVec 32 :=
  let c1_i32_101 : BitVec 32 := 1#32
  let c4_i32 : BitVec 32 := 4#32
  let c0_i32_85 : BitVec 32 := 0#32
  let arg1 : BitVec 32 := BitVec.ofNat 32 (i 1).val
  let c0_i32_83 : BitVec 32 := 0#32
  let v119 : BitVec 1 := Scalar.cmpi .eq arg1 c0_i32_83
  let c0_i32_84 : BitVec 32 := 0#32
  let c8_i32 : BitVec 32 := 8#32
  let v120 : BitVec 32 := Scalar.select v119 c0_i32_84 c8_i32
  let v121 : BitVec 32 := Scalar.subi v120 c0_i32_85
  let c1_i32 : BitVec 32 := 1#32
  let v123 : BitVec 32 := Scalar.divsi v121 c1_i32
  let v124 : BitVec 32 := Scalar.muli v123 c1_i32
  let v125 : BitVec 32 := Scalar.addi c0_i32_85 v124
  let c1_i32_87 : BitVec 32 := 1#32
  let arg12 : BitVec 32 := Scf.iv v125 c1_i32_87 k0_t2
  let v147 : BitVec 32 := Scalar.muli c4_i32 arg12
  let v148 : BitVec 32 := Scalar.addi c1_i32_101 v147
  let c256_i32 : BitVec 32 := 256#32
  let v149 : BitVec 32 := Scalar.muli v148 c256_i32
  v149
def k0_off3 (i : grid0.Coords) (k0_t2 : Fin (k0_t2_loop i).trips) (c0_i32_102 : BitVec 32) : Fin 4 → Nat :=
  let c0_103 : Index := 0#32
  let c1_i32_101 : BitVec 32 := 1#32
  let c4_i32 : BitVec 32 := 4#32
  let c0_i32_85 : BitVec 32 := 0#32
  let arg1 : BitVec 32 := BitVec.ofNat 32 (i 1).val
  let c0_i32_83 : BitVec 32 := 0#32
  let v119 : BitVec 1 := Scalar.cmpi .eq arg1 c0_i32_83
  let c0_i32_84 : BitVec 32 := 0#32
  let c8_i32 : BitVec 32 := 8#32
  let v120 : BitVec 32 := Scalar.select v119 c0_i32_84 c8_i32
  let v121 : BitVec 32 := Scalar.subi v120 c0_i32_85
  let c1_i32 : BitVec 32 := 1#32
  let v123 : BitVec 32 := Scalar.divsi v121 c1_i32
  let v124 : BitVec 32 := Scalar.muli v123 c1_i32
  let v125 : BitVec 32 := Scalar.addi c0_i32_85 v124
  let c1_i32_87 : BitVec 32 := 1#32
  let arg12 : BitVec 32 := Scf.iv v125 c1_i32_87 k0_t2
  let v147 : BitVec 32 := Scalar.muli c4_i32 arg12
  let v148 : BitVec 32 := Scalar.addi c1_i32_101 v147
  let v151 : BitVec 32 := Scalar.addi v148 c0_i32_102
  let v152 : Index := Scalar.indexCast v151
  let c0_104 : Index := 0#32
  let c0_105 : Index := 0#32
  ![0, v152.toNat, 0, 0]
def k0_off4 (i : grid0.Coords) (k0_t2 : Fin (k0_t2_loop i).trips) : Fin 2 → Nat :=
  let c1_i32_101 : BitVec 32 := 1#32
  let c4_i32 : BitVec 32 := 4#32
  let c0_i32_85 : BitVec 32 := 0#32
  let arg1 : BitVec 32 := BitVec.ofNat 32 (i 1).val
  let c0_i32_83 : BitVec 32 := 0#32
  let v119 : BitVec 1 := Scalar.cmpi .eq arg1 c0_i32_83
  let c0_i32_84 : BitVec 32 := 0#32
  let c8_i32 : BitVec 32 := 8#32
  let v120 : BitVec 32 := Scalar.select v119 c0_i32_84 c8_i32
  let v121 : BitVec 32 := Scalar.subi v120 c0_i32_85
  let c1_i32 : BitVec 32 := 1#32
  let v123 : BitVec 32 := Scalar.divsi v121 c1_i32
  let v124 : BitVec 32 := Scalar.muli v123 c1_i32
  let v125 : BitVec 32 := Scalar.addi c0_i32_85 v124
  let c1_i32_87 : BitVec 32 := 1#32
  let arg12 : BitVec 32 := Scf.iv v125 c1_i32_87 k0_t2
  let v147 : BitVec 32 := Scalar.muli c4_i32 arg12
  let v148 : BitVec 32 := Scalar.addi c1_i32_101 v147
  let c256_i32 : BitVec 32 := 256#32
  let v149 : BitVec 32 := Scalar.muli v148 c256_i32
  let v150 : BitVec 32 := v149
  let v167 : Index := Scalar.indexCast v150
  let c0_116 : Index := 0#32
  ![v167.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x33x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8448x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8448x2048 : Shape := ⟨2, ![8448, 2048]⟩
abbrev S8448x512 : Shape := ⟨2, ![8448, 512]⟩
abbrev S8448x5120 : Shape := ⟨2, ![8448, 5120]⟩
abbrev S256x2048 : Shape := ⟨2, ![256, 2048]⟩
abbrev S256x512 : Shape := ⟨2, ![256, 512]⟩
abbrev S256x4x4x128 : Shape := ⟨4, ![256, 4, 4, 128]⟩
abbrev S256x4x128 : Shape := ⟨3, ![256, 4, 128]⟩
abbrev S4x256x256x4 : Shape := ⟨4, ![4, 256, 256, 4]⟩
abbrev S4x4x256x256 : Shape := ⟨4, ![4, 4, 256, 256]⟩
abbrev S_ : Shape := ⟨0, ![]⟩
abbrev S4x4x256 : Shape := ⟨3, ![4, 4, 256]⟩
abbrev S4x4x256x1 : Shape := ⟨4, ![4, 4, 256, 1]⟩
abbrev S4x128x4x256 : Shape := ⟨4, ![4, 128, 4, 256]⟩
abbrev S8192x2048 : Shape := ⟨2, ![8192, 2048]⟩
abbrev S8192x4x4x128 : Shape := ⟨4, ![8192, 4, 4, 128]⟩
abbrev S8448x4x128 : Shape := ⟨3, ![8448, 4, 128]⟩
abbrev S4x8448x8192x4 : Shape := ⟨4, ![4, 8448, 8192, 4]⟩
abbrev S4x4x8192x8448 : Shape := ⟨4, ![4, 4, 8192, 8448]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩
abbrev S4x128x8448 : Shape := ⟨3, ![4, 128, 8448]⟩
abbrev S4x8192x4x128 : Shape := ⟨4, ![4, 8192, 4, 128]⟩
abbrev S4x8448x128 : Shape := ⟨3, ![4, 8448, 128]⟩
abbrev S4x128x256 : Shape := ⟨3, ![4, 128, 256]⟩
abbrev S4x256x4x128 : Shape := ⟨4, ![4, 256, 4, 128]⟩
abbrev S4x256x128 : Shape := ⟨3, ![4, 256, 128]⟩

abbrev nBuf : Space → Nat
  | .hbm => 181
  | .vmem => 0
  | .smem => 0
  | _ => 0

abbrev hbmTy0_0 (i : Nat) : BufTy := match i % 128 with
  | 0 => ⟨S8448x2048, .f32⟩
  | 1 => ⟨S8448x512, .f32⟩
  | 2 => ⟨S8448x5120, .f32⟩
  | 3 => ⟨S8448x2048, .f32⟩
  | 4 => ⟨S8448x512, .f32⟩
  | 5 => ⟨S256x2048, .f32⟩
  | 6 => ⟨S256x512, .f32⟩
  | 7 => ⟨S256x512, .f32⟩
  | 8 => ⟨S256x4x4x128, .f32⟩
  | 9 => ⟨S256x4x128, .f32⟩
  | 10 => ⟨S4x256x256x4, .f32⟩
  | 11 => ⟨S4x4x256x256, .f32⟩
  | 12 => ⟨S_, .f32⟩
  | 13 => ⟨S4x4x256x256, .f32⟩
  | 14 => ⟨S4x4x256x256, .f32⟩
  | 15 => ⟨S_, .f32⟩
  | 16 => ⟨S4x4x256, .f32⟩
  | 17 => ⟨S4x4x256x1, .f32⟩
  | 18 => ⟨S4x4x256x256, .f32⟩
  | 19 => ⟨S4x4x256x256, .i1⟩
  | 20 => ⟨S4x4x256x256, .f32⟩
  | 21 => ⟨S_, .f32⟩
  | 22 => ⟨S4x4x256, .f32⟩
  | 23 => ⟨S_, .f32⟩
  | 24 => ⟨S4x4x256, .f32⟩
  | 25 => ⟨S4x4x256, .f32⟩
  | 26 => ⟨S_, .f32⟩
  | 27 => ⟨S4x4x256, .f32⟩
  | 28 => ⟨S4x4x256, .i1⟩
  | 29 => ⟨S_, .f32⟩
  | 30 => ⟨S4x4x256, .f32⟩
  | 31 => ⟨S4x4x256, .i1⟩
  | 32 => ⟨S_, .f32⟩
  | 33 => ⟨S4x4x256, .f32⟩
  | 34 => ⟨S_, .f32⟩
  | 35 => ⟨S4x4x256, .f32⟩
  | 36 => ⟨S_, .f32⟩
  | 37 => ⟨S4x4x256, .f32⟩
  | 38 => ⟨S4x4x256, .f32⟩
  | 39 => ⟨S4x4x256, .f32⟩
  | 40 => ⟨S4x4x256x1, .f32⟩
  | 41 => ⟨S4x4x256x256, .f32⟩
  | 42 => ⟨S4x4x256x256, .f32⟩
  | 43 => ⟨S4x4x256x256, .f32⟩
  | 44 => ⟨S_, .f32⟩
  | 45 => ⟨S4x4x256, .f32⟩
  | 46 => ⟨S4x4x256x1, .f32⟩
  | 47 => ⟨S4x4x256x256, .f32⟩
  | 48 => ⟨S4x4x256x256, .f32⟩
  | 49 => ⟨S4x4x256x1, .f32⟩
  | 50 => ⟨S_, .f32⟩
  | 51 => ⟨S4x4x256x1, .f32⟩
  | 52 => ⟨S4x4x256x1, .f32⟩
  | 53 => ⟨S256x4x128, .f32⟩
  | 54 => ⟨S4x128x4x256, .f32⟩
  | 55 => ⟨S256x4x4x128, .f32⟩
  | 56 => ⟨S256x2048, .f32⟩
  | 57 => ⟨S8192x2048, .f32⟩
  | 58 => ⟨S8192x4x4x128, .f32⟩
  | 59 => ⟨S8448x4x128, .f32⟩
  | 60 => ⟨S4x8448x8192x4, .f32⟩
  | 61 => ⟨S4x4x8192x8448, .f32⟩
  | 62 => ⟨S_, .f32⟩
  | 63 => ⟨S4x4x8192x8448, .f32⟩
  | 64 => ⟨S4x4x8192x8448, .f32⟩
  | 65 => ⟨S_, .f32⟩
  | 66 => ⟨S4x4x8192, .f32⟩
  | 67 => ⟨S4x4x8192x1, .f32⟩
  | 68 => ⟨S4x4x8192x8448, .f32⟩
  | 69 => ⟨S4x4x8192x8448, .i1⟩
  | 70 => ⟨S4x4x8192x8448, .f32⟩
  | 71 => ⟨S_, .f32⟩
  | 72 => ⟨S4x4x8192, .f32⟩
  | 73 => ⟨S_, .f32⟩
  | 74 => ⟨S4x4x8192, .f32⟩
  | 75 => ⟨S4x4x8192, .f32⟩
  | 76 => ⟨S_, .f32⟩
  | 77 => ⟨S4x4x8192, .f32⟩
  | 78 => ⟨S4x4x8192, .i1⟩
  | 79 => ⟨S_, .f32⟩
  | 80 => ⟨S4x4x8192, .f32⟩
  | 81 => ⟨S4x4x8192, .i1⟩
  | 82 => ⟨S_, .f32⟩
  | 83 => ⟨S4x4x8192, .f32⟩
  | 84 => ⟨S_, .f32⟩
  | 85 => ⟨S4x4x8192, .f32⟩
  | 86 => ⟨S_, .f32⟩
  | 87 => ⟨S4x4x8192, .f32⟩
  | 88 => ⟨S4x4x8192, .f32⟩
  | 89 => ⟨S4x4x8192, .f32⟩
  | 90 => ⟨S4x4x8192x1, .f32⟩
  | 91 => ⟨S4x4x8192x8448, .f32⟩
  | 92 => ⟨S4x4x8192x8448, .f32⟩
  | 93 => ⟨S4x4x8192x8448, .f32⟩
  | 94 => ⟨S_, .f32⟩
  | 95 => ⟨S4x4x8192, .f32⟩
  | 96 => ⟨S4x4x8192x1, .f32⟩
  | 97 => ⟨S4x4x8192x8448, .f32⟩
  | 98 => ⟨S4x4x8192x8448, .f32⟩
  | 99 => ⟨S4x4x8192x1, .f32⟩
  | 100 => ⟨S_, .f32⟩
  | 101 => ⟨S4x4x8192x1, .f32⟩
  | 102 => ⟨S4x4x8192x1, .f32⟩
  | 103 => ⟨S8448x4x128, .f32⟩
  | 104 => ⟨S4x128x4x8192, .f32⟩
  | 105 => ⟨S8192x4x4x128, .f32⟩
  | 106 => ⟨S8192x2048, .f32⟩
  | 107 => ⟨S8448x2048, .f32⟩
  | 108 => ⟨S256x2048, .f32⟩
  | 109 => ⟨S8192x2048, .f32⟩
  | 110 => ⟨S8192x4x4x128, .f32⟩
  | 111 => ⟨S4x128x4x8192, .f32⟩
  | 112 => ⟨S4x4x8192x8448, .f32⟩
  | 113 => ⟨S4x128x8448, .f32⟩
  | 114 => ⟨S8448x4x128, .f32⟩
  | 115 => ⟨S8448x512, .f32⟩
  | 116 => ⟨S4x4x8192x8448, .f32⟩
  | 117 => ⟨S4x4x8192x8448, .f32⟩
  | 118 => ⟨S4x4x8192x8448, .f32⟩
  | 119 => ⟨S_, .f32⟩
  | 120 => ⟨S4x4x8192, .f32⟩
  | 121 => ⟨S4x4x8192x1, .f32⟩
  | 122 => ⟨S4x4x8192x1, .f32⟩
  | 123 => ⟨S4x4x8192x8448, .f32⟩
  | 124 => ⟨S4x4x8192x8448, .f32⟩
  | 125 => ⟨S_, .f32⟩
  | 126 => ⟨S4x4x8192, .f32⟩
  | 127 => ⟨S4x4x8192x8448, .f32⟩
  | _ => ⟨S8448x2048, .f32⟩

abbrev hbmTy0_1 (i : Nat) : BufTy := match i % 128 with
  | 0 => ⟨S4x4x8192x8448, .f32⟩
  | 1 => ⟨S4x4x8192x8448, .f32⟩
  | 2 => ⟨S_, .f32⟩
  | 3 => ⟨S4x4x8192x8448, .f32⟩
  | 4 => ⟨S4x4x8192x8448, .f32⟩
  | 5 => ⟨S4x8448x8192x4, .f32⟩
  | 6 => ⟨S4x8192x4x128, .f32⟩
  | 7 => ⟨S8192x4x4x128, .f32⟩
  | 8 => ⟨S4x8448x128, .f32⟩
  | 9 => ⟨S8448x4x128, .f32⟩
  | 10 => ⟨S8448x512, .f32⟩
  | 11 => ⟨S8192x2048, .f32⟩
  | 12 => ⟨S_, .f32⟩
  | 13 => ⟨S8448x2048, .f32⟩
  | 14 => ⟨S256x4x4x128, .f32⟩
  | 15 => ⟨S4x128x4x256, .f32⟩
  | 16 => ⟨S4x4x256x256, .f32⟩
  | 17 => ⟨S4x128x256, .f32⟩
  | 18 => ⟨S256x4x128, .f32⟩
  | 19 => ⟨S256x512, .f32⟩
  | 20 => ⟨S4x4x256x256, .f32⟩
  | 21 => ⟨S4x4x256x256, .f32⟩
  | 22 => ⟨S4x4x256x256, .f32⟩
  | 23 => ⟨S_, .f32⟩
  | 24 => ⟨S4x4x256, .f32⟩
  | 25 => ⟨S4x4x256x1, .f32⟩
  | 26 => ⟨S4x4x256x1, .f32⟩
  | 27 => ⟨S4x4x256x256, .f32⟩
  | 28 => ⟨S4x4x256x256, .f32⟩
  | 29 => ⟨S_, .f32⟩
  | 30 => ⟨S4x4x256, .f32⟩
  | 31 => ⟨S4x4x256x256, .f32⟩
  | 32 => ⟨S4x4x256x256, .f32⟩
  | 33 => ⟨S4x4x256x256, .f32⟩
  | 34 => ⟨S_, .f32⟩
  | 35 => ⟨S4x4x256x256, .f32⟩
  | 36 => ⟨S4x4x256x256, .f32⟩
  | 37 => ⟨S4x256x256x4, .f32⟩
  | 38 => ⟨S4x256x4x128, .f32⟩
  | 39 => ⟨S256x4x4x128, .f32⟩
  | 40 => ⟨S4x256x128, .f32⟩
  | 41 => ⟨S256x4x128, .f32⟩
  | 42 => ⟨S256x512, .f32⟩
  | 43 => ⟨S256x2048, .f32⟩
  | 44 => ⟨S_, .f32⟩
  | 45 => ⟨S8448x512, .f32⟩
  | 46 => ⟨S8448x512, .f32⟩
  | 47 => ⟨S_, .f32⟩
  | 48 => ⟨S8448x512, .f32⟩
  | 49 => ⟨S8448x512, .f32⟩
  | 50 => ⟨S_, .f32⟩
  | 51 => ⟨S8448x2048, .f32⟩
  | 52 => ⟨S8448x2048, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_cst_18 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_19 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_20 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_21 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_22 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_23 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_24 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_25 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_26 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_27 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_28 : Ref sig .tc := ⟨.hbm, 172, rfl⟩
abbrev main_v139 : Ref sig .tc := ⟨.hbm, 173, rfl⟩
abbrev main_v140 : Ref sig .tc := ⟨.hbm, 174, rfl⟩
abbrev main_cst_29 : Ref sig .tc := ⟨.hbm, 175, rfl⟩
abbrev main_v141 : Ref sig .tc := ⟨.hbm, 176, rfl⟩
abbrev main_v142 : Ref sig .tc := ⟨.hbm, 177, rfl⟩
abbrev main_cst_30 : Ref sig .tc := ⟨.hbm, 178, rfl⟩
abbrev main_v143 : Ref sig .tc := ⟨.hbm, 179, rfl⟩
abbrev main_v144 : Ref sig .tc := ⟨.hbm, 180, rfl⟩

abbrev nD : Nat := 1
abbrev τ : Topo := Topo.v7x

variable {F : FTy → Type} [FloatOps F]
-- ==== Dx.lean ====
abbrev S4x2048x3584 : Shape := ⟨3, ![4, 2048, 3584]⟩
abbrev S8448x14336 : Shape := ⟨2, ![8448, 14336]⟩
abbrev S8448x2048 : Shape := ⟨2, ![8448, 2048]⟩
abbrev S768x1792 : Shape := ⟨2, ![768, 1792]⟩
abbrev S1x2048x1792 : Shape := ⟨3, ![1, 2048, 1792]⟩
abbrev S768x2048 : Shape := ⟨2, ![768, 2048]⟩
abbrev S2048x1792 : Shape := ⟨2, ![2048, 1792]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x3584, .bf16⟩
  | .hbm, ⟨1, _⟩ => ⟨S8448x14336, .bf16⟩
  | .hbm, ⟨2, _⟩ => ⟨S8448x2048, .f32⟩
  | .local _ .vmem, ⟨0, _⟩ => ⟨S768x1792, .bf16⟩
  | .local _ .vmem, ⟨1, _⟩ => ⟨S768x1792, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S4x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S4x2048x3584 : Shape := ⟨3, ![4, 2048, 3584]⟩
abbrev S8448x14336 : Shape := ⟨2, ![8448, 14336]⟩
abbrev S_ : Shape := ⟨0, ![]⟩
abbrev S8448x2048 : Shape := ⟨2, ![8448, 2048]⟩
abbrev S1x2048x3584 : Shape := ⟨3, ![1, 2048, 3584]⟩
abbrev S2048x3584 : Shape := ⟨2, ![2048, 3584]⟩
abbrev S2048x14336 : Shape := ⟨2, ![2048, 14336]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x3584, .bf16⟩
  | .hbm, ⟨1, _⟩ => ⟨S8448x14336, .bf16⟩
  | .hbm, ⟨2, _⟩ => ⟨S_, .f32⟩
  | .hbm, ⟨3, _⟩ => ⟨S8448x2048, .f32⟩
  | .hbm, ⟨4, _⟩ => ⟨S4x2048x3584, .f32⟩
  | .hbm, ⟨5, _⟩ => ⟨S1x2048x3584, .f32⟩
  | .hbm, ⟨6, _⟩ => ⟨S2048x3584, .f32⟩
  | .hbm, ⟨7, _⟩ => ⟨S1x2048x3584, .f32⟩
  | .hbm, ⟨8, _⟩ => ⟨S2048x3584, .f32⟩
  | .hbm, ⟨9, _⟩ => ⟨S1x2048x3584, .f32⟩
  | .hbm, ⟨10, _⟩ => ⟨S2048x3584, .f32⟩
  | .hbm, ⟨11, _⟩ => ⟨S1x2048x3584, .f32⟩
  | .hbm, ⟨12, _⟩ => ⟨S2048x3584, .f32⟩
  | .hbm, ⟨13, _⟩ => ⟨S2048x14336, .f32⟩
  | .hbm, ⟨14, _⟩ => ⟨S8448x14336, .f32⟩
  | .hbm, ⟨15, _⟩ => ⟨S8448x14336, .f32⟩
  | .hbm, ⟨16, _⟩ => ⟨S8448x2048, .f32⟩
  | _, _ => ⟨S4x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Dw.lean ====
abbrev S8448x2048 : Shape := ⟨2, ![8448, 2048]⟩
abbrev S8448x14336 : Shape := ⟨2, ![8448, 14336]⟩
abbrev S4x2048x3584 : Shape := ⟨3, ![4, 2048, 3584]⟩
abbrev S1408x1024 : Shape := ⟨2, ![1408, 1024]⟩
abbrev S1408x1792 : Shape := ⟨2, ![1408, 1792]⟩
abbrev S1x1024x1792 : Shape := ⟨3, ![1, 1024, 1792]⟩
abbrev S1024x1792 : Shape := ⟨2, ![1024, 1792]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S8448x14336, .bf16⟩
  | .hbm, ⟨2, _⟩ => ⟨S4x2048x3584, .f32⟩
  | .hbm, ⟨3, _⟩ => ⟨S4x2048x3584, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1792, .bf16⟩
  | .local _ .vmem, ⟨3, _⟩ => ⟨S1408x1792, .bf16⟩
  | .local _ .vmem, ⟨4, _⟩ => ⟨S1x1024x1792, .f32⟩
  | .local _ .vmem, ⟨5, _⟩ => ⟨S1x1024x1792, .f32⟩
  | .local _ .vmem, ⟨6, _⟩ => ⟨S1x1024x1792, .bf16⟩
  | .local _ .vmem, ⟨7, _⟩ => ⟨S1x1024x1792, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwReferenceIdeal.lean ====
abbrev S8448x2048 : Shape := ⟨2, ![8448, 2048]⟩
abbrev S8448x14336 : Shape := ⟨2, ![8448, 14336]⟩
abbrev S_ : Shape := ⟨0, ![]⟩
abbrev S4x2048x3584 : Shape := ⟨3, ![4, 2048, 3584]⟩
abbrev S1x2048x3584 : Shape := ⟨3, ![1, 2048, 3584]⟩
abbrev S2048x3584 : Shape := ⟨2, ![2048, 3584]⟩
abbrev S2048x14336 : Shape := ⟨2, ![2048, 14336]⟩
abbrev S14336x2048 : Shape := ⟨2, ![14336, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x14336, .bf16⟩
  | .hbm, ⟨2, _⟩ => ⟨S_, .f32⟩
  | .hbm, ⟨3, _⟩ => ⟨S4x2048x3584, .f32⟩
  | .hbm, ⟨4, _⟩ => ⟨S8448x2048, .f32⟩
  | .hbm, ⟨5, _⟩ => ⟨S1x2048x3584, .f32⟩
  | .hbm, ⟨6, _⟩ => ⟨S2048x3584, .f32⟩
  | .hbm, ⟨7, _⟩ => ⟨S1x2048x3584, .f32⟩
  | .hbm, ⟨8, _⟩ => ⟨S2048x3584, .f32⟩
  | .hbm, ⟨9, _⟩ => ⟨S1x2048x3584, .f32⟩
  | .hbm, ⟨10, _⟩ => ⟨S2048x3584, .f32⟩
  | .hbm, ⟨11, _⟩ => ⟨S1x2048x3584, .f32⟩
  | .hbm, ⟨12, _⟩ => ⟨S2048x3584, .f32⟩
  | .hbm, ⟨13, _⟩ => ⟨S2048x14336, .f32⟩
  | .hbm, ⟨14, _⟩ => ⟨S8448x14336, .f32⟩
  | .hbm, ⟨15, _⟩ => ⟨S8448x14336, .f32⟩
  | .hbm, ⟨16, _⟩ => ⟨S14336x2048, .f32⟩
  | .hbm, ⟨17, _⟩ => ⟨S2048x14336, .f32⟩
  | .hbm, ⟨18, _⟩ => ⟨S2048x3584, .f32⟩
  | .hbm, ⟨19, _⟩ => ⟨S2048x3584, .f32⟩
  | .hbm, ⟨20, _⟩ => ⟨S2048x3584, .f32⟩
  | .hbm, ⟨21, _⟩ => ⟨S2048x3584, .f32⟩
  | .hbm, ⟨22, _⟩ => ⟨S1x2048x3584, .f32⟩
  | .hbm, ⟨23, _⟩ => ⟨S1x2048x3584, .f32⟩
  | .hbm, ⟨24, _⟩ => ⟨S1x2048x3584, .f32⟩
  | .hbm, ⟨25, _⟩ => ⟨S1x2048x3584, .f32⟩
  | .hbm, ⟨26, _⟩ => ⟨S4x2048x3584, .f32⟩
  | .hbm, ⟨27, _⟩ => ⟨S4x2048x3584, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Fwd.lean ====
abbrev S8448x2048 : Shape := ⟨2, ![8448, 2048]⟩
abbrev S4x2048x3584 : Shape := ⟨3, ![4, 2048, 3584]⟩
abbrev S8448x14336 : Shape := ⟨2, ![8448, 14336]⟩
abbrev S768x2048 : Shape := ⟨2, ![768, 2048]⟩
abbrev S1x2048x512 : Shape := ⟨3, ![1, 2048, 512]⟩
abbrev S768x512 : Shape := ⟨2, ![768, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4x2048x3584, .bf16⟩
  | .hbm, ⟨2, _⟩ => ⟨S8448x14336, .bf16⟩
  | .local _ .vmem, ⟨0, _⟩ => ⟨S768x2048, .bf16⟩
  | .local _ .vmem, ⟨1, _⟩ => ⟨S768x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S768x512, .bf16⟩
  | .local _ .vmem, ⟨5, _⟩ => ⟨S768x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FwdReferenceIdeal.lean ====
abbrev S8448x2048 : Shape := ⟨2, ![8448, 2048]⟩
abbrev S4x2048x3584 : Shape := ⟨3, ![4, 2048, 3584]⟩
abbrev S1x2048x3584 : Shape := ⟨3, ![1, 2048, 3584]⟩
abbrev S2048x3584 : Shape := ⟨2, ![2048, 3584]⟩
abbrev S2048x14336 : Shape := ⟨2, ![2048, 14336]⟩
abbrev S8448x14336 : Shape := ⟨2, ![8448, 14336]⟩

abbrev nBuf : Space → Nat
  | .hbm => 15
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4x2048x3584, .bf16⟩
  | .hbm, ⟨2, _⟩ => ⟨S8448x2048, .f32⟩
  | .hbm, ⟨3, _⟩ => ⟨S4x2048x3584, .f32⟩
  | .hbm, ⟨4, _⟩ => ⟨S1x2048x3584, .f32⟩
  | .hbm, ⟨5, _⟩ => ⟨S2048x3584, .f32⟩
  | .hbm, ⟨6, _⟩ => ⟨S1x2048x3584, .f32⟩
  | .hbm, ⟨7, _⟩ => ⟨S2048x3584, .f32⟩
  | .hbm, ⟨8, _⟩ => ⟨S1x2048x3584, .f32⟩
  | .hbm, ⟨9, _⟩ => ⟨S2048x3584, .f32⟩
  | .hbm, ⟨10, _⟩ => ⟨S1x2048x3584, .f32⟩
  | .hbm, ⟨11, _⟩ => ⟨S2048x3584, .f32⟩
  | .hbm, ⟨12, _⟩ => ⟨S2048x14336, .f32⟩
  | .hbm, ⟨13, _⟩ => ⟨S8448x14336, .f32⟩
  | .hbm, ⟨14, _⟩ => ⟨S8448x14336, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Gate.lean ====
abbrev S8448x2048 : Shape := ⟨2, ![8448, 2048]⟩
abbrev S8448x5120 : Shape := ⟨2, ![8448, 5120]⟩
abbrev S4x8448x128 : Shape := ⟨3, ![4, 8448, 128]⟩
abbrev S256x2048 : Shape := ⟨2, ![256, 2048]⟩
abbrev S4x256x128 : Shape := ⟨3, ![4, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 12
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x5120, .bf16⟩
  | .hbm, ⟨3, _⟩ => ⟨S8448x2048, .bf16⟩
  | .hbm, ⟨4, _⟩ => ⟨S8448x2048, .bf16⟩
  | .hbm, ⟨5, _⟩ => ⟨S4x8448x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S4x256x128, .f32⟩
  | .local _ .vmem, ⟨11, _⟩ => ⟨S4x256x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateReferenceIdeal.lean ====
abbrev S8448x2048 : Shape := ⟨2, ![8448, 2048]⟩
abbrev S8448x5120 : Shape := ⟨2, ![8448, 5120]⟩
abbrev S_ : Shape := ⟨0, ![]⟩
abbrev S8448x4x4x128 : Shape := ⟨4, ![8448, 4, 4, 128]⟩
abbrev S8448x4x4 : Shape := ⟨3, ![8448, 4, 4]⟩
abbrev S4x8448x4 : Shape := ⟨3, ![4, 8448, 4]⟩
abbrev S4x8448x128 : Shape := ⟨3, ![4, 8448, 128]⟩

abbrev nBuf : Space → Nat
  | .hbm => 37
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x5120, .bf16⟩
  | .hbm, ⟨3, _⟩ => ⟨S8448x2048, .f32⟩
  | .hbm, ⟨4, _⟩ => ⟨S8448x2048, .bf16⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S_, .f32⟩
  | .hbm, ⟨9, _⟩ => ⟨S8448x2048, .f32⟩
  | .hbm, ⟨10, _⟩ => ⟨S8448x2048, .f32⟩
  | .hbm, ⟨11, _⟩ => ⟨S_, .f32⟩
  | .hbm, ⟨12, _⟩ => ⟨S8448x2048, .f32⟩
  | .hbm, ⟨13, _⟩ => ⟨S8448x2048, .f32⟩
  | .hbm, ⟨14, _⟩ => ⟨S_, .f32⟩
  | .hbm, ⟨15, _⟩ => ⟨S8448x2048, .f32⟩
  | .hbm, ⟨16, _⟩ => ⟨S8448x2048, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S8448x2048, .f32⟩
  | .hbm, ⟨27, _⟩ => ⟨S8448x2048, .f32⟩
  | .hbm, ⟨28, _⟩ => ⟨S8448x4x4x128, .f32⟩
  | .hbm, ⟨29, _⟩ => ⟨S_, .f32⟩
  | .hbm, ⟨30, _⟩ => ⟨S8448x4x4, .f32⟩
  | .hbm, ⟨31, _⟩ => ⟨S4x8448x4, .f32⟩
  | .hbm, ⟨32, _⟩ => ⟨S8448x2048, .bf16⟩
  | .hbm, ⟨33, _⟩ => ⟨S8448x2048, .bf16⟩
  | .hbm, ⟨34, _⟩ => ⟨S_, .i32⟩
  | .hbm, ⟨35, _⟩ => ⟨S_, .f32⟩
  | .hbm, ⟨36, _⟩ => ⟨S4x8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call2_v0 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Proof.DevFrame.lean ====
/- The launch of the kernel: the contents of its output blocks point by point, its run, and that the arguments are
   unchanged. -/
module

public import proofs.«01_k».proof.Proof.Gen.KernelIdeal.Frame.RunC
public import Idealize.ShloMosaic.Lib.Claim

@[expose] public section

set_option maxRecDepth 16384

noncomputable section

namespace Cert.Attn.Dev

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (y : S256x512.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S256x128.size (by sl_kernel_rfl) y

/-- What the first point of a group leaves in the block of the queries' gradient. -/
def out0_A_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) : Vec F S256x512 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem cover0_A_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (y : S8448x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4 x5 x6).2.1 (by sl_whole_mem) y

/-- What the first point of a group leaves in the block of the keys' gradient. -/
def out0_A_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) : Vec F S8448x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

theorem cover0_A_9 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (y : S8448x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1 (by sl_whole_mem) y

/-- What the first point of a group leaves in the block of the values' gradient. -/
def out0_A_9 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) : Vec F S8448x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1)

theorem cover0_B_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) (y : S256x512.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xo8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xo8 xo9).1 S256x128.size (by sl_kernel_rfl) y

def out0_B_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) : Vec F S256x512 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xo8 xo9).1)

def out0_B_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) : Vec F S8448x128 .f32 :=
  arg10.view.read (Elt F) (arg10.view.writes (Elt F) (harg10.unread xo8) (kernelRun0_B c i arg2 harg2 arg3 harg3 arg4 harg4 arg5 harg5 arg6 harg6 arg7 harg7 arg8 harg8 arg9 harg9 arg10 harg10 arg11 harg11 hc0 hc1 x0 x1 x2 x3 x4 x5 x6 xo8 xo9).2.1)

def out0_B_9 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) : Vec F S8448x128 .f32 :=
  arg11.view.read (Elt F) (arg11.view.writes (Elt F) (harg11.unread xo9) (kernelRun0_B c i arg2 harg2 arg3 harg3 arg4 harg4 arg5 harg5 arg6 harg6 arg7 harg7 arg8 harg8 arg9 harg9 arg10 harg10 arg11 harg11 hc0 hc1 x0 x1 x2 x3 x4 x5 x6 xo8 xo9).2.2.1)

theorem cover0_C_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) (y : S256x512.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xo8 xo9).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xo8 xo9).1 S256x128.size (by sl_kernel_rfl) y

def out0_C_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) : Vec F S256x512 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xo8 xo9).1)

theorem cover0_C_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) (y : S8448x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xo8 xo9).2.1, y ∈ pc.1.set :=
  View.cover_of_wholeMem (kernelRun0_C c i arg2 harg2 arg3 harg3 arg4 harg4 arg5 harg5 arg6 harg6 arg7 harg7 arg8 harg8 arg9 harg9 arg10 harg10 arg11 harg11 hc0 hc1 x0 x1 x2 x3 x4 x5 x6 xo8 xo9).2.1 (by sl_whole_mem) y

def out0_C_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) : Vec F S8448x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xo8 xo9).2.1)

def out0_C_9 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec F S256x512 .bf16) (x1 : Vec F S256x512 .bf16) (x2 : Vec F S8448x128 .bf16) (x3 : Vec F S8448x128 .bf16) (x4 : Vec F S1x33x128x256 .bf16) (x5 : Vec F S1x1x4x256 .f32) (x6 : Vec F S1x1x4x256 .f32) (xo8 : Vec F S8448x128 .f32) (xo9 : Vec F S8448x128 .f32) : Vec F S8448x128 .f32 :=
  arg11.view.read (Elt F) (arg11.view.writes (Elt F) (harg11.unread xo9) (kernelRun0_C c i arg2 harg2 arg3 harg3 arg4 harg4 arg5 harg5 arg6 harg6 arg7 harg7 arg8 harg8 arg9 harg9 arg10 harg10 arg11 harg11 hc0 hc1 x0 x1 x2 x3 x4 x5 x6 xo8 xo9).2.2.1)

/-- What the three output blocks hold after a point: the keys' and the values' blocks are carried over from the point before. -/
def outsAt0 (c : Dev nD) : (n : ℕ) → n < cfg0.N → Vec F S256x512 .f32 × Vec F S8448x128 .f32 × Vec F S8448x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 33 = 0 then
      if h1 : (n + 1) % 33 = 32 then
        False.elim (by have hN : n + 1 < 132 := lt_of_lt_of_eq hn (show cfg0.N = 132 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 33 = 32 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2)

theorem outsAt0_A (c : Dev nD) (t : Fin cfg0.N) (h0 : t.val % 33 = 0) (h1 : ¬t.val % 33 = 32) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 33 = 0) (h1 : ¬t.val % 33 = 32) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 33 = 0) (h1 : t.val % 33 = 32) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The data of the launch: the arrays before it and the blocks after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8_B (c : Dev nD) (t : Fin cfg0.N) (h0 : ¬t.val % 33 = 0) (h1 : ¬t.val % 33 = 32) (d) :
    (dats m 0 c).before 8 t d = (outsAt0 m c (t.val - 1) (Nat.lt_of_le_of_lt (Nat.sub_le _ _) t.isLt)).2.1 := by
  have hN : t.val < 132 := lt_of_lt_of_eq t.isLt (show cfg0.N = 132 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_9_B (c : Dev nD) (t : Fin cfg0.N) (h0 : ¬t.val % 33 = 0) (h1 : ¬t.val % 33 = 32) (d) :
    (dats m 0 c).before 9 t d = (outsAt0 m c (t.val - 1) (Nat.lt_of_le_of_lt (Nat.sub_le _ _) t.isLt)).2.2 := by
  have hN : t.val < 132 := lt_of_lt_of_eq t.isLt (show cfg0.N = 132 from N_0)
  rw [Dat.before_out_kept _ 9 rfl t (by omega) (Bool.eq_false_iff.mpr fun h => by have := (flush0_9 _).mp h; dsimp only at this; omega)
    (fun _ => rfl) (fun _ _ => rfl)]
  dsimp only [dats]
theorem before0_8_C (c : Dev nD) (t : Fin cfg0.N) (h0 : ¬t.val % 33 = 0) (h1 : t.val % 33 = 32) (d) :
    (dats m 0 c).before 8 t d = (outsAt0 m c (t.val - 1) (Nat.lt_of_le_of_lt (Nat.sub_le _ _) t.isLt)).2.1 := by
  have hN : t.val < 132 := lt_of_lt_of_eq t.isLt (show cfg0.N = 132 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_9_C (c : Dev nD) (t : Fin cfg0.N) (h0 : ¬t.val % 33 = 0) (h1 : t.val % 33 = 32) (d) :
    (dats m 0 c).before 9 t d = (outsAt0 m c (t.val - 1) (Nat.lt_of_le_of_lt (Nat.sub_le _ _) t.isLt)).2.2 := by
  have hN : t.val < 132 := lt_of_lt_of_eq t.isLt (show cfg0.N = 132 from N_0)
  rw [Dat.before_out_kept _ 9 rfl t (by omega) (Bool.eq_false_iff.mpr fun h => by have := (flush0_9 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

attribute [local irreducible] kernelRun0_A kernelRun0_B kernelRun0_C

set_option maxHeartbeats 2400000 in
/-- The body at any point leaves what `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 132 := lt_of_lt_of_eq t.isLt (show cfg0.N = 132 from N_0)
  by_cases h0 : t.val % 33 = 0
  · by_cases h1 : t.val % 33 = 32
    · exfalso; omega
    · rw [outsAt0_A m c t h0 h1]
      unfold out0_A_7 out0_A_8 out0_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      iintro ⟨H0, H1, H2, H3, H4, H5, H6, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
  · by_cases h1 : t.val % 33 = 32
    · rw [outsAt0_C m c t h0 h1]
      simp only [before0_8_C m c t h0 h1, before0_9_C m c t h0 h1]
      unfold out0_C_7 out0_C_8 out0_C_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      iintro ⟨H0, H1, H2, H3, H4, H5, H6, ⟨%e7, H7⟩, ⟨%e8, H8⟩, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _)
      unfold owns; iexists _; isplitr
      swap; · iexact H9
      ipureintro; rfl
    · rw [outsAt0_B m c t h0 h1]
      simp only [before0_8_B m c t h0 h1, before0_9_B m c t h0 h1]
      unfold out0_B_7 out0_B_8 out0_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      iintro ⟨H0, H1, H2, H3, H4, H5, H6, ⟨%e7, H7⟩, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)
      isplitl [H8]
      · unfold owns; iexists _; isplitr
        swap; · iexact H8
        ipureintro; rfl
      unfold owns; iexists _; isplitr
      swap; · iexact H9
      ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the arrays as the blocks written back say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Attn.Dev

end
-- ==== Proof.DevValue.lean ====
/- The kernel's run with its three result arrays named. -/
module

public import proofs.«01_k».proof.Proof.DevFrame
public import Idealize.ShloMosaic.Lib.Pipeline.Value

@[expose] public section

noncomputable section

namespace Cert.Attn.Dev

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What point `t` writes back to the queries' gradient. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- What point `t` writes back to the keys' gradient. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- What point `t` writes back to the values' gradient. -/
theorem flushed9 (c : Dev nD) (t : Fin cfg0.N) :
    (dats m 0 c).flushed 9 t = (cfg0.win 9).cut (grid0.coords t) ((outsAt0 m c t.val t.isLt).2.2) := by
  show (cfg0.win 9).cut (grid0.coords t) ((dats m 0 c).after 9 t) = _
  rw [after0_9]

/-- The run, with each result array named and the arguments unchanged. -/
theorem run_blocks : θ_run defs (onTc (τ := τ) (main (F := F))) ⟨m, fun _ => 0, ρ⟩ fun r => ∀ c : Dev nD,
      r.2.mem ((c : Thread nD τ).loc main_v101_0) = (dats m 0 c).arrAt 7 cfg0.N
      ∧ r.2.mem ((c : Thread nD τ).loc main_v101_1) = (dats m 0 c).arrAt 8 cfg0.N
      ∧ r.2.mem ((c : Thread nD τ).loc main_v101_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 7, (h c).1 8, (h c).1 9,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Attn.Dev

end
-- ==== Proof.Frames.lean ====
/- Every claim of the certificate but the value claim: the three programs run to the end with their arguments as they
   were, and the named constant is the real it stands for. -/
module

public import proofs.«01_k».proof.Defs
public import proofs.«01_k».proof.Proof.KernelFrame
public import proofs.«01_k».proof.Proof.Gen.ReferenceIdeal.Run

public import Idealize.ShloMosaic.Lib.Quiescent

@[expose] public section

noncomputable section

namespace Cert.Attn

open Idealize.ShloMosaic Idealize.SL.Sem

/-- The side conditions of the precondition: two broadcasts of one number and a slice that lies inside. -/
theorem pre_facts : Cert.Pre_finite.Facts where
  bcast_S_S8448x2048 := by decide
  bcast_S_S8448x512 := by decide
  slices_S8448x5120_S8448x512_0_4608 := by decide

theorem frame_kernel : Cert.quiescent_Kernel := fun m ρ _ => Ker.frame m ρ

theorem frame_ideal : Cert.quiescent_KernelIdeal := fun m ρ _ => Dev.frame m ρ

theorem frame_ideal_pre : Cert.quiescent_KernelIdeal_pre_finite (hPre_finite := pre_facts) :=
  fun m ρ _ => Dev.frame m ρ

theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_reference_pre : Cert.quiescent_ReferenceIdeal_pre_finite (hPre_finite := pre_facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The number by which the keys' gradient is scaled at the end is the natural logarithm of 2. -/
theorem preserves : Cert.preserves_Kernel_KernelIdeal :=
  IdealRules.named_const.statement Cert.KernelIdeal.κ "ln2" .f32 0x3F317218#32 ((Real.log 2 : ℝ) : EReal) rfl

end Cert.Attn

end
-- ==== Proof.Reals.lean ====
/- Facts on extended reals: sums, quotients and maxima of finite numbers, and the real formulas of a grouped-query
   attention's derivative. -/
module

public import proofs.«01_k».proof.Proof.Frames
public import Idealize.ShloMosaic.Lib.Pointwise

@[expose] public section

noncomputable section

namespace Cert.Attn

open Idealize.ShloMosaic Idealize.SL.Sem

/-- A sum of finite numbers is finite. -/
theorem sum_real {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of finite numbers, the divisor not zero. -/
theorem div_real (x : ℝ) {y : ℝ} (h : y ≠ 0) : Ideal.div (x : EReal) (y : EReal) = ((x / y : ℝ) : EReal) := by
  rw [Ideal.div_coe h, ← EReal.coe_mul]; congr 1; ring

/-- The word of minus infinity. -/
theorem word_bot : Ideal.ofBits .f32 0xFF800000#32 = (⊥ : EReal) := by simp [Ideal.ofBits, Ideal.ieee]

/-- The word of infinity. -/
theorem word_top : Ideal.ofBits .f32 0x7F800000#32 = (⊤ : EReal) := by simp [Ideal.ofBits, Ideal.ieee]

/-- The attention's scale, as the number its word stands for. -/
def sc : ℝ := (Ideal.ofBits .f32 0x3DB504F3#32 : EReal).toReal

theorem word_sc : Ideal.ofBits .f32 0x3DB504F3#32 = (sc : EReal) := by
  have h : ∃ r : ℝ, Ideal.ofBits .f32 0x3DB504F3#32 = (r : EReal) :=
    ⟨11863283 * ((2 : ℝ) ^ 27)⁻¹, by simp [Ideal.ofBits, Ideal.ieee]⟩
  obtain ⟨r, hr⟩ := h
  unfold sc; rw [hr, EReal.toReal_coe]

/-- The maximum, from minus infinity, of a row of finite numbers is finite. -/
theorem reduce_max_real {s t u : Shape} {axes : List (Fin s.rank)} (x : FVec Ideal s .f32) (init : FVec Ideal u .f32)
    (h : s.ReducesTo axes t) (hu : 0 < u.numel) (j : t.Idx) (hi : ∀ y, init y = (⊥ : EReal)) (hx : ∀ i, ∃ r : ℝ, x i = (r : EReal))
    (i : s.Idx) (hij : h.drop i = j) :
    ∃ M : ℝ, Host.reduce FloatOps.maximumf x init h hu j = (M : EReal) := by
  have hf : ∀ l : List (Fin s.numel), (∃ n, n ∈ l) → ∀ b : EReal, b < ⊤ →
      ∃ M : ℝ, l.foldl (fun (r : EReal) n => max r (x (s.rowMajor.symm n))) b = (M : EReal) := by
    intro l
    induction l with
    | nil => rintro ⟨_, h⟩; cases h
    | cons a l ih =>
      intro _ b hb
      obtain ⟨r, hr⟩ := hx (s.rowMajor.symm a)
      have h1 : max b (x (s.rowMajor.symm a)) < ⊤ := max_lt hb (by rw [hr]; exact EReal.coe_lt_top r)
      have h2 : ⊥ < max b (x (s.rowMajor.symm a)) := lt_max_of_lt_right (by rw [hr]; exact EReal.bot_lt_coe r)
      rw [List.foldl_cons]
      cases l with
      | nil => exact ⟨_, (EReal.coe_toReal h1.ne h2.ne').symm⟩
      | cons a' l => exact ih ⟨a', List.mem_cons_self ..⟩ _ h1
  unfold Host.reduce
  rw [hi]
  refine hf _ ⟨s.rowMajor i, ?_⟩ ⊥ bot_lt_top
  rw [List.mem_filter]
  exact ⟨List.mem_finRange _, by simp [hij]⟩

/-! ## The real formulas: `N` queries, `K` keys, four groups of four heads of 128 entries -/

section Formulas
variable {N K : ℕ} (q : Fin N → Fin 4 → Fin 4 → Fin 128 → ℝ) (k v : Fin K → Fin 4 → Fin 128 → ℝ)
  (d : Fin N → Fin 4 → Fin 4 → Fin 128 → ℝ)

/-- A scaled score. -/
def scr (g h : Fin 4) (r : Fin N) (n : Fin K) : ℝ := (∑ x, k n g x * q r g h x) * sc

/-- A row's sum of exponentials of scores. -/
def den (g h : Fin 4) (r : Fin N) : ℝ := ∑ n, Real.exp (scr q k g h r n)

/-- A probability. -/
def prb (g h : Fin 4) (r : Fin N) (n : Fin K) : ℝ := Real.exp (scr q k g h r n) / den q k g h r

/-- The cotangent of a probability. -/
def dpb (g h : Fin 4) (r : Fin N) (n : Fin K) : ℝ := ∑ x, d r g h x * v n g x

/-- A row's mean of the cotangents of its probabilities. -/
def dlt (g h : Fin 4) (r : Fin N) : ℝ := ∑ n, prb q k g h r n * dpb v d g h r n

/-- The cotangent of a score. -/
def gsc (g h : Fin 4) (r : Fin N) (n : Fin K) : ℝ := prb q k g h r n * (dpb v d g h r n - dlt q k v d g h r)

/-- The gradient of a value. -/
def gval (n : Fin K) (g : Fin 4) (x : Fin 128) : ℝ := ∑ h, ∑ r, d r g h x * prb q k g h r n

/-- The gradient of a key. -/
def gkey (n : Fin K) (g : Fin 4) (x : Fin 128) : ℝ := ∑ r, ∑ h, gsc q k v d g h r n * sc * q r g h x

/-- The gradient of a query. -/
def gqry (r : Fin N) (g h : Fin 4) (x : Fin 128) : ℝ := ∑ n, gsc q k v d g h r n * sc * k n g x

theorem den_pos [NeZero K] (g h : Fin 4) (r : Fin N) : 0 < den q k g h r :=
  Finset.sum_pos (fun n _ => Real.exp_pos _) ⟨0, Finset.mem_univ _⟩

/-- A row's shifted exponentials, summed. -/
theorem sum_shift (M : ℝ) (g h : Fin 4) (r : Fin N) :
    ∑ n, Real.exp (scr q k g h r n - M) = den q k g h r * Real.exp (-M) := by
  unfold den; rw [Finset.sum_mul]
  exact Finset.sum_congr rfl fun n _ => by rw [← Real.exp_add]; rfl

/-- A probability from shifted exponentials. -/
theorem prb_shift (M : ℝ) (g h : Fin 4) (r : Fin N) (n : Fin K) :
    Real.exp (scr q k g h r n - M) / (den q k g h r * Real.exp (-M)) = prb q k g h r n := by
  rw [sub_eq_add_neg, Real.exp_add]; exact mul_div_mul_right _ _ (Real.exp_pos _).ne'

/-- The derivative of the normalisation as `jax` writes it is the probability times the centred cotangent. -/
theorem gsc_shift [NeZero K] (M : ℝ) (g h : Fin 4) (r : Fin N) (n : Fin K) :
    (dpb v d g h r n / (den q k g h r * Real.exp (-M))
      + -∑ n', dpb v d g h r n' * (1 / ((den q k g h r * Real.exp (-M)) * (den q k g h r * Real.exp (-M)))) * Real.exp (scr q k g h r n' - M))
      * Real.exp (scr q k g h r n - M) = gsc q k v d g h r n := by
  set Z := den q k g h r * Real.exp (-M) with hZ
  have hp : ∀ n', prb q k g h r n' = Real.exp (scr q k g h r n' - M) / Z := fun n' => (prb_shift q k M g h r n').symm
  have hZ0 : Z ≠ 0 := (mul_pos (den_pos q k g h r) (Real.exp_pos _)).ne'
  unfold gsc dlt
  simp only [hp]
  have e : ∑ n', Real.exp (scr q k g h r n' - M) / Z * dpb v d g h r n'
      = Z * ∑ n', dpb v d g h r n' * (1 / (Z * Z)) * Real.exp (scr q k g h r n' - M) := by
    rw [Finset.mul_sum]
    refine Finset.sum_congr rfl fun n' _ => ?_
    field_simp
  rw [e]
  field_simp
  ring

end Formulas

end Cert.Attn

end
-- ==== Proof.RefParts.lean ====
/- The reference's result arrays as compositions of the steps of a grouped-query attention and of its derivative,
   once for the context rows (256 queries, 256 keys) and once for the latent rows (8192 queries, 8448 keys). -/
module

public import proofs.«01_k».proof.Proof.Reals
public import proofs.«01_k».proof.Proof.Gen.ReferenceIdeal.Run
public import Idealize.ShloMosaic.Lib.Pointwise

@[expose] public section

noncomputable section

namespace Cert.Attn.Ref

open Cert.ReferenceIdeal Cert.ReferenceIdeal.Gen Idealize.ShloMosaic Idealize.SL.Sem

/-- The scaled scores, per kv head, head of the group, query and key. -/
def sco_c (q : FVec Ideal S256x4x4x128 .f32) (k : FVec Ideal S256x4x128 .f32) : FVec Ideal S4x4x256x256 .f32 :=
  mulf (transpose S4x4x256x256 [0, 3, 2, 1] (Host.dotGeneral dot_S256x4x128_S256x4x4x128_S4x256x256x4_2_3_0_02_1_1 none k q) transposes_S4x256x256x4_S4x4x256x256_0_3_2_1)
    (broadcastInDim S4x4x256x256 ![] bcast_S_S4x4x256x256 (constant S_ .f32 0x3DB504F3#32))

/-- The rows' maxima. -/
def mx_c (s : FVec Ideal S4x4x256x256 .f32) : FVec Ideal S4x4x256 .f32 :=
  Host.reduce FloatOps.maximumf s (constant S_ .f32 0xFF800000#32) reducesTo_S4x4x256x256_S4x4x256_d3 h_S_

/-- The exponentials of the scores, each row shifted by its maximum. -/
def ex_c (s : FVec Ideal S4x4x256x256 .f32) : FVec Ideal S4x4x256x256 .f32 :=
  Host.exp (subf s (broadcastInDim S4x4x256x256 ![0, 1, 2, 3] bcast_S4x4x256x1_S4x4x256x256_0_1_2_3 (broadcastInDim S4x4x256x1 ![0, 1, 2] bcast_S4x4x256_S4x4x256x1_0_1_2
    (maximumf (broadcastInDim S4x4x256 ![] bcast_S_S4x4x256 (constant S_ .f32 0xFF800000#32))
      (mx_c s)))))

/-- The rows' sums of exponentials. -/
def sm_c (e : FVec Ideal S4x4x256x256 .f32) : FVec Ideal S4x4x256x1 .f32 :=
  broadcastInDim S4x4x256x1 ![0, 1, 2] bcast_S4x4x256_S4x4x256x1_0_1_2
    (Host.reduceAdd e (constant S_ .f32 0x00000000#32) reducesTo_S4x4x256x256_S4x4x256_d3 h_S_)

/-- The probabilities. -/
def pr_c (e : FVec Ideal S4x4x256x256 .f32) : FVec Ideal S4x4x256x256 .f32 :=
  Host.divf e (broadcastInDim S4x4x256x256 ![0, 1, 2, 3] bcast_S4x4x256x1_S4x4x256x256_0_1_2_3 (sm_c e))

/-- The cotangent with the head's entries before the heads. -/
def ct_c (d : FVec Ideal S256x4x4x128 .f32) : FVec Ideal S4x128x4x256 .f32 :=
  transpose S4x128x4x256 [1, 3, 2, 0] d transposes_S256x4x4x128_S4x128x4x256_1_3_2_0

/-- The cotangent of the probabilities. -/
def dpr_c (d : FVec Ideal S256x4x4x128 .f32) (v : FVec Ideal S256x4x128 .f32) : FVec Ideal S4x4x256x256 .f32 :=
  Host.dotGeneral dot_S4x128x4x256_S256x4x128_S4x4x256x256_1_2_23_0_0_1 none (ct_c d) v

/-- The gradient of the values. -/
def gv_c (d : FVec Ideal S256x4x4x128 .f32) (p : FVec Ideal S4x4x256x256 .f32) : FVec Ideal S256x512 .f32 :=
  shapeCast S256x512 (transpose S256x4x128 [2, 0, 1] (Host.dotGeneral dot_S4x128x4x256_S4x4x256x256_S4x128x256_23_12_1_3_0_0 none (ct_c d) p)
    transposes_S4x128x256_S256x4x128_2_0_1) shapeCasts_S256x4x128_S256x512

/-- The cotangent of the row sums, one number per row. -/
def row_c (e dp : FVec Ideal S4x4x256x256 .f32) : FVec Ideal S4x4x256 .f32 :=
  Host.reduceAdd (Host.negf (shapeCast S4x4x256x1 (Host.reduceAdd (mulf (mulf dp (broadcastInDim S4x4x256x256 ![0, 1, 2, 3] bcast_S4x4x256x1_S4x4x256x256_0_1_2_3
      (Host.divf (broadcastInDim S4x4x256x1 ![] bcast_S_S4x4x256x1 (constant S_ .f32 0x3F800000#32)) (mulf (sm_c e) (sm_c e))))) e)
    (constant S_ .f32 0x00000000#32) reducesTo_S4x4x256x256_S4x4x256_d3 h_S_) shapeCasts_S4x4x256_S4x4x256x1))
    (constant S_ .f32 0x00000000#32) reducesTo_S4x4x256x1_S4x4x256_d3 h_S_

/-- The cotangent of the products of queries and keys. -/
def gs_c (e dp : FVec Ideal S4x4x256x256 .f32) : FVec Ideal S4x4x256x256 .f32 :=
  mulf (mulf (addf (Host.divf dp (broadcastInDim S4x4x256x256 ![0, 1, 2, 3] bcast_S4x4x256x1_S4x4x256x256_0_1_2_3 (sm_c e)))
      (broadcastInDim S4x4x256x256 ![0, 1, 2] bcast_S4x4x256_S4x4x256x256_0_1_2 (row_c e dp))) e)
    (broadcastInDim S4x4x256x256 ![] bcast_S_S4x4x256x256 (constant S_ .f32 0x3DB504F3#32))

/-- The gradient of the queries. -/
def gq_c (g : FVec Ideal S4x4x256x256 .f32) (k : FVec Ideal S256x4x128 .f32) : FVec Ideal S256x2048 .f32 :=
  shapeCast S256x2048 (transpose S256x4x4x128 [1, 0, 2, 3] (Host.dotGeneral dot_S4x256x256x4_S256x4x128_S4x256x4x128_1_0_23_2_0_1 none
    (transpose S4x256x256x4 [0, 3, 2, 1] g transposes_S4x4x256x256_S4x256x256x4_0_3_2_1) k) transposes_S4x256x4x128_S256x4x4x128_1_0_2_3) shapeCasts_S256x4x4x128_S256x2048

/-- The gradient of the keys. -/
def gk_c (g : FVec Ideal S4x4x256x256 .f32) (q : FVec Ideal S256x4x4x128 .f32) : FVec Ideal S256x512 .f32 :=
  shapeCast S256x512 (transpose S256x4x128 [1, 0, 2] (Host.dotGeneral dot_S4x256x256x4_S256x4x4x128_S4x256x128_23_02_1_3_0_1 none
    (transpose S4x256x256x4 [0, 3, 2, 1] g transposes_S4x4x256x256_S4x256x256x4_0_3_2_1) q) transposes_S4x256x128_S256x4x128_1_0_2) shapeCasts_S256x4x128_S256x512

/-- The scaled scores, per kv head, head of the group, query and key. -/
def sco_l (q : FVec Ideal S8192x4x4x128 .f32) (k : FVec Ideal S8448x4x128 .f32) : FVec Ideal S4x4x8192x8448 .f32 :=
  mulf (transpose S4x4x8192x8448 [0, 3, 2, 1] (Host.dotGeneral dot_S8448x4x128_S8192x4x4x128_S4x8448x8192x4_2_3_0_02_1_1 none k q) transposes_S4x8448x8192x4_S4x4x8192x8448_0_3_2_1)
    (broadcastInDim S4x4x8192x8448 ![] bcast_S_S4x4x8192x8448 (constant S_ .f32 0x3DB504F3#32))

/-- The rows' maxima. -/
def mx_l (s : FVec Ideal S4x4x8192x8448 .f32) : FVec Ideal S4x4x8192 .f32 :=
  Host.reduce FloatOps.maximumf s (constant S_ .f32 0xFF800000#32) reducesTo_S4x4x8192x8448_S4x4x8192_d3 h_S_

/-- The exponentials of the scores, each row shifted by its maximum. -/
def ex_l (s : FVec Ideal S4x4x8192x8448 .f32) : FVec Ideal S4x4x8192x8448 .f32 :=
  Host.exp (subf s (broadcastInDim S4x4x8192x8448 ![0, 1, 2, 3] bcast_S4x4x8192x1_S4x4x8192x8448_0_1_2_3 (broadcastInDim S4x4x8192x1 ![0, 1, 2] bcast_S4x4x8192_S4x4x8192x1_0_1_2
    (maximumf (broadcastInDim S4x4x8192 ![] bcast_S_S4x4x8192 (constant S_ .f32 0xFF800000#32))
      (mx_l s)))))

/-- The rows' sums of exponentials. -/
def sm_l (e : FVec Ideal S4x4x8192x8448 .f32) : FVec Ideal S4x4x8192x1 .f32 :=
  broadcastInDim S4x4x8192x1 ![0, 1, 2] bcast_S4x4x8192_S4x4x8192x1_0_1_2
    (Host.reduceAdd e (constant S_ .f32 0x00000000#32) reducesTo_S4x4x8192x8448_S4x4x8192_d3 h_S_)

/-- The probabilities. -/
def pr_l (e : FVec Ideal S4x4x8192x8448 .f32) : FVec Ideal S4x4x8192x8448 .f32 :=
  Host.divf e (broadcastInDim S4x4x8192x8448 ![0, 1, 2, 3] bcast_S4x4x8192x1_S4x4x8192x8448_0_1_2_3 (sm_l e))

/-- The cotangent with the head's entries before the heads. -/
def ct_l (d : FVec Ideal S8192x4x4x128 .f32) : FVec Ideal S4x128x4x8192 .f32 :=
  transpose S4x128x4x8192 [1, 3, 2, 0] d transposes_S8192x4x4x128_S4x128x4x8192_1_3_2_0

/-- The cotangent of the probabilities. -/
def dpr_l (d : FVec Ideal S8192x4x4x128 .f32) (v : FVec Ideal S8448x4x128 .f32) : FVec Ideal S4x4x8192x8448 .f32 :=
  Host.dotGeneral dot_S4x128x4x8192_S8448x4x128_S4x4x8192x8448_1_2_23_0_0_1 none (ct_l d) v

/-- The gradient of the values. -/
def gv_l (d : FVec Ideal S8192x4x4x128 .f32) (p : FVec Ideal S4x4x8192x8448 .f32) : FVec Ideal S8448x512 .f32 :=
  shapeCast S8448x512 (transpose S8448x4x128 [2, 0, 1] (Host.dotGeneral dot_S4x128x4x8192_S4x4x8192x8448_S4x128x8448_23_12_1_3_0_0 none (ct_l d) p)
    transposes_S4x128x8448_S8448x4x128_2_0_1) shapeCasts_S8448x4x128_S8448x512

/-- The cotangent of the row sums, one number per row. -/
def row_l (e dp : FVec Ideal S4x4x8192x8448 .f32) : FVec Ideal S4x4x8192 .f32 :=
  Host.reduceAdd (Host.negf (shapeCast S4x4x8192x1 (Host.reduceAdd (mulf (mulf dp (broadcastInDim S4x4x8192x8448 ![0, 1, 2, 3] bcast_S4x4x8192x1_S4x4x8192x8448_0_1_2_3
      (Host.divf (broadcastInDim S4x4x8192x1 ![] bcast_S_S4x4x8192x1 (constant S_ .f32 0x3F800000#32)) (mulf (sm_l e) (sm_l e))))) e)
    (constant S_ .f32 0x00000000#32) reducesTo_S4x4x8192x8448_S4x4x8192_d3 h_S_) shapeCasts_S4x4x8192_S4x4x8192x1))
    (constant S_ .f32 0x00000000#32) reducesTo_S4x4x8192x1_S4x4x8192_d3 h_S_

/-- The cotangent of the products of queries and keys. -/
def gs_l (e dp : FVec Ideal S4x4x8192x8448 .f32) : FVec Ideal S4x4x8192x8448 .f32 :=
  mulf (mulf (addf (Host.divf dp (broadcastInDim S4x4x8192x8448 ![0, 1, 2, 3] bcast_S4x4x8192x1_S4x4x8192x8448_0_1_2_3 (sm_l e)))
      (broadcastInDim S4x4x8192x8448 ![0, 1, 2] bcast_S4x4x8192_S4x4x8192x8448_0_1_2 (row_l e dp))) e)
    (broadcastInDim S4x4x8192x8448 ![] bcast_S_S4x4x8192x8448 (constant S_ .f32 0x3DB504F3#32))

/-- The gradient of the queries. -/
def gq_l (g : FVec Ideal S4x4x8192x8448 .f32) (k : FVec Ideal S8448x4x128 .f32) : FVec Ideal S8192x2048 .f32 :=
  shapeCast S8192x2048 (transpose S8192x4x4x128 [1, 0, 2, 3] (Host.dotGeneral dot_S4x8448x8192x4_S8448x4x128_S4x8192x4x128_1_0_23_2_0_1 none
    (transpose S4x8448x8192x4 [0, 3, 2, 1] g transposes_S4x4x8192x8448_S4x8448x8192x4_0_3_2_1) k) transposes_S4x8192x4x128_S8192x4x4x128_1_0_2_3) shapeCasts_S8192x4x4x128_S8192x2048

/-- The gradient of the keys. -/
def gk_l (g : FVec Ideal S4x4x8192x8448 .f32) (q : FVec Ideal S8192x4x4x128 .f32) : FVec Ideal S8448x512 .f32 :=
  shapeCast S8448x512 (transpose S8448x4x128 [1, 0, 2] (Host.dotGeneral dot_S4x8448x8192x4_S8192x4x4x128_S4x8448x128_23_02_1_3_0_1 none
    (transpose S4x8448x8192x4 [0, 3, 2, 1] g transposes_S4x4x8192x8448_S4x8448x8192x4_0_3_2_1) q) transposes_S4x8448x128_S8448x4x128_1_0_2) shapeCasts_S8448x4x128_S8448x512

/-- The values' columns of the packed projection. -/
def vcols (x : FVec Ideal S8448x5120 .f32) : FVec Ideal S8448x512 .f32 :=
  extractStridedSlice S8448x512 ![0, 4608] x slices_S8448x5120_S8448x512_0_4608

/-- The context rows of an array of queries, by head. -/
def qC (x : FVec Ideal S8448x2048 .f32) : FVec Ideal S256x4x4x128 .f32 :=
  shapeCast S256x4x4x128 (extractStridedSlice S256x2048 ![0, 0] x slices_S8448x2048_S256x2048_0_0) shapeCasts_S256x2048_S256x4x4x128

/-- The latent rows of an array of queries, by head. -/
def qL (x : FVec Ideal S8448x2048 .f32) : FVec Ideal S8192x4x4x128 .f32 :=
  shapeCast S8192x4x4x128 (extractStridedSlice S8192x2048 ![256, 0] x slices_S8448x2048_S8192x2048_256_0) shapeCasts_S8192x2048_S8192x4x4x128

/-- The context rows of an array of keys or values, by head. -/
def kC (x : FVec Ideal S8448x512 .f32) : FVec Ideal S256x4x128 .f32 :=
  shapeCast S256x4x128 (extractStridedSlice S256x512 ![0, 0] x slices_S8448x512_S256x512_0_0) shapeCasts_S256x512_S256x4x128

/-- All rows of an array of keys or values, by head. -/
def kL (x : FVec Ideal S8448x512 .f32) : FVec Ideal S8448x4x128 .f32 :=
  shapeCast S8448x4x128 x shapeCasts_S8448x512_S8448x4x128

/-- The gradient of the values, over all rows. -/
def refV (q : FVec Ideal S8448x2048 .f32) (k : FVec Ideal S8448x512 .f32) (w : FVec Ideal S8448x5120 .f32) (d : FVec Ideal S8448x2048 .f32) :
    FVec Ideal S8448x512 .f32 :=
  addf (gv_l (qL d) (pr_l (ex_l (sco_l (qL q) (kL k)))))
    (pad S8448x512 ![0, 0] ![8192, 0] ![0, 0] (gv_c (qC d) (pr_c (ex_c (sco_c (qC q) (kC k))))) (constant S_ .f32 0x00000000#32)
      pads_S256x512_S8448x512_081920_000 h_S_)

/-- The gradient of the keys, over all rows. -/
def refK (q : FVec Ideal S8448x2048 .f32) (k : FVec Ideal S8448x512 .f32) (w : FVec Ideal S8448x5120 .f32) (d : FVec Ideal S8448x2048 .f32) :
    FVec Ideal S8448x512 .f32 :=
  addf (gk_l (gs_l (ex_l (sco_l (qL q) (kL k))) (dpr_l (qL d) (kL (vcols w)))) (qL q))
    (pad S8448x512 ![0, 0] ![8192, 0] ![0, 0] (gk_c (gs_c (ex_c (sco_c (qC q) (kC k))) (dpr_c (qC d) (kC (vcols w)))) (qC q))
      (constant S_ .f32 0x00000000#32) pads_S256x512_S8448x512_081920_000 h_S_)

/-- The gradient of the queries, over all rows. -/
def refQ (q : FVec Ideal S8448x2048 .f32) (k : FVec Ideal S8448x512 .f32) (w : FVec Ideal S8448x5120 .f32) (d : FVec Ideal S8448x2048 .f32) :
    FVec Ideal S8448x2048 .f32 :=
  addf (pad S8448x2048 ![256, 0] ![0, 0] ![0, 0] (gq_l (gs_l (ex_l (sco_l (qL q) (kL k))) (dpr_l (qL d) (kL (vcols w)))) (kL k))
      (constant S_ .f32 0x00000000#32) pads_S8192x2048_S8448x2048_25600_000 h_S_)
    (pad S8448x2048 ![0, 0] ![8192, 0] ![0, 0] (gq_c (gs_c (ex_c (sco_c (qC q) (kC k))) (dpr_c (qC d) (kC (vcols w)))) (kC k))
      (constant S_ .f32 0x00000000#32) pads_S256x2048_S8448x2048_081920_000 h_S_)

variable (m : (ℓ : Loc nD τ sig) → Buf (Elt Ideal) ℓ) (c : Dev nD)

theorem out2_eq : Value.res_out2 m c = refV (m ((c.tc : Thread nD τ).loc main_arg0)) (m ((c.tc : Thread nD τ).loc main_arg1))
    (m ((c.tc : Thread nD τ).loc main_arg2)) (m ((c.tc : Thread nD τ).loc main_arg3)) := by
  with_reducible unfold Value.res_out2
  rfl

theorem out1_eq : Value.res_out1 m c = refK (m ((c.tc : Thread nD τ).loc main_arg0)) (m ((c.tc : Thread nD τ).loc main_arg1))
    (m ((c.tc : Thread nD τ).loc main_arg2)) (m ((c.tc : Thread nD τ).loc main_arg3)) := by
  with_reducible unfold Value.res_out1
  rfl

theorem out0_eq : Value.res_out0 m c = refQ (m ((c.tc : Thread nD τ).loc main_arg0)) (m ((c.tc : Thread nD τ).loc main_arg1))
    (m ((c.tc : Thread nD τ).loc main_arg2)) (m ((c.tc : Thread nD τ).loc main_arg3)) := by
  with_reducible unfold Value.res_out0
  rfl

end Cert.Attn.Ref

end
-- ==== Proof.RefSteps.lean ====
/- The steps of the reference on finite arrays: each step's array holds the real formula's number. -/
module

public import proofs.«01_k».proof.Proof.RefParts
public import proofs.«01_k».proof.Proof.Reals

@[expose] public section

noncomputable section

namespace Cert.Attn.Ref

open Cert.ReferenceIdeal Cert.ReferenceIdeal.Gen Idealize.ShloMosaic Idealize.SL.Sem

section Part_c
variable {Q : FVec Ideal S256x4x4x128 .f32} {K V : FVec Ideal S256x4x128 .f32} {D : FVec Ideal S256x4x4x128 .f32}
  {q d : Fin 256 → Fin 4 → Fin 4 → Fin 128 → ℝ} {k v : Fin 256 → Fin 4 → Fin 128 → ℝ}

theorem sco_c_real (hq : ∀ r g h x, Q (ix4 r g h x) = (q r g h x : EReal)) (hk : ∀ n g x, K (ix3 n g x) = (k n g x : EReal))
    (g h : Fin 4) (r : Fin 256) (n : Fin 256) : sco_c Q K (ix4 g h r n) = (scr q k g h r n : EReal) := by
  pointwise [sco_c]
  simp only [hq, hk, word_sc, ← EReal.coe_mul, sum_real]
  rfl

theorem drop_c (g h : Fin 4) (r : Fin 256) (n : Fin 256) : reducesTo_S4x4x256x256_S4x4x256_d3.drop (ix4 g h r n) = ix3 g h r := by
  funext b
  fin_cases b
  · exact Fin.ext (Shape.ReducesTo.drop_apply_val_of_eq reducesTo_S4x4x256x256_S4x4x256_d3 (ix4 g h r n) 0 0)
  · exact Fin.ext (Shape.ReducesTo.drop_apply_val_of_eq reducesTo_S4x4x256x256_S4x4x256_d3 (ix4 g h r n) 1 1)
  · exact Fin.ext (Shape.ReducesTo.drop_apply_val_of_eq reducesTo_S4x4x256x256_S4x4x256_d3 (ix4 g h r n) 2 2)

theorem mx_c_real (S : FVec Ideal S4x4x256x256 .f32) (s : Fin 4 → Fin 4 → Fin 256 → Fin 256 → ℝ)
    (hs : ∀ g h r n, S (ix4 g h r n) = (s g h r n : EReal)) (g h : Fin 4) (r : Fin 256) : ∃ M : ℝ, mx_c S (ix3 g h r) = (M : EReal) := by
  refine reduce_max_real S (constant S_ .f32 0xFF800000#32) reducesTo_S4x4x256x256_S4x4x256_d3 h_S_ (ix3 g h r) (fun _ => word_bot) (fun i => ?_)
    (ix4 g h r 0) (drop_c ..)
  rw [eq_ix4 i]; exact ⟨_, hs ..⟩

theorem shift_c_at (R : FVec Ideal S4x4x256 .f32) (g h : Fin 4) (r : Fin 256) (n : Fin 256) :
    broadcastInDim S4x4x256x256 ![0, 1, 2, 3] bcast_S4x4x256x1_S4x4x256x256_0_1_2_3 (broadcastInDim S4x4x256x1 ![0, 1, 2] bcast_S4x4x256_S4x4x256x1_0_1_2 R)
      (ix4 g h r n) = R (ix3 g h r) := by
  pointwise

theorem floor_c_at (R : FVec Ideal S4x4x256 .f32) (g h : Fin 4) (r : Fin 256) :
    maximumf (broadcastInDim S4x4x256 ![] bcast_S_S4x4x256 (constant S_ .f32 0xFF800000#32)) R (ix3 g h r)
      = max (Ideal.ofBits .f32 0xFF800000#32) (R (ix3 g h r)) := by
  pointwise

theorem exp_c_at (S M : FVec Ideal S4x4x256x256 .f32) (i : S4x4x256x256.Idx) : Host.exp (subf S M) i = Ideal.exp (S i - M i) := rfl

theorem ex_c_real (S : FVec Ideal S4x4x256x256 .f32) (s : Fin 4 → Fin 4 → Fin 256 → Fin 256 → ℝ)
    (hs : ∀ g h r n, S (ix4 g h r n) = (s g h r n : EReal)) :
    ∃ M : Fin 4 → Fin 4 → Fin 256 → ℝ, ∀ g h r n, ex_c S (ix4 g h r n) = (Real.exp (s g h r n - M g h r) : EReal) := by
  have hM := mx_c_real S s hs
  choose M hM using hM
  refine ⟨M, fun g h r n => ?_⟩
  unfold ex_c
  refine (exp_c_at ..).trans ?_
  rw [shift_c_at, floor_c_at, hM, hs, word_bot, max_eq_right bot_le, ← EReal.coe_sub, Ideal.exp_coe]

theorem sm_c_at (E : FVec Ideal S4x4x256x256 .f32) (g h : Fin 4) (r : Fin 256) :
    sm_c E (ix4 g h r 0) = ∑ n, E (ix4 g h r n) := by
  pointwise [sm_c]

theorem sm_c_real {E : FVec Ideal S4x4x256x256 .f32} {M : Fin 4 → Fin 4 → Fin 256 → ℝ}
    (he : ∀ g h r n, E (ix4 g h r n) = (Real.exp (scr q k g h r n - M g h r) : EReal)) (g h : Fin 4) (r : Fin 256) :
    sm_c E (ix4 g h r 0) = (den q k g h r * Real.exp (-M g h r) : ℝ) := by
  rw [sm_c_at, Finset.sum_congr rfl fun n _ => he g h r n, sum_real, sum_shift]

theorem den_c_ne (M : ℝ) (g h : Fin 4) (r : Fin 256) : den q k g h r * Real.exp (-M) ≠ 0 :=
  (mul_pos (den_pos q k g h r) (Real.exp_pos _)).ne'

theorem pr_c_real {E : FVec Ideal S4x4x256x256 .f32} {M : Fin 4 → Fin 4 → Fin 256 → ℝ}
    (he : ∀ g h r n, E (ix4 g h r n) = (Real.exp (scr q k g h r n - M g h r) : EReal)) (g h : Fin 4) (r : Fin 256) (n : Fin 256) :
    pr_c E (ix4 g h r n) = (prb q k g h r n : EReal) := by
  pointwise [pr_c]
  rw [sm_c_real he, he, div_real _ (den_c_ne _ g h r), prb_shift]

theorem dpr_c_real (hd : ∀ r g h x, D (ix4 r g h x) = (d r g h x : EReal)) (hv : ∀ n g x, V (ix3 n g x) = (v n g x : EReal))
    (g h : Fin 4) (r : Fin 256) (n : Fin 256) : dpr_c D V (ix4 g h r n) = (dpb v d g h r n : EReal) := by
  pointwise [dpr_c, ct_c]
  simp only [hd, hv, ← EReal.coe_mul, sum_real]
  rfl

theorem gv_c_real {P : FVec Ideal S4x4x256x256 .f32} (hd : ∀ r g h x, D (ix4 r g h x) = (d r g h x : EReal))
    (hp : ∀ g h r n, P (ix4 g h r n) = (prb q k g h r n : EReal)) (n : Fin 256) (c : Fin 512) :
    gv_c D P (ix2 n c) = (gval q k d n ⟨c / 128, by omega⟩ ⟨c % 128, by omega⟩ : EReal) := by
  pointwise [gv_c, ct_c]
  simp only [hd, hp, ← EReal.coe_mul, sum_real]
  rfl

theorem gs_c_real {E DP : FVec Ideal S4x4x256x256 .f32} {M : Fin 4 → Fin 4 → Fin 256 → ℝ}
    (he : ∀ g h r n, E (ix4 g h r n) = (Real.exp (scr q k g h r n - M g h r) : EReal))
    (hp : ∀ g h r n, DP (ix4 g h r n) = (dpb v d g h r n : EReal)) (g h : Fin 4) (r : Fin 256) (n : Fin 256) :
    gs_c E DP (ix4 g h r n) = (gsc q k v d g h r n * sc : ℝ) := by
  have hr : row_c E DP (ix3 g h r) = (-∑ n', dpb v d g h r n' * (1 / ((den q k g h r * Real.exp (-M g h r)) * (den q k g h r * Real.exp (-M g h r))))
      * Real.exp (scr q k g h r n' - M g h r) : ℝ) := by
    pointwise [row_c]
    simp only [Finset.univ_unique, Finset.sum_singleton, sm_c_real he, he, hp, ← EReal.coe_mul]
    rw [← EReal.coe_one, div_real _ (mul_ne_zero (den_c_ne _ g h r) (den_c_ne _ g h r))]
    simp only [← EReal.coe_mul, sum_real, ← EReal.coe_neg]
  pointwise [gs_c]
  rw [sm_c_real he, hr, hp, he, word_sc, div_real _ (den_c_ne _ g h r), ← EReal.coe_add, ← EReal.coe_mul, ← EReal.coe_mul, gsc_shift]

theorem gq_c_real {G : FVec Ideal S4x4x256x256 .f32} (hg : ∀ g h r n, G (ix4 g h r n) = (gsc q k v d g h r n * sc : ℝ))
    (hk : ∀ n g x, K (ix3 n g x) = (k n g x : EReal)) (r : Fin 256) (c : Fin 2048) :
    gq_c G K (ix2 r c) = (gqry q k v d r ⟨c / 512, by omega⟩ ⟨c / 128 % 4, by omega⟩ ⟨c % 128, by omega⟩ : EReal) := by
  pointwise [gq_c]
  simp only [hg, hk, ← EReal.coe_mul, sum_real]
  rfl

theorem gk_c_real {G : FVec Ideal S4x4x256x256 .f32} (hg : ∀ g h r n, G (ix4 g h r n) = (gsc q k v d g h r n * sc : ℝ))
    (hq : ∀ r g h x, Q (ix4 r g h x) = (q r g h x : EReal)) (n : Fin 256) (c : Fin 512) :
    gk_c G Q (ix2 n c) = (gkey q k v d n ⟨c / 128, by omega⟩ ⟨c % 128, by omega⟩ : EReal) := by
  pointwise [gk_c]
  simp only [hg, hq, ← EReal.coe_mul, sum_real]
  rfl

end Part_c

section Part_l
variable {Q : FVec Ideal S8192x4x4x128 .f32} {K V : FVec Ideal S8448x4x128 .f32} {D : FVec Ideal S8192x4x4x128 .f32}
  {q d : Fin 8192 → Fin 4 → Fin 4 → Fin 128 → ℝ} {k v : Fin 8448 → Fin 4 → Fin 128 → ℝ}

theorem sco_l_real (hq : ∀ r g h x, Q (ix4 r g h x) = (q r g h x : EReal)) (hk : ∀ n g x, K (ix3 n g x) = (k n g x : EReal))
    (g h : Fin 4) (r : Fin 8192) (n : Fin 8448) : sco_l Q K (ix4 g h r n) = (scr q k g h r n : EReal) := by
  pointwise [sco_l]
  simp only [hq, hk, word_sc, ← EReal.coe_mul, sum_real]
  rfl

theorem drop_l (g h : Fin 4) (r : Fin 8192) (n : Fin 8448) : reducesTo_S4x4x8192x8448_S4x4x8192_d3.drop (ix4 g h r n) = ix3 g h r := by
  funext b
  fin_cases b
  · exact Fin.ext (Shape.ReducesTo.drop_apply_val_of_eq reducesTo_S4x4x8192x8448_S4x4x8192_d3 (ix4 g h r n) 0 0)
  · exact Fin.ext (Shape.ReducesTo.drop_apply_val_of_eq reducesTo_S4x4x8192x8448_S4x4x8192_d3 (ix4 g h r n) 1 1)
  · exact Fin.ext (Shape.ReducesTo.drop_apply_val_of_eq reducesTo_S4x4x8192x8448_S4x4x8192_d3 (ix4 g h r n) 2 2)

theorem mx_l_real (S : FVec Ideal S4x4x8192x8448 .f32) (s : Fin 4 → Fin 4 → Fin 8192 → Fin 8448 → ℝ)
    (hs : ∀ g h r n, S (ix4 g h r n) = (s g h r n : EReal)) (g h : Fin 4) (r : Fin 8192) : ∃ M : ℝ, mx_l S (ix3 g h r) = (M : EReal) := by
  refine reduce_max_real S (constant S_ .f32 0xFF800000#32) reducesTo_S4x4x8192x8448_S4x4x8192_d3 h_S_ (ix3 g h r) (fun _ => word_bot) (fun i => ?_)
    (ix4 g h r 0) (drop_l ..)
  rw [eq_ix4 i]; exact ⟨_, hs ..⟩

theorem shift_l_at (R : FVec Ideal S4x4x8192 .f32) (g h : Fin 4) (r : Fin 8192) (n : Fin 8448) :
    broadcastInDim S4x4x8192x8448 ![0, 1, 2, 3] bcast_S4x4x8192x1_S4x4x8192x8448_0_1_2_3 (broadcastInDim S4x4x8192x1 ![0, 1, 2] bcast_S4x4x8192_S4x4x8192x1_0_1_2 R)
      (ix4 g h r n) = R (ix3 g h r) := by
  pointwise

theorem floor_l_at (R : FVec Ideal S4x4x8192 .f32) (g h : Fin 4) (r : Fin 8192) :
    maximumf (broadcastInDim S4x4x8192 ![] bcast_S_S4x4x8192 (constant S_ .f32 0xFF800000#32)) R (ix3 g h r)
      = max (Ideal.ofBits .f32 0xFF800000#32) (R (ix3 g h r)) := by
  pointwise

theorem exp_l_at (S M : FVec Ideal S4x4x8192x8448 .f32) (i : S4x4x8192x8448.Idx) : Host.exp (subf S M) i = Ideal.exp (S i - M i) := rfl

theorem ex_l_real (S : FVec Ideal S4x4x8192x8448 .f32) (s : Fin 4 → Fin 4 → Fin 8192 → Fin 8448 → ℝ)
    (hs : ∀ g h r n, S (ix4 g h r n) = (s g h r n : EReal)) :
    ∃ M : Fin 4 → Fin 4 → Fin 8192 → ℝ, ∀ g h r n, ex_l S (ix4 g h r n) = (Real.exp (s g h r n - M g h r) : EReal) := by
  have hM := mx_l_real S s hs
  choose M hM using hM
  refine ⟨M, fun g h r n => ?_⟩
  unfold ex_l
  refine (exp_l_at ..).trans ?_
  rw [shift_l_at, floor_l_at, hM, hs, word_bot, max_eq_right bot_le, ← EReal.coe_sub, Ideal.exp_coe]

theorem sm_l_at (E : FVec Ideal S4x4x8192x8448 .f32) (g h : Fin 4) (r : Fin 8192) :
    sm_l E (ix4 g h r 0) = ∑ n, E (ix4 g h r n) := by
  pointwise [sm_l]

theorem sm_l_real {E : FVec Ideal S4x4x8192x8448 .f32} {M : Fin 4 → Fin 4 → Fin 8192 → ℝ}
    (he : ∀ g h r n, E (ix4 g h r n) = (Real.exp (scr q k g h r n - M g h r) : EReal)) (g h : Fin 4) (r : Fin 8192) :
    sm_l E (ix4 g h r 0) = (den q k g h r * Real.exp (-M g h r) : ℝ) := by
  rw [sm_l_at, Finset.sum_congr rfl fun n _ => he g h r n, sum_real, sum_shift]

theorem den_l_ne (M : ℝ) (g h : Fin 4) (r : Fin 8192) : den q k g h r * Real.exp (-M) ≠ 0 :=
  (mul_pos (den_pos q k g h r) (Real.exp_pos _)).ne'

theorem pr_l_real {E : FVec Ideal S4x4x8192x8448 .f32} {M : Fin 4 → Fin 4 → Fin 8192 → ℝ}
    (he : ∀ g h r n, E (ix4 g h r n) = (Real.exp (scr q k g h r n - M g h r) : EReal)) (g h : Fin 4) (r : Fin 8192) (n : Fin 8448) :
    pr_l E (ix4 g h r n) = (prb q k g h r n : EReal) := by
  pointwise [pr_l]
  rw [sm_l_real he, he, div_real _ (den_l_ne _ g h r), prb_shift]

theorem dpr_l_real (hd : ∀ r g h x, D (ix4 r g h x) = (d r g h x : EReal)) (hv : ∀ n g x, V (ix3 n g x) = (v n g x : EReal))
    (g h : Fin 4) (r : Fin 8192) (n : Fin 8448) : dpr_l D V (ix4 g h r n) = (dpb v d g h r n : EReal) := by
  pointwise [dpr_l, ct_l]
  simp only [hd, hv, ← EReal.coe_mul, sum_real]
  rfl

theorem gv_l_real {P : FVec Ideal S4x4x8192x8448 .f32} (hd : ∀ r g h x, D (ix4 r g h x) = (d r g h x : EReal))
    (hp : ∀ g h r n, P (ix4 g h r n) = (prb q k g h r n : EReal)) (n : Fin 8448) (c : Fin 512) :
    gv_l D P (ix2 n c) = (gval q k d n ⟨c / 128, by omega⟩ ⟨c % 128, by omega⟩ : EReal) := by
  pointwise [gv_l, ct_l]
  simp only [hd, hp, ← EReal.coe_mul, sum_real]
  rfl

theorem gs_l_real {E DP : FVec Ideal S4x4x8192x8448 .f32} {M : Fin 4 → Fin 4 → Fin 8192 → ℝ}
    (he : ∀ g h r n, E (ix4 g h r n) = (Real.exp (scr q k g h r n - M g h r) : EReal))
    (hp : ∀ g h r n, DP (ix4 g h r n) = (dpb v d g h r n : EReal)) (g h : Fin 4) (r : Fin 8192) (n : Fin 8448) :
    gs_l E DP (ix4 g h r n) = (gsc q k v d g h r n * sc : ℝ) := by
  have hr : row_l E DP (ix3 g h r) = (-∑ n', dpb v d g h r n' * (1 / ((den q k g h r * Real.exp (-M g h r)) * (den q k g h r * Real.exp (-M g h r))))
      * Real.exp (scr q k g h r n' - M g h r) : ℝ) := by
    pointwise [row_l]
    simp only [Finset.univ_unique, Finset.sum_singleton, sm_l_real he, he, hp, ← EReal.coe_mul]
    rw [← EReal.coe_one, div_real _ (mul_ne_zero (den_l_ne _ g h r) (den_l_ne _ g h r))]
    simp only [← EReal.coe_mul, sum_real, ← EReal.coe_neg]
  pointwise [gs_l]
  rw [sm_l_real he, hr, hp, he, word_sc, div_real _ (den_l_ne _ g h r), ← EReal.coe_add, ← EReal.coe_mul, ← EReal.coe_mul, gsc_shift]

theorem gq_l_real {G : FVec Ideal S4x4x8192x8448 .f32} (hg : ∀ g h r n, G (ix4 g h r n) = (gsc q k v d g h r n * sc : ℝ))
    (hk : ∀ n g x, K (ix3 n g x) = (k n g x : EReal)) (r : Fin 8192) (c : Fin 2048) :
    gq_l G K (ix2 r c) = (gqry q k v d r ⟨c / 512, by omega⟩ ⟨c / 128 % 4, by omega⟩ ⟨c % 128, by omega⟩ : EReal) := by
  pointwise [gq_l]
  simp only [hg, hk, ← EReal.coe_mul, sum_real]
  rfl

theorem gk_l_real {G : FVec Ideal S4x4x8192x8448 .f32} (hg : ∀ g h r n, G (ix4 g h r n) = (gsc q k v d g h r n * sc : ℝ))
    (hq : ∀ r g h x, Q (ix4 r g h x) = (q r g h x : EReal)) (n : Fin 8448) (c : Fin 512) :
    gk_l G Q (ix2 n c) = (gkey q k v d n ⟨c / 128, by omega⟩ ⟨c % 128, by omega⟩ : EReal) := by
  pointwise [gk_l]
  simp only [hg, hq, ← EReal.coe_mul, sum_real]
  rfl

end Part_l

end Cert.Attn.Ref

end
-- ==== Proof.HostTerms.lean ====
/- The arrays the host prepares for the gradient kernel, as terms over the arguments. -/
module

public import proofs.«01_k».proof.Proof.RefSteps
public import proofs.«01_k».proof.Proof.Gen.KernelIdeal.Frame.Runs
public import Idealize.ShloMosaic.Lib.StableHlo.RunRead

@[expose] public section

set_option maxRecDepth 65536

noncomputable section

namespace Cert.Attn.Dev

open Cert.KernelIdeal Cert.KernelIdeal.Gen Idealize.ShloMosaic Idealize.ShloMosaic.TcCoe Idealize.SL.Sem

/-- The queries times the scale, over log 2. -/
def qsH (q : FVec Ideal S8448x2048 .f32) : FVec Ideal S8448x2048 .bf16 :=
  truncf .bf16 (Host.divf (mulf q (broadcastInDim S8448x2048 ![] bcast_S_S8448x2048 (constant S_ .f32 0x3DB504F3#32)))
    (broadcastInDim S8448x2048 ![] bcast_S_S8448x2048 (Host.log (constant S_ .f32 0x40000000#32)))) bitsLt_bf16_f32

/-- The keys of each group by chunks of 256 rows, transposed. -/
def ktH (k : FVec Ideal S8448x512 .f32) : FVec Ideal S4x33x128x256 .bf16 :=
  transpose S4x33x128x256 [2, 0, 3, 1] (shapeCast S33x256x4x128 (truncf .bf16 k bitsLt_bf16_f32) shapeCasts_S8448x512_S33x256x4x128) transposes_S33x256x4x128_S4x33x128x256_2_0_3_1

/-- The logarithms of the row sums, by row blocks, over log 2. -/
def lsH (a : FVec Ideal S4x4x256 .f32) (b : FVec Ideal S4x4x8192 .f32) : FVec Ideal S4x33x4x256 .f32 :=
  transpose S4x33x4x256 [0, 2, 1, 3] (shapeCast S4x4x33x256 (Host.divf (concatenate S4x4x8448 2 [⟨S4x4x256, a⟩, ⟨S4x4x8192, b⟩] concatenates_S4x4x256_S4x4x8192_S4x4x8448_d2)
    (broadcastInDim S4x4x8448 ![] bcast_S_S4x4x8448 (Host.log (constant S_ .f32 0x40000000#32)))) shapeCasts_S4x4x8448_S4x4x33x256) transposes_S4x4x33x256_S4x33x4x256_0_2_1_3

/-- The row sums of the products of the attention's output and its cotangent, by row blocks. -/
def dlH (d : FVec Ideal S8448x2048 .f32) (a : FVec Ideal S256x2048 .f32) (b : FVec Ideal S8192x2048 .f32) : FVec Ideal S4x33x4x256 .f32 :=
  transpose S4x33x4x256 [2, 0, 3, 1] (shapeCast S33x256x4x4 (Host.reduceAdd (shapeCast S8448x4x4x128 (mulf d (concatenate S8448x2048 0 [⟨S256x2048, a⟩, ⟨S8192x2048, b⟩] concatenates_S256x2048_S8192x2048_S8448x2048_d0)) shapeCasts_S8448x2048_S8448x4x4x128)
    (constant S_ .f32 0x00000000#32) reducesTo_S8448x4x4x128_S8448x4x4_d3 h_S_) shapeCasts_S8448x4x4_S33x256x4x4) transposes_S33x256x4x4_S4x33x4x256_2_0_3_1

/-- The logarithm of a row's sum of exponentials of scores. -/
def lse_c (s : FVec Ideal S4x4x256x256 .f32) : FVec Ideal S4x4x256 .f32 :=
  addf (Ref.mx_c s) (Host.log (Host.reduceAdd (Host.exp (subf s (broadcastInDim S4x4x256x256 ![0, 1, 2, 3] bcast_S4x4x256x1_S4x4x256x256_0_1_2_3
    (broadcastInDim S4x4x256x1 ![0, 1, 2] bcast_S4x4x256_S4x4x256x1_0_1_2 (Ref.mx_c s))))) (constant S_ .f32 0x00000000#32) reducesTo_S4x4x256x256_S4x4x256_d3 h_S_))

/-- The attention's output from its probabilities and its values. -/
def at_c (v : FVec Ideal S256x4x128 .f32) (p : FVec Ideal S4x4x256x256 .f32) : FVec Ideal S256x2048 .f32 :=
  shapeCast S256x2048 (transpose S256x4x4x128 [3, 0, 2, 1] (Host.dotGeneral dot_S256x4x128_S4x4x256x256_S4x128x4x256_0_3_2_12_1_0 none v p) transposes_S4x128x4x256_S256x4x4x128_3_0_2_1) shapeCasts_S256x4x4x128_S256x2048

/-- The logarithm of a row's sum of exponentials of scores. -/
def lse_l (s : FVec Ideal S4x4x8192x8448 .f32) : FVec Ideal S4x4x8192 .f32 :=
  addf (Ref.mx_l s) (Host.log (Host.reduceAdd (Host.exp (subf s (broadcastInDim S4x4x8192x8448 ![0, 1, 2, 3] bcast_S4x4x8192x1_S4x4x8192x8448_0_1_2_3
    (broadcastInDim S4x4x8192x1 ![0, 1, 2] bcast_S4x4x8192_S4x4x8192x1_0_1_2 (Ref.mx_l s))))) (constant S_ .f32 0x00000000#32) reducesTo_S4x4x8192x8448_S4x4x8192_d3 h_S_))

/-- The attention's output from its probabilities and its values. -/
def at_l (v : FVec Ideal S8448x4x128 .f32) (p : FVec Ideal S4x4x8192x8448 .f32) : FVec Ideal S8192x2048 .f32 :=
  shapeCast S8192x2048 (transpose S8192x4x4x128 [3, 0, 2, 1] (Host.dotGeneral dot_S8448x4x128_S4x4x8192x8448_S4x128x4x8192_0_3_2_12_1_0 none v p) transposes_S4x128x4x8192_S8192x4x4x128_3_0_2_1) shapeCasts_S8192x4x4x128_S8192x2048

variable (m : (ℓ : Loc nD τ sig) → Buf (Elt Ideal) ℓ) (c : Dev nD)

theorem V_v6 : (V m c main_v6 : FVec Ideal S8448x2048 .bf16) = qsH (m ((c : Thread nD τ).loc main_arg0)) := by
  unfold V
  after_reads_simp
  rfl

theorem V_v97 : (V m c main_v97 : FVec Ideal S8448x2048 .bf16) = (truncf .bf16 ((m ((c : Thread nD τ).loc main_arg3)) : FVec Ideal S8448x2048 .f32) bitsLt_bf16_f32 : FVec Ideal S8448x2048 .bf16) := by
  unfold V
  after_reads_simp

theorem V_v7 : (V m c main_v7 : FVec Ideal S8448x512 .bf16) = (truncf .bf16 ((m ((c : Thread nD τ).loc main_arg1)) : FVec Ideal S8448x512 .f32) bitsLt_bf16_f32 : FVec Ideal S8448x512 .bf16) := by
  unfold V
  after_reads_simp

theorem V_v100 : (V m c main_v100 : FVec Ideal S8448x5120 .bf16) = (truncf .bf16 ((m ((c : Thread nD τ).loc main_arg2)) : FVec Ideal S8448x5120 .f32) bitsLt_bf16_f32 : FVec Ideal S8448x5120 .bf16) := by
  unfold V
  after_reads_simp

theorem V_v99 : (V m c main_v99 : FVec Ideal S4x33x128x256 .bf16) = ktH (m ((c : Thread nD τ).loc main_arg1)) := by
  unfold V
  after_reads_simp
  rfl

theorem V_v94 : (V m c main_v94 : FVec Ideal S4x33x4x256 .f32) = lsH (lse_c (Ref.sco_c (Ref.qC (m ((c : Thread nD τ).loc main_arg0))) (Ref.kC (m ((c : Thread nD τ).loc main_arg1))))) (lse_l (Ref.sco_l (Ref.qL (m ((c : Thread nD τ).loc main_arg0))) (Ref.kL (m ((c : Thread nD τ).loc main_arg1))))) := by
  unfold V
  after_reads_simp
  refine congrArg₂ lsH ?_ ?_
  · after_reads_simp
    rfl
  · after_reads_simp
    rfl

theorem V_v96 : (V m c main_v96 : FVec Ideal S4x33x4x256 .f32) = dlH (m ((c : Thread nD τ).loc main_arg3)) (at_c (Ref.kC (Ref.vcols (m ((c : Thread nD τ).loc main_arg2)))) (Ref.pr_c (Ref.ex_c (Ref.sco_c (Ref.qC (m ((c : Thread nD τ).loc main_arg0))) (Ref.kC (m ((c : Thread nD τ).loc main_arg1))))))) (at_l (Ref.kL (Ref.vcols (m ((c : Thread nD τ).loc main_arg2)))) (Ref.pr_l (Ref.ex_l (Ref.sco_l (Ref.qL (m ((c : Thread nD τ).loc main_arg0))) (Ref.kL (m ((c : Thread nD τ).loc main_arg1))))))) := by
  unfold V
  after_reads_simp
  refine congrArg₂ (dlH (m ((c : Thread nD τ).loc main_arg3))) ?_ ?_
  · after_reads_simp
    rfl
  · after_reads_simp
    rfl

end Cert.Attn.Dev

end
-- ==== Proof.Tile.lean ====
/- One tile of the gradient kernel at the exact numbers: what each of the values it computes from 1024 keys (a trip of the
   loop) and from the first 256 keys is, at an index. -/
module

public import proofs.«01_k».proof.Proof.HostTerms
public import proofs.«01_k».proof.Proof.Gen.KernelIdeal.Loops
public import proofs.«01_k».proof.Proof.RefSteps
public import Idealize.ShloMosaic.Lib.Pointwise

@[expose] public section

set_option maxRecDepth 16384

noncomputable section

namespace Cert.Attn.Dev

open Cert.KernelIdeal Cert.KernelIdeal.Gen Idealize.ShloMosaic Idealize.ShloMosaic.TcCoe Idealize.SL.Sem

/-- The weight of key `n` for query row `r`: a power of two of the product less the row's logarithmic sum. -/
def wt (q : FVec Ideal S256x128 .bf16) (l : FVec Ideal S1x256 .f32) (K : FVec Ideal S8448x128 .bf16) (n : Fin 8448)
    (r : Fin 256) : EReal :=
  Ideal.exp2 ((∑ x : Fin 128, K (ix2 n x) * q (ix2 r x)) - l (ix2 0 r))

/-- The gradient of that product: the weight times what the values' product exceeds the row's mean by. -/
def gr (q d : FVec Ideal S256x128 .bf16) (l e : FVec Ideal S1x256 .f32) (K V : FVec Ideal S8448x128 .bf16) (n : Fin 8448)
    (r : Fin 256) : EReal :=
  wt q l K n r * ((∑ x : Fin 128, V (ix2 n x) * d (ix2 r x)) - e (ix2 0 r))

/-- What chunk `c` of 256 keys adds to the queries' gradient, which is kept transposed. -/
def chunk (T : FVec Ideal S1x33x128x256 .bf16) (g : Fin 8448 → Fin 256 → EReal) (c : ℕ) (y : Fin 128) (r : Fin 256) : EReal :=
  if h : c < 33 then ∑ x : Fin 256, T (ix4 0 ⟨c, h⟩ y x) * g ⟨256 * c + x.val, by omega⟩ r else 0

/-- What one head's rows add to a row of the keys' or of the values' gradient. -/
def rowAdd (g : Fin 8448 → Fin 256 → EReal) (q : FVec Ideal S256x128 .bf16) (n : Fin 8448) (y : Fin 128) : EReal :=
  ∑ r : Fin 256, g n r * q (ix2 r y)

variable (q0 q1 q2 q3 d0 d1 d2 d3 : FVec Ideal S256x128 .bf16) (l0 l1 l2 l3 e0 e1 e2 e3 : FVec Ideal S1x256 .f32)
variable (K V : FVec Ideal S8448x128 .bf16) (T : FVec Ideal S1x33x128x256 .bf16)

section Trip

variable (kb vb : FVec Ideal S1024x128 .bf16) (c0 c1 c2 c3 : FVec Ideal S1x1x128x256 .bf16) (a : FVec Ideal S128x256 .f32)
variable (f : Fin 1024 → Fin 8448) (hk : ∀ n x, kb (ix2 n x) = K (ix2 (f n) x)) (hv : ∀ n x, vb (ix2 n x) = V (ix2 (f n) x))

include hk in
theorem wt0_at (n : Fin 1024) (r : Fin 256) : k0_pay19 l0 (k0_pay13 q0 kb) (ix2 n r) = wt q0 l0 K (f n) r := by
  pointwise [k0_pay19, k0_pay13, k0_pay9]
  simp only [hk]; rfl

include hk in
theorem wt1_at (n : Fin 1024) (r : Fin 256) : k0_pay22 l1 (k0_pay14 q1 kb) (ix2 n r) = wt q1 l1 K (f n) r := by
  pointwise [k0_pay22, k0_pay14, k0_pay9]
  simp only [hk]; rfl

include hk in
theorem wt2_at (n : Fin 1024) (r : Fin 256) : k0_pay28 l2 (k0_pay15 q2 kb) (ix2 n r) = wt q2 l2 K (f n) r := by
  pointwise [k0_pay28, k0_pay15, k0_pay9]
  simp only [hk]; rfl

include hk in
theorem wt3_at (n : Fin 1024) (r : Fin 256) : k0_pay31 l3 (k0_pay16 q3 kb) (ix2 n r) = wt q3 l3 K (f n) r := by
  pointwise [k0_pay31, k0_pay16, k0_pay9]
  simp only [hk]; rfl

include hk hv in
theorem gr0_at (n : Fin 1024) (r : Fin 256) :
    k0_pay20 d0 l0 e0 (k0_pay10 vb) (k0_pay13 q0 kb) (ix2 n r) = gr q0 d0 l0 e0 K V (f n) r := by
  pointwise [k0_pay20, k0_pay10]
  rw [wt0_at q0 l0 K kb f hk]; simp only [hv]; rfl

include hk hv in
theorem gr1_at (n : Fin 1024) (r : Fin 256) :
    k0_pay24 d1 l1 e1 (k0_pay10 vb) (k0_pay14 q1 kb) (ix2 n r) = gr q1 d1 l1 e1 K V (f n) r := by
  pointwise [k0_pay24, k0_pay10]
  rw [wt1_at q1 l1 K kb f hk]; simp only [hv]; rfl

include hk hv in
theorem gr2_at (n : Fin 1024) (r : Fin 256) :
    k0_pay29 l2 e2 (k0_pay15 q2 kb) (k0_pay17 d2 (k0_pay10 vb)) (ix2 n r) = gr q2 d2 l2 e2 K V (f n) r := by
  pointwise [k0_pay29, k0_pay10, k0_pay17]
  rw [wt2_at q2 l2 K kb f hk]; simp only [hv]; rfl

include hk hv in
theorem gr3_at (n : Fin 1024) (r : Fin 256) :
    k0_pay33 l3 e3 (k0_pay16 q3 kb) (k0_pay18 d3 (k0_pay10 vb)) (ix2 n r) = gr q3 d3 l3 e3 K V (f n) r := by
  pointwise [k0_pay33, k0_pay10, k0_pay18]
  rw [wt3_at q3 l3 K kb f hk]; simp only [hv]; rfl

/-- The four chunks of a trip, added to what the trip found. -/
def four (c0 c1 c2 c3 : FVec Ideal S1x1x128x256 .bf16) (g : Fin 1024 → Fin 256 → EReal) (y : Fin 128) (r : Fin 256) (z : EReal) : EReal :=
  z + (∑ x : Fin 256, c0 (ix4 0 0 y x) * g ⟨x.val, by omega⟩ r) + (∑ x : Fin 256, c1 (ix4 0 0 y x) * g ⟨256 + x.val, by omega⟩ r)
    + (∑ x : Fin 256, c2 (ix4 0 0 y x) * g ⟨512 + x.val, by omega⟩ r) + ∑ x : Fin 256, c3 (ix4 0 0 y x) * g ⟨768 + x.val, by omega⟩ r

include hk hv in
theorem query0_at (y : Fin 128) (r : Fin 256) :
    k0_pay21 d0 l0 e0 a (k0_pay5 c0) (k0_pay6 c1) (k0_pay7 c2) (k0_pay8 c3) (k0_pay10 vb) (k0_pay13 q0 kb) (ix2 y r)
      = four c0 c1 c2 c3 (fun n => gr q0 d0 l0 e0 K V (f n)) y r (a (ix2 y r)) := by
  have h := gr0_at q0 d0 l0 e0 K V kb vb f hk hv
  unfold k0_pay21
  revert h
  generalize k0_pay20 d0 l0 e0 (k0_pay10 vb) (k0_pay13 q0 kb) = w
  intro h
  pointwise [k0_pay5, k0_pay6, k0_pay7, k0_pay8]
  simp only [h]; rfl

include hk hv in
theorem query1_at (y : Fin 128) (r : Fin 256) :
    k0_pay27 (k0_pay7 c2) (k0_pay8 c3) (k0_pay24 d1 l1 e1 (k0_pay10 vb) (k0_pay14 q1 kb))
        (k0_pay26 d1 l1 e1 a (k0_pay5 c0) (k0_pay6 c1) (k0_pay10 vb) (k0_pay14 q1 kb)) (ix2 y r)
      = four c0 c1 c2 c3 (fun n => gr q1 d1 l1 e1 K V (f n)) y r (a (ix2 y r)) := by
  have h := gr1_at q1 d1 l1 e1 K V kb vb f hk hv
  unfold k0_pay27 k0_pay26
  revert h
  generalize k0_pay24 d1 l1 e1 (k0_pay10 vb) (k0_pay14 q1 kb) = w
  intro h
  pointwise [k0_pay5, k0_pay6, k0_pay7, k0_pay8]
  simp only [h]; rfl

include hk hv in
theorem query2_at (y : Fin 128) (r : Fin 256) :
    k0_pay30 l2 e2 a (k0_pay5 c0) (k0_pay6 c1) (k0_pay7 c2) (k0_pay8 c3) (k0_pay15 q2 kb) (k0_pay17 d2 (k0_pay10 vb)) (ix2 y r)
      = four c0 c1 c2 c3 (fun n => gr q2 d2 l2 e2 K V (f n)) y r (a (ix2 y r)) := by
  have h := gr2_at q2 d2 l2 e2 K V kb vb f hk hv
  unfold k0_pay30
  revert h
  generalize k0_pay29 l2 e2 (k0_pay15 q2 kb) (k0_pay17 d2 (k0_pay10 vb)) = w
  intro h
  pointwise [k0_pay5, k0_pay6, k0_pay7, k0_pay8]
  simp only [h]; rfl

include hk hv in
theorem query3_at (y : Fin 128) (r : Fin 256) :
    k0_pay116 (k0_pay7 c2) (k0_pay8 c3) (k0_pay33 l3 e3 (k0_pay16 q3 kb) (k0_pay18 d3 (k0_pay10 vb)))
        (k0_pay35 l3 e3 a (k0_pay5 c0) (k0_pay6 c1) (k0_pay16 q3 kb) (k0_pay18 d3 (k0_pay10 vb))) (ix2 y r)
      = four c0 c1 c2 c3 (fun n => gr q3 d3 l3 e3 K V (f n)) y r (a (ix2 y r)) := by
  have h := gr3_at q3 d3 l3 e3 K V kb vb f hk hv
  unfold k0_pay116 k0_pay35
  revert h
  generalize k0_pay33 l3 e3 (k0_pay16 q3 kb) (k0_pay18 d3 (k0_pay10 vb)) = w
  intro h
  pointwise [k0_pay5, k0_pay6, k0_pay7, k0_pay8]
  simp only [h]; rfl

include hk hv in
/-- The rows a trip adds to the keys' gradient. -/
theorem key_at (n : Fin 1024) (y : Fin 128) :
    k0_pay34 q2 q3 l2 l3 e2 e3 (k0_pay15 q2 kb) (k0_pay16 q3 kb) (k0_pay17 d2 (k0_pay10 vb)) (k0_pay18 d3 (k0_pay10 vb))
        (k0_pay25 q0 q1 d0 d1 l0 l1 e0 e1 (k0_pay10 vb) k0_pay11 (k0_pay13 q0 kb) (k0_pay14 q1 kb)) (ix2 n y)
      = rowAdd (gr q0 d0 l0 e0 K V) q0 (f n) y + rowAdd (gr q1 d1 l1 e1 K V) q1 (f n) y
        + rowAdd (gr q2 d2 l2 e2 K V) q2 (f n) y + rowAdd (gr q3 d3 l3 e3 K V) q3 (f n) y := by
  have h0 := gr0_at q0 d0 l0 e0 K V kb vb f hk hv
  have h1 := gr1_at q1 d1 l1 e1 K V kb vb f hk hv
  have h2 := gr2_at q2 d2 l2 e2 K V kb vb f hk hv
  have h3 := gr3_at q3 d3 l3 e3 K V kb vb f hk hv
  unfold k0_pay34 k0_pay25
  revert h0 h1 h2 h3
  generalize k0_pay20 d0 l0 e0 (k0_pay10 vb) (k0_pay13 q0 kb) = w0
  generalize k0_pay24 d1 l1 e1 (k0_pay10 vb) (k0_pay14 q1 kb) = w1
  generalize k0_pay29 l2 e2 (k0_pay15 q2 kb) (k0_pay17 d2 (k0_pay10 vb)) = w2
  generalize k0_pay33 l3 e3 (k0_pay16 q3 kb) (k0_pay18 d3 (k0_pay10 vb)) = w3
  intro h0 h1 h2 h3
  pointwise [k0_pay11]
  simp only [h0, h1, h2, h3, zero_add]; rfl

include hk in
/-- The rows a trip adds to the values' gradient. -/
theorem value_at (n : Fin 1024) (y : Fin 128) :
    k0_pay32 d2 d3 l2 l3 (k0_pay15 q2 kb) (k0_pay16 q3 kb)
        (k0_pay23 d0 d1 l0 l1 k0_pay12 (k0_pay13 q0 kb) (k0_pay14 q1 kb)) (ix2 n y)
      = rowAdd (wt q0 l0 K) d0 (f n) y + rowAdd (wt q1 l1 K) d1 (f n) y
        + rowAdd (wt q2 l2 K) d2 (f n) y + rowAdd (wt q3 l3 K) d3 (f n) y := by
  have h0 := wt0_at q0 l0 K kb f hk
  have h1 := wt1_at q1 l1 K kb f hk
  have h2 := wt2_at q2 l2 K kb f hk
  have h3 := wt3_at q3 l3 K kb f hk
  unfold k0_pay32 k0_pay23
  revert h0 h1 h2 h3
  generalize k0_pay19 l0 (k0_pay13 q0 kb) = w0
  generalize k0_pay22 l1 (k0_pay14 q1 kb) = w1
  generalize k0_pay28 l2 (k0_pay15 q2 kb) = w2
  generalize k0_pay31 l3 (k0_pay16 q3 kb) = w3
  intro h0 h1 h2 h3
  pointwise [k0_pay12]
  simp only [h0, h1, h2, h3, zero_add]; rfl

end Trip

end Cert.Attn.Dev

end
-- ==== Proof.FirstTile.lean ====
/- The first 256 keys of the gradient kernel at the exact numbers, which it works through before the loop. -/
module

public import proofs.«01_k».proof.Proof.Tile

@[expose] public section

set_option maxRecDepth 16384

noncomputable section

namespace Cert.Attn.Dev

open Cert.KernelIdeal Cert.KernelIdeal.Gen Idealize.ShloMosaic Idealize.ShloMosaic.TcCoe Idealize.SL.Sem

variable (q0 q1 q2 q3 d0 d1 d2 d3 : FVec Ideal S256x128 .bf16) (l0 l1 l2 l3 e0 e1 e2 e3 : FVec Ideal S1x256 .f32)
variable (K V : FVec Ideal S8448x128 .bf16)
variable (kb vb : FVec Ideal S256x128 .bf16) (t : FVec Ideal S128x256 .bf16) (a : FVec Ideal S128x256 .f32) (z : FVec Ideal S256x128 .f32)
variable (f : Fin 256 → Fin 8448) (hk : ∀ n x, kb (ix2 n x) = K (ix2 (f n) x)) (hv : ∀ n x, vb (ix2 n x) = V (ix2 (f n) x))

include hk in
theorem fwt0_at (n r : Fin 256) : k0_pay99 l0 (k0_pay94 q0 kb) (ix2 n r) = wt q0 l0 K (f n) r := by
  pointwise [k0_pay99, k0_pay94, k0_pay90]
  simp only [hk]; rfl

include hk in
theorem fwt1_at (n r : Fin 256) : k0_pay102 l1 (k0_pay95 q1 kb) (ix2 n r) = wt q1 l1 K (f n) r := by
  pointwise [k0_pay102, k0_pay95, k0_pay90]
  simp only [hk]; rfl

include hk in
theorem fwt2_at (n r : Fin 256) : k0_pay105 l2 (k0_pay96 q2 kb) (ix2 n r) = wt q2 l2 K (f n) r := by
  pointwise [k0_pay105, k0_pay96, k0_pay90]
  simp only [hk]; rfl

include hk in
theorem fwt3_at (n r : Fin 256) : k0_pay111 l3 (k0_pay97 q3 (k0_pay90 kb)) (ix2 n r) = wt q3 l3 K (f n) r := by
  pointwise [k0_pay111, k0_pay97, k0_pay90]
  simp only [hk]; rfl

include hk hv in
theorem fgr0_at (n r : Fin 256) :
    k0_pay100 d0 l0 e0 (k0_pay91 vb) (k0_pay94 q0 kb) (ix2 n r) = gr q0 d0 l0 e0 K V (f n) r := by
  pointwise [k0_pay100, k0_pay91]
  rw [fwt0_at q0 l0 K kb f hk]; simp only [hv]; rfl

include hk hv in
theorem fgr1_at (n r : Fin 256) :
    k0_pay103 d1 l1 e1 (k0_pay91 vb) (k0_pay95 q1 kb) (ix2 n r) = gr q1 d1 l1 e1 K V (f n) r := by
  pointwise [k0_pay103, k0_pay91]
  rw [fwt1_at q1 l1 K kb f hk]; simp only [hv]; rfl

include hk hv in
theorem fgr2_at (n r : Fin 256) :
    k0_pay107 d2 l2 e2 (k0_pay91 vb) (k0_pay96 q2 kb) (ix2 n r) = gr q2 d2 l2 e2 K V (f n) r := by
  pointwise [k0_pay107, k0_pay91]
  rw [fwt2_at q2 l2 K kb f hk]; simp only [hv]; rfl

include hk hv in
theorem fgr3_at (n r : Fin 256) :
    k0_pay112 l3 e3 (k0_pay97 q3 (k0_pay90 kb)) (k0_pay98 d3 (k0_pay91 vb)) (ix2 n r) = gr q3 d3 l3 e3 K V (f n) r := by
  pointwise [k0_pay112, k0_pay91, k0_pay98]
  rw [fwt3_at q3 l3 K kb f hk]; simp only [hv]; rfl

include hk hv in
theorem fquery0_at (y : Fin 128) (r : Fin 256) :
    k0_pay101 d0 l0 e0 t a (k0_pay91 vb) (k0_pay94 q0 kb) (ix2 y r)
      = a (ix2 y r) + ∑ x : Fin 256, t (ix2 y x) * gr q0 d0 l0 e0 K V (f x) r := by
  have h := fgr0_at q0 d0 l0 e0 K V kb vb f hk hv
  unfold k0_pay101; revert h
  generalize k0_pay100 d0 l0 e0 (k0_pay91 vb) (k0_pay94 q0 kb) = w
  intro h
  pointwise
  simp only [h]

include hk hv in
theorem fquery1_at (y : Fin 128) (r : Fin 256) :
    k0_pay104 d1 l1 e1 t a (k0_pay91 vb) (k0_pay95 q1 kb) (ix2 y r)
      = a (ix2 y r) + ∑ x : Fin 256, t (ix2 y x) * gr q1 d1 l1 e1 K V (f x) r := by
  have h := fgr1_at q1 d1 l1 e1 K V kb vb f hk hv
  unfold k0_pay104; revert h
  generalize k0_pay103 d1 l1 e1 (k0_pay91 vb) (k0_pay95 q1 kb) = w
  intro h
  pointwise
  simp only [h]

include hk hv in
theorem fquery2_at (y : Fin 128) (r : Fin 256) :
    k0_pay110 a (k0_pay109 d2 l2 e2 t (k0_pay91 vb) (k0_pay96 q2 kb)) (ix2 y r)
      = a (ix2 y r) + ∑ x : Fin 256, t (ix2 y x) * gr q2 d2 l2 e2 K V (f x) r := by
  have h := fgr2_at q2 d2 l2 e2 K V kb vb f hk hv
  unfold k0_pay109; revert h
  generalize k0_pay107 d2 l2 e2 (k0_pay91 vb) (k0_pay96 q2 kb) = w
  intro h
  pointwise [k0_pay110]
  simp only [h]

include hk hv in
theorem fquery3_at (y : Fin 128) (r : Fin 256) :
    k0_pay113 l3 e3 t a (k0_pay97 q3 (k0_pay90 kb)) (k0_pay98 d3 (k0_pay91 vb)) (ix2 y r)
      = a (ix2 y r) + ∑ x : Fin 256, t (ix2 y x) * gr q3 d3 l3 e3 K V (f x) r := by
  have h := fgr3_at q3 d3 l3 e3 K V kb vb f hk hv
  unfold k0_pay113; revert h
  generalize k0_pay112 l3 e3 (k0_pay97 q3 (k0_pay90 kb)) (k0_pay98 d3 (k0_pay91 vb)) = w
  intro h
  pointwise
  simp only [h]

include hk hv in
theorem fkey_at (n : Fin 256) (y : Fin 128) :
    k0_pay114 q3 l3 e3 (k0_pay97 q3 (k0_pay90 kb)) (k0_pay98 d3 (k0_pay91 vb))
        (k0_pay108 q0 q1 q2 d0 d1 d2 l0 l1 l2 e0 e1 e2 (k0_pay91 vb) k0_pay92 (k0_pay94 q0 kb) (k0_pay95 q1 kb) (k0_pay96 q2 kb)) z (ix2 n y)
      = z (ix2 n y) + (rowAdd (gr q0 d0 l0 e0 K V) q0 (f n) y + rowAdd (gr q1 d1 l1 e1 K V) q1 (f n) y
        + rowAdd (gr q2 d2 l2 e2 K V) q2 (f n) y + rowAdd (gr q3 d3 l3 e3 K V) q3 (f n) y) := by
  have h0 := fgr0_at q0 d0 l0 e0 K V kb vb f hk hv
  have h1 := fgr1_at q1 d1 l1 e1 K V kb vb f hk hv
  have h2 := fgr2_at q2 d2 l2 e2 K V kb vb f hk hv
  have h3 := fgr3_at q3 d3 l3 e3 K V kb vb f hk hv
  unfold k0_pay114 k0_pay108
  revert h0 h1 h2 h3
  generalize k0_pay100 d0 l0 e0 (k0_pay91 vb) (k0_pay94 q0 kb) = w0
  generalize k0_pay103 d1 l1 e1 (k0_pay91 vb) (k0_pay95 q1 kb) = w1
  generalize k0_pay107 d2 l2 e2 (k0_pay91 vb) (k0_pay96 q2 kb) = w2
  generalize k0_pay112 l3 e3 (k0_pay97 q3 (k0_pay90 kb)) (k0_pay98 d3 (k0_pay91 vb)) = w3
  intro h0 h1 h2 h3
  pointwise [k0_pay92]
  simp only [h0, h1, h2, h3, zero_add]; rfl

include hk in
theorem fvalue_at (n : Fin 256) (y : Fin 128) :
    k0_pay115 d3 l3 (k0_pay97 q3 (k0_pay90 kb))
        (k0_pay106 d0 d1 d2 l0 l1 l2 k0_pay93 (k0_pay94 q0 kb) (k0_pay95 q1 kb) (k0_pay96 q2 kb)) z (ix2 n y)
      = z (ix2 n y) + (rowAdd (wt q0 l0 K) d0 (f n) y + rowAdd (wt q1 l1 K) d1 (f n) y
        + rowAdd (wt q2 l2 K) d2 (f n) y + rowAdd (wt q3 l3 K) d3 (f n) y) := by
  have h0 := fwt0_at q0 l0 K kb f hk
  have h1 := fwt1_at q1 l1 K kb f hk
  have h2 := fwt2_at q2 l2 K kb f hk
  have h3 := fwt3_at q3 l3 K kb f hk
  unfold k0_pay115 k0_pay106
  revert h0 h1 h2 h3
  generalize k0_pay99 l0 (k0_pay94 q0 kb) = w0
  generalize k0_pay102 l1 (k0_pay95 q1 kb) = w1
  generalize k0_pay105 l2 (k0_pay96 q2 kb) = w2
  generalize k0_pay111 l3 (k0_pay97 q3 (k0_pay90 kb)) = w3
  intro h0 h1 h2 h3
  pointwise [k0_pay93]
  simp only [h0, h1, h2, h3, zero_add]; rfl

/-- The queries' gradient as stored: turned over, and scaled by the score's factor. -/
theorem store0_at (r : Fin 256) (y : Fin 128) : k0_pay122 a (ix2 r y) = a (ix2 y r) * (sc : EReal) := by
  pointwise [k0_pay122]; rw [← word_sc]
theorem store1_at (r : Fin 256) (y : Fin 128) : k0_pay1 a (ix2 r y) = a (ix2 y r) * (sc : EReal) := by
  pointwise [k0_pay1]; rw [← word_sc]
theorem store2_at (r : Fin 256) (y : Fin 128) : k0_pay2 a (ix2 r y) = a (ix2 y r) * (sc : EReal) := by
  pointwise [k0_pay2]; rw [← word_sc]
theorem store3_at (r : Fin 256) (y : Fin 128) : k0_pay3 a (ix2 r y) = a (ix2 y r) * (sc : EReal) := by
  pointwise [k0_pay3]; rw [← word_sc]

/-- The keys' gradient, at its last point, times the logarithm of two. -/
theorem last_at (w : FVec Ideal S8448x128 .f32) (n : Fin 8448) (y : Fin 128) :
    k0_pay4 w (ix2 n y) = w (ix2 n y) * ((Real.log 2 : ℝ) : EReal) := by
  pointwise [k0_pay4]
  rw [IdealRules.named_const.ideal_named_scalar _ _ _ _ rfl]

end Cert.Attn.Dev

end
-- ==== Proof.Trip.lean ====
/- What one trip of the loop carries on and stores, as the values the tile modules read. -/
module

public import proofs.«01_k».proof.Proof.FirstTile

@[expose] public section

set_option maxRecDepth 16384

noncomputable section

namespace Cert.Attn.Dev

open Cert.KernelIdeal Cert.KernelIdeal.Gen Idealize.ShloMosaic Idealize.ShloMosaic.TcCoe Idealize.SL.Sem

/-- The keys, the values and the transposed chunks a trip loads. -/
abbrev tk (i : grid0.Coords) (arg4 : Memref sig .tc .vmem S8448x128 .bf16) (X_arg4 : BufTy.Contents (Elt Ideal) arg4.view.ty) (k : Fin (k0_t1_loop i).trips) : FVec Ideal S1024x128 .bf16 :=
  View.readAt (Elt Ideal) arg4.view (Rect.unit (s := S8448x128) (k0_off2 i k) S1024x128.size (k0_off2_inb i k)).toLoadRect X_arg4
abbrev tv (i : grid0.Coords) (arg5 : Memref sig .tc .vmem S8448x128 .bf16) (X_arg5 : BufTy.Contents (Elt Ideal) arg5.view.ty) (k : Fin (k0_t1_loop i).trips) : FVec Ideal S1024x128 .bf16 :=
  View.readAt (Elt Ideal) arg5.view (Rect.unit (s := S8448x128) (k0_off2 i k) S1024x128.size (k0_off2_inb i k)).toLoadRect X_arg5
abbrev tc (i : grid0.Coords) (arg6 : Memref sig .tc .vmem S1x33x128x256 .bf16) (X_arg6 : BufTy.Contents (Elt Ideal) arg6.view.ty) (k : Fin (k0_t1_loop i).trips) (r : Fin 4) : FVec Ideal S1x1x128x256 .bf16 :=
  View.readAt (Elt Ideal) arg6.view (Rect.unit (s := S1x33x128x256) (k0_off1 i k (BitVec.ofNat 32 r.val)) S1x1x128x256.size (k0_off1_inb i k r)).toLoadRect X_arg6

section

variable (𝒱 : Variants) (c : Dev nD) (bd : Option 𝒱.V) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (arg1 : BitVec 32) (v4 : FVec Ideal S256x128 .bf16) (v6 : FVec Ideal S256x128 .bf16) (v8 : FVec Ideal S256x128 .bf16) (v10 : FVec Ideal S256x128 .bf16) (v12 : FVec Ideal S256x128 .bf16) (v14 : FVec Ideal S256x128 .bf16) (v16 : FVec Ideal S256x128 .bf16) (v18 : FVec Ideal S256x128 .bf16) (v20 : FVec Ideal S1x256 .f32) (v22 : FVec Ideal S1x256 .f32) (v24 : FVec Ideal S1x256 .f32) (v26 : FVec Ideal S1x256 .f32) (v28 : FVec Ideal S1x256 .f32) (v30 : FVec Ideal S1x256 .f32) (v32 : FVec Ideal S1x256 .f32) (v34 : FVec Ideal S1x256 .f32) (v36 : FVec Ideal S128x256 .bf16) (v39 : FVec Ideal S128x256 .f32) (v40 : FVec Ideal S128x256 .f32) (v50 : FVec Ideal S256x256 .f32) (v54 : FVec Ideal S256x256 .f32) (v68 : FVec Ideal S128x256 .f32) (v82 : FVec Ideal S128x256 .f32) (v88 : FVec Ideal S256x128 .f32) (v94 : FVec Ideal S256x128 .f32) (v95 : FVec Ideal S128x256 .f32) (X_arg4 : BufTy.Contents (Elt Ideal) arg4.view.ty) (X_arg5 : BufTy.Contents (Elt Ideal) arg5.view.ty) (X_arg6 : BufTy.Contents (Elt Ideal) arg6.view.ty)

/-- What a trip carries on. -/
theorem trip_carried (k : Fin (k0_t1_loop i).trips) (acc : FVec Ideal S128x256 .f32 × FVec Ideal S128x256 .f32 × FVec Ideal S128x256 .f32 × FVec Ideal S128x256 .f32) (f10 : BufTy.Contents (Elt Ideal) arg10.view.ty) (f11 : BufTy.Contents (Elt Ideal) arg11.view.ty) :
    (trip_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 k).1 acc f10 f11
      = (k0_pay21 v12 v20 v28 acc.1 (k0_pay5 (tc i arg6 X_arg6 k 0)) (k0_pay6 (tc i arg6 X_arg6 k 1)) (k0_pay7 (tc i arg6 X_arg6 k 2)) (k0_pay8 (tc i arg6 X_arg6 k 3)) (k0_pay10 (tv i arg5 X_arg5 k)) (k0_pay13 v4 (tk i arg4 X_arg4 k)),
         k0_pay27 (k0_pay7 (tc i arg6 X_arg6 k 2)) (k0_pay8 (tc i arg6 X_arg6 k 3)) (k0_pay24 v14 v22 v30 (k0_pay10 (tv i arg5 X_arg5 k)) (k0_pay14 v6 (tk i arg4 X_arg4 k))) (k0_pay26 v14 v22 v30 acc.2.1 (k0_pay5 (tc i arg6 X_arg6 k 0)) (k0_pay6 (tc i arg6 X_arg6 k 1)) (k0_pay10 (tv i arg5 X_arg5 k)) (k0_pay14 v6 (tk i arg4 X_arg4 k))),
         k0_pay30 v24 v32 acc.2.2.1 (k0_pay5 (tc i arg6 X_arg6 k 0)) (k0_pay6 (tc i arg6 X_arg6 k 1)) (k0_pay7 (tc i arg6 X_arg6 k 2)) (k0_pay8 (tc i arg6 X_arg6 k 3)) (k0_pay15 v8 (tk i arg4 X_arg4 k)) (k0_pay17 v16 (k0_pay10 (tv i arg5 X_arg5 k))),
         k0_pay116 (k0_pay7 (tc i arg6 X_arg6 k 2)) (k0_pay8 (tc i arg6 X_arg6 k 3)) (k0_pay33 v26 v34 (k0_pay16 v10 (tk i arg4 X_arg4 k)) (k0_pay18 v18 (k0_pay10 (tv i arg5 X_arg5 k)))) (k0_pay35 v26 v34 acc.2.2.2 (k0_pay5 (tc i arg6 X_arg6 k 0)) (k0_pay6 (tc i arg6 X_arg6 k 1)) (k0_pay16 v10 (tk i arg4 X_arg4 k)) (k0_pay18 v18 (k0_pay10 (tv i arg5 X_arg5 k))))) := by
  unfold trip_k0_t1; rfl

/-- What a trip stores into the keys' gradient. -/
theorem trip_key (k : Fin (k0_t1_loop i).trips) (acc : FVec Ideal S128x256 .f32 × FVec Ideal S128x256 .f32 × FVec Ideal S128x256 .f32 × FVec Ideal S128x256 .f32) (f10 : BufTy.Contents (Elt Ideal) arg10.view.ty) (f11 : BufTy.Contents (Elt Ideal) arg11.view.ty) :
    (trip_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 k).2.1 acc f10 f11
      = [⟨Rect.unit (s := S8448x128) (k0_off2 i k) S1024x128.size (k0_off2_inb i k), k0_pay117 (k0_pay34 v8 v10 v24 v26 v32 v34 (k0_pay15 v8 (tk i arg4 X_arg4 k)) (k0_pay16 v10 (tk i arg4 X_arg4 k)) (k0_pay17 v16 (k0_pay10 (tv i arg5 X_arg5 k))) (k0_pay18 v18 (k0_pay10 (tv i arg5 X_arg5 k))) (k0_pay25 v4 v6 v12 v14 v20 v22 v28 v30 (k0_pay10 (tv i arg5 X_arg5 k)) k0_pay11 (k0_pay13 v4 (tk i arg4 X_arg4 k)) (k0_pay14 v6 (tk i arg4 X_arg4 k)))) (View.readAt (Elt Ideal) arg10.view (Rect.unit (s := S8448x128) (k0_off2 i k) S1024x128.size (k0_off2_inb i k)).toLoadRect f10)⟩] := by
  unfold trip_k0_t1; rfl

/-- What a trip stores into the values' gradient. -/
theorem trip_value (k : Fin (k0_t1_loop i).trips) (acc : FVec Ideal S128x256 .f32 × FVec Ideal S128x256 .f32 × FVec Ideal S128x256 .f32 × FVec Ideal S128x256 .f32) (f10 : BufTy.Contents (Elt Ideal) arg10.view.ty) (f11 : BufTy.Contents (Elt Ideal) arg11.view.ty) :
    (trip_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 k).2.2.1 acc f10 f11
      = [⟨Rect.unit (s := S8448x128) (k0_off2 i k) S1024x128.size (k0_off2_inb i k), k0_pay118 (k0_pay32 v16 v18 v24 v26 (k0_pay15 v8 (tk i arg4 X_arg4 k)) (k0_pay16 v10 (tk i arg4 X_arg4 k)) (k0_pay23 v12 v14 v20 v22 k0_pay12 (k0_pay13 v4 (tk i arg4 X_arg4 k)) (k0_pay14 v6 (tk i arg4 X_arg4 k)))) (View.readAt (Elt Ideal) arg11.view (Rect.unit (s := S8448x128) (k0_off2 i k) S1024x128.size (k0_off2_inb i k)).toLoadRect f11)⟩] := by
  unfold trip_k0_t1; rfl

end

end Cert.Attn.Dev

end
-- ==== Proof.Loop.lean ====
/- The loop of the gradient kernel: what its carried sums and the two accumulated gradients are after each trip. -/
module

public import proofs.«01_k».proof.Proof.Trip
public import Idealize.ShloMosaic.Lib.VecWindow

@[expose] public section

set_option maxRecDepth 16384

noncomputable section

namespace Cert.Attn.Dev

open Cert.KernelIdeal Cert.KernelIdeal.Gen Idealize.ShloMosaic Idealize.ShloMosaic.TcCoe Idealize.SL.Sem

/-- The key that row `n` of trip `k`'s load is. -/
def at1024 (k : ℕ) (hk : k < 8) (n : Fin 1024) : Fin 8448 := ⟨1024 * k + 256 + n.val, by omega⟩

theorem trips_le (i : grid0.Coords) : (k0_t1_loop i).trips ≤ 8 := (k0_t1_abs i).2.1

theorem lt8 {i : grid0.Coords} (k : Fin (k0_t1_loop i).trips) : k.val < 8 := lt_of_lt_of_le k.isLt (trips_le i)

theorem off2_le (k : ℕ) (hk : k < 8) : ∀ a, (![1024 * k + 256, 0] : Fin 2 → ℕ) a + S1024x128.size a ≤ S8448x128.size a := by
  intro a; fin_cases a
  · show 1024 * k + 256 + 1024 ≤ 8448; omega
  · show 0 + 128 ≤ 128; omega

theorem off1_le (k : ℕ) (hk : k < 8) (r : Fin 4) : ∀ a, (![0, 4 * k + r.val + 1, 0, 0] : Fin 4 → ℕ) a + S1x1x128x256.size a ≤ S1x33x128x256.size a := by
  intro a; fin_cases a
  · show 0 + 1 ≤ 1; omega
  · show 4 * k + r.val + 1 + 1 ≤ 33; omega
  · show 0 + 128 ≤ 128; omega
  · show 0 + 256 ≤ 256; omega

/-- A trip's window of an array of 8448 rows, at a row. -/
theorem window_rows {α : Type} (x : S8448x128.Idx → α) (k : ℕ) (hk : k < 8) (n : Fin 1024) (y : Fin 128) :
    VecWindow.window x ![1024 * k + 256, 0] S1024x128.size (off2_le k hk) (ix2 n y) = x (ix2 (at1024 k hk n) y) := by
  refine congrArg x (funext fun a => Fin.ext ?_)
  fin_cases a
  · show 1024 * k + 256 + 1 * n.val = 1024 * k + 256 + n.val; omega
  · show 0 + 1 * y.val = y.val; omega

/-- A trip's window put, at a row. -/
theorem put_rows {α : Type} (x : S8448x128.Idx → α) (w : S1024x128.Idx → α) (k : ℕ) (hk : k < 8) (m : Fin 8448) (y : Fin 128) :
    VecWindow.put x ![1024 * k + 256, 0] S1024x128.size w (ix2 m y)
      = if h : 1024 * k + 256 ≤ m.val ∧ m.val < 1024 * k + 256 + 1024 then w (ix2 ⟨m.val - (1024 * k + 256), by omega⟩ y) else x (ix2 m y) := by
  unfold VecWindow.put
  by_cases h : 1024 * k + 256 ≤ m.val ∧ m.val < 1024 * k + 256 + 1024
  · have h' : ∀ a, (![1024 * k + 256, 0] : Fin 2 → ℕ) a ≤ ((ix2 m y : S8448x128.Idx) a).val ∧ ((ix2 m y : S8448x128.Idx) a).val < (![1024 * k + 256, 0] : Fin 2 → ℕ) a + S1024x128.size a := by
      intro a; fin_cases a
      · exact h
      · exact ⟨Nat.zero_le _, by show y.val < 0 + 128; omega⟩
    rw [dif_pos h, dif_pos h']
    refine congrArg w (funext fun a => Fin.ext ?_)
    fin_cases a
    · rfl
    · rfl
  · rw [dif_neg h, dif_neg]
    intro h'; exact h (h' 0)

theorem tk_at (i : grid0.Coords) (arg4 : Memref sig .tc .vmem S8448x128 .bf16) (X_arg4 : BufTy.Contents (Elt Ideal) arg4.view.ty) (k : Fin (k0_t1_loop i).trips) (n : Fin 1024) (x : Fin 128) :
    tk i arg4 X_arg4 k (ix2 n x) = arg4.view.read (Elt Ideal) X_arg4 (ix2 (at1024 k.val (lt8 k) n) x) := by
  unfold tk
  rw [View.readAt_unit arg4.view X_arg4 _ (k0_off2_eq i k) (off2_le k.val (lt8 k))]
  exact window_rows _ _ _ _ _

theorem tc_at (i : grid0.Coords) (arg6 : Memref sig .tc .vmem S1x33x128x256 .bf16) (X_arg6 : BufTy.Contents (Elt Ideal) arg6.view.ty) (k : Fin (k0_t1_loop i).trips) (r : Fin 4) (y : Fin 128) (x : Fin 256) :
    tc i arg6 X_arg6 k r (ix4 0 0 y x) = arg6.view.read (Elt Ideal) X_arg6 (ix4 0 ⟨4 * k.val + r.val + 1, by have := lt8 k; omega⟩ y x) := by
  unfold tc
  rw [View.readAt_unit arg6.view X_arg6 _ (k0_off1_eq i k r) (off1_le k.val (lt8 k) r)]
  refine congrArg (arg6.view.read (Elt Ideal) X_arg6) (funext fun a => Fin.ext ?_)
  fin_cases a
  · rfl
  · show 4 * k.val + r.val + 1 + 1 * 0 = 4 * k.val + r.val + 1; omega
  · show 0 + 1 * y.val = y.val; omega
  · show 0 + 1 * x.val = x.val; omega

/-- The four chunks of a trip are the next four of the sum over all chunks. -/
theorem four_eq (T : FVec Ideal S1x33x128x256 .bf16) (g : Fin 8448 → Fin 256 → EReal) (k : ℕ) (hk : k < 8)
    (c0 c1 c2 c3 : FVec Ideal S1x1x128x256 .bf16)
    (h0 : ∀ y x, c0 (ix4 0 0 y x) = T (ix4 0 ⟨4 * k + 0 + 1, by omega⟩ y x))
    (h1 : ∀ y x, c1 (ix4 0 0 y x) = T (ix4 0 ⟨4 * k + 1 + 1, by omega⟩ y x))
    (h2 : ∀ y x, c2 (ix4 0 0 y x) = T (ix4 0 ⟨4 * k + 2 + 1, by omega⟩ y x))
    (h3 : ∀ y x, c3 (ix4 0 0 y x) = T (ix4 0 ⟨4 * k + 3 + 1, by omega⟩ y x))
    (y : Fin 128) (r : Fin 256) (z a : EReal) (hz : z = a + ∑ j ∈ Finset.range (4 * k), chunk T g (j + 1) y r) :
    four c0 c1 c2 c3 (fun n => g (at1024 k hk n)) y r z = a + ∑ j ∈ Finset.range (4 * (k + 1)), chunk T g (j + 1) y r := by
  have e : 4 * (k + 1) = 4 * k + 1 + 1 + 1 + 1 := by omega
  have c : ∀ (j : ℕ) (hj : j < 4) (cc : FVec Ideal S1x1x128x256 .bf16) (hc : ∀ y x, cc (ix4 0 0 y x) = T (ix4 0 ⟨4 * k + j + 1, by omega⟩ y x))
      (f : Fin 256 → Fin 1024) (hf : ∀ x, (f x).val = 256 * j + x.val),
      ∑ x : Fin 256, cc (ix4 0 0 y x) * g (at1024 k hk (f x)) r = chunk T g (4 * k + j + 1) y r := by
    intro j hj cc hc f hf
    unfold chunk
    rw [dif_pos (by omega)]
    refine Finset.sum_congr rfl fun x _ => ?_
    rw [hc]
    congr 2
    exact Fin.ext (by show 1024 * k + 256 + (f x).val = 256 * (4 * k + j + 1) + x.val; rw [hf]; omega)
  unfold four
  rw [e, Finset.sum_range_succ, Finset.sum_range_succ, Finset.sum_range_succ, Finset.sum_range_succ, hz]
  rw [c 0 (by omega) c0 h0 _ (fun x => by show x.val = _; omega), c 1 (by omega) c1 h1 _ (fun x => by show 256 + x.val = _; omega),
    c 2 (by omega) c2 h2 _ (fun x => by show 512 + x.val = _; omega), c 3 (by omega) c3 h3 _ (fun x => by show 768 + x.val = _; omega)]
  simp only [add_assoc, Nat.add_zero]

/-- The carried sums, and what the loop has added to the two accumulated gradients, after `n` trips. -/
structure After (T : FVec Ideal S1x33x128x256 .bf16) (g0 g1 g2 g3 : Fin 8448 → Fin 256 → EReal) (KA VA : Fin 8448 → Fin 128 → EReal)
    (init s : FVec Ideal S128x256 .f32 × FVec Ideal S128x256 .f32 × FVec Ideal S128x256 .f32 × FVec Ideal S128x256 .f32) (b10 r10 b11 r11 : FVec Ideal S8448x128 .f32) (n : ℕ) : Prop where
  c0 : ∀ y r, s.1 (ix2 y r) = init.1 (ix2 y r) + ∑ j ∈ Finset.range (4 * n), chunk T g0 (j + 1) y r
  c1 : ∀ y r, s.2.1 (ix2 y r) = init.2.1 (ix2 y r) + ∑ j ∈ Finset.range (4 * n), chunk T g1 (j + 1) y r
  c2 : ∀ y r, s.2.2.1 (ix2 y r) = init.2.2.1 (ix2 y r) + ∑ j ∈ Finset.range (4 * n), chunk T g2 (j + 1) y r
  c3 : ∀ y r, s.2.2.2 (ix2 y r) = init.2.2.2 (ix2 y r) + ∑ j ∈ Finset.range (4 * n), chunk T g3 (j + 1) y r
  keys : ∀ m y, r10 (ix2 m y) = b10 (ix2 m y) + if 256 ≤ m.val ∧ m.val < 1024 * n + 256 then KA m y else 0
  values : ∀ m y, r11 (ix2 m y) = b11 (ix2 m y) + if 256 ≤ m.val ∧ m.val < 1024 * n + 256 then VA m y else 0

/-- What the four heads add to a row of the keys' gradient. -/
def keyAdd (q0 q1 q2 q3 d0 d1 d2 d3 : FVec Ideal S256x128 .bf16) (l0 l1 l2 l3 e0 e1 e2 e3 : FVec Ideal S1x256 .f32)
    (K V : FVec Ideal S8448x128 .bf16) (n : Fin 8448) (y : Fin 128) : EReal :=
  rowAdd (gr q0 d0 l0 e0 K V) q0 n y + rowAdd (gr q1 d1 l1 e1 K V) q1 n y
    + rowAdd (gr q2 d2 l2 e2 K V) q2 n y + rowAdd (gr q3 d3 l3 e3 K V) q3 n y

/-- What the four heads add to a row of the values' gradient. -/
def valueAdd (q0 q1 q2 q3 d0 d1 d2 d3 : FVec Ideal S256x128 .bf16) (l0 l1 l2 l3 : FVec Ideal S1x256 .f32)
    (K : FVec Ideal S8448x128 .bf16) (n : Fin 8448) (y : Fin 128) : EReal :=
  rowAdd (wt q0 l0 K) d0 n y + rowAdd (wt q1 l1 K) d1 n y
    + rowAdd (wt q2 l2 K) d2 n y + rowAdd (wt q3 l3 K) d3 n y

/-- One trip's store into an accumulated gradient, at a row. -/
theorem store_step (arg10 : Memref sig .tc .vmem S8448x128 .f32) (i : grid0.Coords) (k : Fin (k0_t1_loop i).trips)
    (G : BufTy.Contents (Elt Ideal) arg10.view.ty) (L : List (View.Piece (Elt Ideal) S8448x128 .f32)) (b : FVec Ideal S8448x128 .f32)
    (w : FVec Ideal S1024x128 .f32) (KA : Fin 8448 → Fin 128 → EReal)
    (hw : ∀ n y, w (ix2 n y) = View.readAt (Elt Ideal) arg10.view (Rect.unit (s := S8448x128) (k0_off2 i k) S1024x128.size (k0_off2_inb i k)).toLoadRect (arg10.view.writes (Elt Ideal) G L) (ix2 n y) + KA (at1024 k.val (lt8 k) n) y)
    (ih : ∀ m y, arg10.view.read (Elt Ideal) (arg10.view.writes (Elt Ideal) G L) (ix2 m y) = b (ix2 m y) + if 256 ≤ m.val ∧ m.val < 1024 * k.val + 256 then KA m y else 0) (m : Fin 8448) (y : Fin 128) :
    arg10.view.read (Elt Ideal) (arg10.view.writes (Elt Ideal) G ([⟨Rect.unit (s := S8448x128) (k0_off2 i k) S1024x128.size (k0_off2_inb i k), w⟩] ++ L)) (ix2 m y)
      = b (ix2 m y) + if 256 ≤ m.val ∧ m.val < 1024 * (k.val + 1) + 256 then KA m y else 0 := by
  have hk := lt8 k
  rw [List.singleton_append, View.read_writes_cons_put _ _ _ _ _ (k0_off2_eq i k)]
  rw [put_rows _ _ k.val hk]
  by_cases h : 1024 * k.val + 256 ≤ m.val ∧ m.val < 1024 * k.val + 256 + 1024
  · rw [dif_pos h, hw, View.readAt_unit arg10.view _ _ (k0_off2_eq i k) (off2_le k.val hk), window_rows _ k.val hk]
    have e : at1024 k.val hk ⟨m.val - (1024 * k.val + 256), by omega⟩ = m := Fin.ext (by show 1024 * k.val + 256 + (m.val - (1024 * k.val + 256)) = m.val; omega)
    rw [e, ih, if_neg (by omega), if_pos (by omega), add_zero]
  · rw [dif_neg h, ih]
    congr 1
    by_cases h2 : 256 ≤ m.val ∧ m.val < 1024 * k.val + 256
    · rw [if_pos h2, if_pos (by omega)]
    · rw [if_neg h2, if_neg (by omega)]

section

variable (𝒱 : Variants) (c : Dev nD) (bd : Option 𝒱.V) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (arg1 : BitVec 32) (v4 : FVec Ideal S256x128 .bf16) (v6 : FVec Ideal S256x128 .bf16) (v8 : FVec Ideal S256x128 .bf16) (v10 : FVec Ideal S256x128 .bf16) (v12 : FVec Ideal S256x128 .bf16) (v14 : FVec Ideal S256x128 .bf16) (v16 : FVec Ideal S256x128 .bf16) (v18 : FVec Ideal S256x128 .bf16) (v20 : FVec Ideal S1x256 .f32) (v22 : FVec Ideal S1x256 .f32) (v24 : FVec Ideal S1x256 .f32) (v26 : FVec Ideal S1x256 .f32) (v28 : FVec Ideal S1x256 .f32) (v30 : FVec Ideal S1x256 .f32) (v32 : FVec Ideal S1x256 .f32) (v34 : FVec Ideal S1x256 .f32) (v36 : FVec Ideal S128x256 .bf16) (v39 : FVec Ideal S128x256 .f32) (v40 : FVec Ideal S128x256 .f32) (v50 : FVec Ideal S256x256 .f32) (v54 : FVec Ideal S256x256 .f32) (v68 : FVec Ideal S128x256 .f32) (v82 : FVec Ideal S128x256 .f32) (v88 : FVec Ideal S256x128 .f32) (v94 : FVec Ideal S256x128 .f32) (v95 : FVec Ideal S128x256 .f32) (X_arg4 : BufTy.Contents (Elt Ideal) arg4.view.ty) (X_arg5 : BufTy.Contents (Elt Ideal) arg5.view.ty) (X_arg6 : BufTy.Contents (Elt Ideal) arg6.view.ty)
variable (G_arg10 : BufTy.Contents (Elt Ideal) arg10.view.ty) (G_arg11 : BufTy.Contents (Elt Ideal) arg11.view.ty) (init : FVec Ideal S128x256 .f32 × FVec Ideal S128x256 .f32 × FVec Ideal S128x256 .f32 × FVec Ideal S128x256 .f32)

theorem loop_at (n : ℕ) (hn : n ≤ (k0_t1_loop i).trips) :
    After (arg6.view.read (Elt Ideal) X_arg6)
      (gr v4 v12 v20 v28 (arg4.view.read (Elt Ideal) X_arg4) (arg5.view.read (Elt Ideal) X_arg5))
      (gr v6 v14 v22 v30 (arg4.view.read (Elt Ideal) X_arg4) (arg5.view.read (Elt Ideal) X_arg5))
      (gr v8 v16 v24 v32 (arg4.view.read (Elt Ideal) X_arg4) (arg5.view.read (Elt Ideal) X_arg5))
      (gr v10 v18 v26 v34 (arg4.view.read (Elt Ideal) X_arg4) (arg5.view.read (Elt Ideal) X_arg5))
      (keyAdd v4 v6 v8 v10 v12 v14 v16 v18 v20 v22 v24 v26 v28 v30 v32 v34 (arg4.view.read (Elt Ideal) X_arg4) (arg5.view.read (Elt Ideal) X_arg5))
      (valueAdd v4 v6 v8 v10 v12 v14 v16 v18 v20 v22 v24 v26 (arg4.view.read (Elt Ideal) X_arg4))
      init (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init n).1
      (arg10.view.read (Elt Ideal) G_arg10)
      (arg10.view.read (Elt Ideal) (arg10.view.writes (Elt Ideal) G_arg10 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init n).2.1))
      (arg11.view.read (Elt Ideal) G_arg11)
      (arg11.view.read (Elt Ideal) (arg11.view.writes (Elt Ideal) G_arg11 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init n).2.2))
      n := by
  induction n with
  | zero =>
    rw [st_k0_t1.eq_1]
    constructor
    · intro y r; simp
    · intro y r; simp
    · intro y r; simp
    · intro y r; simp
    · intro m y; rw [if_neg (by omega), add_zero]; rfl
    · intro m y; rw [if_neg (by omega), add_zero]; rfl
  | succ n ih =>
    have hk : n < (k0_t1_loop i).trips := hn
    have ih := ih (le_of_lt hk)
    have e := st_k0_t1_succ (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init ⟨n, hk⟩
    dsimp only [tripR_k0_t1, tripL_k0_t1] at e
    rw [trip_carried, trip_key, trip_value] at e
    rw [e]
    clear e
    revert ih
    generalize st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init n = s
    intro ih
    have h8 : n < 8 := lt8 ⟨n, hk⟩
    have hK := tk_at i arg4 X_arg4 ⟨n, hk⟩
    have hV := tk_at i arg5 X_arg5 ⟨n, hk⟩
    have hT := tc_at i arg6 X_arg6 ⟨n, hk⟩
    constructor
    · intro y r
      dsimp only
      rw [query0_at _ _ _ _ (arg4.view.read (Elt Ideal) X_arg4) (arg5.view.read (Elt Ideal) X_arg5) _ _ _ _ _ _ _ _ hK hV]
      exact four_eq _ _ n h8 _ _ _ _ (hT 0) (hT 1) (hT 2) (hT 3) y r _ _ (ih.c0 y r)
    · intro y r
      dsimp only
      rw [query1_at _ _ _ _ (arg4.view.read (Elt Ideal) X_arg4) (arg5.view.read (Elt Ideal) X_arg5) _ _ _ _ _ _ _ _ hK hV]
      exact four_eq _ _ n h8 _ _ _ _ (hT 0) (hT 1) (hT 2) (hT 3) y r _ _ (ih.c1 y r)
    · intro y r
      dsimp only
      rw [query2_at _ _ _ _ (arg4.view.read (Elt Ideal) X_arg4) (arg5.view.read (Elt Ideal) X_arg5) _ _ _ _ _ _ _ _ hK hV]
      exact four_eq _ _ n h8 _ _ _ _ (hT 0) (hT 1) (hT 2) (hT 3) y r _ _ (ih.c2 y r)
    · intro y r
      dsimp only
      rw [query3_at _ _ _ _ (arg4.view.read (Elt Ideal) X_arg4) (arg5.view.read (Elt Ideal) X_arg5) _ _ _ _ _ _ _ _ hK hV]
      exact four_eq _ _ n h8 _ _ _ _ (hT 0) (hT 1) (hT 2) (hT 3) y r _ _ (ih.c3 y r)
    · refine store_step arg10 i ⟨n, hk⟩ G_arg10 s.2.1 _ _ _ ?_ ih.keys
      intro x y
      have := key_at v4 v6 v8 v10 v12 v14 v16 v18 v20 v22 v24 v26 v28 v30 v32 v34 (arg4.view.read (Elt Ideal) X_arg4) (arg5.view.read (Elt Ideal) X_arg5) _ _ _ hK hV x y
      unfold k0_pay117
      pointwise
      rw [this]; rfl
    · refine store_step arg11 i ⟨n, hk⟩ G_arg11 s.2.2 _ _ _ ?_ ih.values
      intro x y
      have := value_at v4 v6 v8 v10 v12 v14 v16 v18 v20 v22 v24 v26 (arg4.view.read (Elt Ideal) X_arg4) _ _ hK x y
      unfold k0_pay118
      pointwise
      rw [this]; rfl

end

end Cert.Attn.Dev

end
-- ==== Proof.Heads.lean ====
/- What the gradient kernel loads and stores of its blocks, each as a function of the block: a head's columns, a head's row, the first 256 rows. -/
module

public import proofs.«01_k».proof.Proof.Loop

@[expose] public section

set_option maxRecDepth 16384

noncomputable section

namespace Cert.Attn.Dev

open Cert.KernelIdeal Cert.KernelIdeal.Gen Idealize.ShloMosaic Idealize.ShloMosaic.TcCoe Idealize.SL.Sem

/-- A head's columns of a block of 512. -/
def hd (h : Fin 4) (x : FVec Ideal S256x512 .bf16) : FVec Ideal S256x128 .bf16 := fun p =>
  x (ix2 (p 0) ⟨128 * h.val + (p 1).val, by have : (p 1).val < 128 := (p 1).isLt; omega⟩)

/-- A head's row of a block of four. -/
def ro (h : Fin 4) (x : FVec Ideal S1x1x4x256 .f32) : FVec Ideal S1x256 .f32 := fun p => x (ix4 0 0 h (p 1))

/-- One of the first 256 rows. -/
def lo (n : Fin 256) : Fin 8448 := ⟨n.val, by omega⟩

theorem window_first {α : Type} (x : S8448x128.Idx → α) (inb) (n : Fin 256) (y : Fin 128) :
    VecWindow.window x ![0, 0] S256x128.size inb (ix2 n y) = x (ix2 (lo n) y) := by
  refine congrArg x (funext fun a => Fin.ext ?_)
  fin_cases a
  · show 0 + 1 * n.val = n.val; omega
  · show 0 + 1 * y.val = y.val; omega

theorem put_first {α : Type} (x : S8448x128.Idx → α) (w : S256x128.Idx → α) (m : Fin 8448) (y : Fin 128) :
    VecWindow.put x ![0, 0] S256x128.size w (ix2 m y) = if h : m.val < 256 then w (ix2 ⟨m.val, h⟩ y) else x (ix2 m y) := by
  unfold VecWindow.put
  by_cases h : m.val < 256
  · have h' : ∀ a, (![0, 0] : Fin 2 → ℕ) a ≤ ((ix2 m y : S8448x128.Idx) a).val ∧ ((ix2 m y : S8448x128.Idx) a).val < (![0, 0] : Fin 2 → ℕ) a + S256x128.size a := by
      intro a; fin_cases a
      · exact ⟨Nat.zero_le _, by show m.val < 0 + 256; omega⟩
      · exact ⟨Nat.zero_le _, by show y.val < 0 + 128; omega⟩
    rw [dif_pos h, dif_pos h']
    refine congrArg w (funext fun a => Fin.ext ?_)
    fin_cases a
    · rfl
    · rfl
  · rw [dif_neg h, dif_neg]
    intro h'; have := (h' 0).2; exact h (by have h2 : m.val < 0 + 256 := this; omega)

theorem put_cols {α : Type} (x : S256x512.Idx → α) (w : S256x128.Idx → α) (o : ℕ) (r : Fin 256) (k : Fin 512) :
    VecWindow.put x ![0, o] S256x128.size w (ix2 r k) = if h : o ≤ k.val ∧ k.val < o + 128 then w (ix2 r ⟨k.val - o, by omega⟩) else x (ix2 r k) := by
  unfold VecWindow.put
  by_cases h : o ≤ k.val ∧ k.val < o + 128
  · have h' : ∀ a, (![0, o] : Fin 2 → ℕ) a ≤ ((ix2 r k : S256x512.Idx) a).val ∧ ((ix2 r k : S256x512.Idx) a).val < (![0, o] : Fin 2 → ℕ) a + S256x128.size a := by
      intro a; fin_cases a
      · exact ⟨Nat.zero_le _, by show r.val < 0 + 256; omega⟩
      · exact h
    rw [dif_pos h, dif_pos h']
    refine congrArg w (funext fun a => Fin.ext ?_)
    fin_cases a
    · rfl
    · rfl
  · rw [dif_neg h, dif_neg]
    intro h'; exact h (h' 1)

/-- Four heads' columns put side by side, read at a head's column. -/
theorem four_cols (v : View sig .tc .vmem S256x512 .f32) (f : BufTy.Contents (Elt Ideal) v.ty) (w : Fin 4 → FVec Ideal S256x128 .f32) (r : Fin 256) (h : Fin 4) (y : Fin 128) :
    v.read (Elt Ideal) (v.writes (Elt Ideal) f [⟨Rect.unit (s := S256x512) ![0, 384] S256x128.size inb_S256x512_S256x128_0_384, w 3⟩, ⟨Rect.unit (s := S256x512) ![0, 256] S256x128.size inb_S256x512_S256x128_0_256, w 2⟩, ⟨Rect.unit (s := S256x512) ![0, 128] S256x128.size inb_S256x512_S256x128_0_128, w 1⟩, ⟨Rect.unit (s := S256x512) ![0, 0] S256x128.size inb_S256x512_S256x128_0_0, w 0⟩])
      (ix2 r ⟨128 * h.val + y.val, by omega⟩) = w h (ix2 r y) := by
  rw [View.read_writes_cons_put _ _ _ _ _ rfl, put_cols, View.read_writes_cons_put _ _ _ _ _ rfl, put_cols,
    View.read_writes_cons_put _ _ _ _ _ rfl, put_cols, View.read_writes_cons_put _ _ _ _ _ rfl, put_cols]
  have hy := y.isLt
  match h with
  | 0 =>
    rw [dif_neg (by show ¬ (384 ≤ 128 * 0 + y.val ∧ _); omega), dif_neg (by show ¬ (256 ≤ 128 * 0 + y.val ∧ _); omega), dif_neg (by show ¬ (128 ≤ 128 * 0 + y.val ∧ _); omega),
      dif_pos (by show 0 ≤ 128 * 0 + y.val ∧ 128 * 0 + y.val < 0 + 128; omega)]
    exact congrArg (fun k => w 0 (ix2 r k)) (Fin.ext (by show 128 * 0 + y.val - 0 = y.val; omega))
  | 1 =>
    rw [dif_neg (by show ¬ (384 ≤ 128 * 1 + y.val ∧ _); omega), dif_neg (by show ¬ (256 ≤ 128 * 1 + y.val ∧ _); omega),
      dif_pos (by show 128 ≤ 128 * 1 + y.val ∧ 128 * 1 + y.val < 128 + 128; omega)]
    exact congrArg (fun k => w 1 (ix2 r k)) (Fin.ext (by show 128 * 1 + y.val - 128 = y.val; omega))
  | 2 =>
    rw [dif_neg (by show ¬ (384 ≤ 128 * 2 + y.val ∧ _); omega),
      dif_pos (by show 256 ≤ 128 * 2 + y.val ∧ 128 * 2 + y.val < 256 + 128; omega)]
    exact congrArg (fun k => w 2 (ix2 r k)) (Fin.ext (by show 128 * 2 + y.val - 256 = y.val; omega))
  | 3 =>
    rw [dif_pos (by show 384 ≤ 128 * 3 + y.val ∧ 128 * 3 + y.val < 384 + 128; omega)]
    exact congrArg (fun k => w 3 (ix2 r k)) (Fin.ext (by show 128 * 3 + y.val - 384 = y.val; omega))

/-- The first 256 rows stored, each the old row and what is added to it. -/
theorem store_first (v : View sig .tc .vmem S8448x128 .f32) (f : BufTy.Contents (Elt Ideal) v.ty) (L : List (View.Piece (Elt Ideal) S8448x128 .f32))
    (b : FVec Ideal S8448x128 .f32) (w : FVec Ideal S256x128 .f32) (KA : Fin 8448 → Fin 128 → EReal)
    (hb : ∀ m y, v.read (Elt Ideal) (v.writes (Elt Ideal) f L) (ix2 m y) = b (ix2 m y))
    (hw : ∀ n y, w (ix2 n y) = b (ix2 (lo n) y) + KA (lo n) y) (m : Fin 8448) (y : Fin 128) :
    v.read (Elt Ideal) (v.writes (Elt Ideal) f (⟨Rect.unit (s := S8448x128) ![0, 0] S256x128.size inb_S8448x128_S256x128_0_0, w⟩ :: L)) (ix2 m y)
      = b (ix2 m y) + if m.val < 256 then KA m y else 0 := by
  rw [View.read_writes_cons_put _ _ _ _ _ rfl, put_first]
  by_cases h : m.val < 256
  · rw [dif_pos h, if_pos h, hw]; rfl
  · rw [dif_neg h, if_neg h, add_zero, hb]

theorem load69 (arg : Memref sig .tc .vmem S256x512 .bf16) (harg : arg.IsWhole) (x : FVec Ideal S256x512 .bf16) :
    k0_pay69 (View.readAt (Elt Ideal) arg.view (Rect.unit (s := S256x512) ![0, 0] S256x128.size inb_S256x512_S256x128_0_0).toLoadRect (harg.unread x)) = hd 0 x := by
  rw [View.readAt_unit arg.view _ _ rfl inb_S256x512_S256x128_0_0, harg.read_unread]
  funext p
  rw [eq_ix2 p]
  pointwise [k0_pay69]
  refine congrArg x (funext fun a => Fin.ext ?_)
  fin_cases a
  · show 0 + 1 * (p 0).val = (p 0).val; omega
  · show 0 + 1 * (p 1).val = 128 * 0 + (p 1).val; omega

theorem load70 (arg : Memref sig .tc .vmem S256x512 .bf16) (harg : arg.IsWhole) (x : FVec Ideal S256x512 .bf16) :
    k0_pay70 (View.readAt (Elt Ideal) arg.view (Rect.unit (s := S256x512) ![0, 128] S256x128.size inb_S256x512_S256x128_0_128).toLoadRect (harg.unread x)) = hd 1 x := by
  rw [View.readAt_unit arg.view _ _ rfl inb_S256x512_S256x128_0_128, harg.read_unread]
  funext p
  rw [eq_ix2 p]
  pointwise [k0_pay70]
  refine congrArg x (funext fun a => Fin.ext ?_)
  fin_cases a
  · show 0 + 1 * (p 0).val = (p 0).val; omega
  · show 128 + 1 * (p 1).val = 128 * 1 + (p 1).val; omega

theorem load71 (arg : Memref sig .tc .vmem S256x512 .bf16) (harg : arg.IsWhole) (x : FVec Ideal S256x512 .bf16) :
    k0_pay71 (View.readAt (Elt Ideal) arg.view (Rect.unit (s := S256x512) ![0, 256] S256x128.size inb_S256x512_S256x128_0_256).toLoadRect (harg.unread x)) = hd 2 x := by
  rw [View.readAt_unit arg.view _ _ rfl inb_S256x512_S256x128_0_256, harg.read_unread]
  funext p
  rw [eq_ix2 p]
  pointwise [k0_pay71]
  refine congrArg x (funext fun a => Fin.ext ?_)
  fin_cases a
  · show 0 + 1 * (p 0).val = (p 0).val; omega
  · show 256 + 1 * (p 1).val = 128 * 2 + (p 1).val; omega

theorem load72 (arg : Memref sig .tc .vmem S256x512 .bf16) (harg : arg.IsWhole) (x : FVec Ideal S256x512 .bf16) :
    k0_pay72 (View.readAt (Elt Ideal) arg.view (Rect.unit (s := S256x512) ![0, 384] S256x128.size inb_S256x512_S256x128_0_384).toLoadRect (harg.unread x)) = hd 3 x := by
  rw [View.readAt_unit arg.view _ _ rfl inb_S256x512_S256x128_0_384, harg.read_unread]
  funext p
  rw [eq_ix2 p]
  pointwise [k0_pay72]
  refine congrArg x (funext fun a => Fin.ext ?_)
  fin_cases a
  · show 0 + 1 * (p 0).val = (p 0).val; omega
  · show 384 + 1 * (p 1).val = 128 * 3 + (p 1).val; omega

theorem load73 (arg : Memref sig .tc .vmem S256x512 .bf16) (harg : arg.IsWhole) (x : FVec Ideal S256x512 .bf16) :
    k0_pay73 (View.readAt (Elt Ideal) arg.view (Rect.unit (s := S256x512) ![0, 0] S256x128.size inb_S256x512_S256x128_0_0).toLoadRect (harg.unread x)) = hd 0 x := by
  rw [View.readAt_unit arg.view _ _ rfl inb_S256x512_S256x128_0_0, harg.read_unread]
  funext p
  rw [eq_ix2 p]
  pointwise [k0_pay73]
  refine congrArg x (funext fun a => Fin.ext ?_)
  fin_cases a
  · show 0 + 1 * (p 0).val = (p 0).val; omega
  · show 0 + 1 * (p 1).val = 128 * 0 + (p 1).val; omega

theorem load74 (arg : Memref sig .tc .vmem S256x512 .bf16) (harg : arg.IsWhole) (x : FVec Ideal S256x512 .bf16) :
    k0_pay74 (View.readAt (Elt Ideal) arg.view (Rect.unit (s := S256x512) ![0, 128] S256x128.size inb_S256x512_S256x128_0_128).toLoadRect (harg.unread x)) = hd 1 x := by
  rw [View.readAt_unit arg.view _ _ rfl inb_S256x512_S256x128_0_128, harg.read_unread]
  funext p
  rw [eq_ix2 p]
  pointwise [k0_pay74]
  refine congrArg x (funext fun a => Fin.ext ?_)
  fin_cases a
  · show 0 + 1 * (p 0).val = (p 0).val; omega
  · show 128 + 1 * (p 1).val = 128 * 1 + (p 1).val; omega

theorem load75 (arg : Memref sig .tc .vmem S256x512 .bf16) (harg : arg.IsWhole) (x : FVec Ideal S256x512 .bf16) :
    k0_pay75 (View.readAt (Elt Ideal) arg.view (Rect.unit (s := S256x512) ![0, 256] S256x128.size inb_S256x512_S256x128_0_256).toLoadRect (harg.unread x)) = hd 2 x := by
  rw [View.readAt_unit arg.view _ _ rfl inb_S256x512_S256x128_0_256, harg.read_unread]
  funext p
  rw [eq_ix2 p]
  pointwise [k0_pay75]
  refine congrArg x (funext fun a => Fin.ext ?_)
  fin_cases a
  · show 0 + 1 * (p 0).val = (p 0).val; omega
  · show 256 + 1 * (p 1).val = 128 * 2 + (p 1).val; omega

theorem load76 (arg : Memref sig .tc .vmem S256x512 .bf16) (harg : arg.IsWhole) (x : FVec Ideal S256x512 .bf16) :
    k0_pay76 (View.readAt (Elt Ideal) arg.view (Rect.unit (s := S256x512) ![0, 384] S256x128.size inb_S256x512_S256x128_0_384).toLoadRect (harg.unread x)) = hd 3 x := by
  rw [View.readAt_unit arg.view _ _ rfl inb_S256x512_S256x128_0_384, harg.read_unread]
  funext p
  rw [eq_ix2 p]
  pointwise [k0_pay76]
  refine congrArg x (funext fun a => Fin.ext ?_)
  fin_cases a
  · show 0 + 1 * (p 0).val = (p 0).val; omega
  · show 384 + 1 * (p 1).val = 128 * 3 + (p 1).val; omega

theorem load77 (arg : Memref sig .tc .vmem S1x1x4x256 .f32) (harg : arg.IsWhole) (x : FVec Ideal S1x1x4x256 .f32) :
    k0_pay77 (View.readAt (Elt Ideal) arg.view (Rect.unit (s := S1x1x4x256) ![0, 0, 0, 0] S1x1x1x256.size inb_S1x1x4x256_S1x1x1x256_0_0_0_0).toLoadRect (harg.unread x)) = ro 0 x := by
  rw [View.readAt_unit arg.view _ _ rfl inb_S1x1x4x256_S1x1x1x256_0_0_0_0, harg.read_unread]
  funext p
  rw [eq_ix2 p]
  have h0 : (p 0).val < 1 := (p 0).isLt
  pointwise [k0_pay77]
  refine congrArg x (funext fun a => Fin.ext ?_)
  fin_cases a
  · rfl
  · rfl
  · rfl
  · show 0 + 1 * (p 1).val = (p 1).val; omega

theorem load78 (arg : Memref sig .tc .vmem S1x1x4x256 .f32) (harg : arg.IsWhole) (x : FVec Ideal S1x1x4x256 .f32) :
    k0_pay78 (View.readAt (Elt Ideal) arg.view (Rect.unit (s := S1x1x4x256) ![0, 0, 1, 0] S1x1x1x256.size inb_S1x1x4x256_S1x1x1x256_0_0_1_0).toLoadRect (harg.unread x)) = ro 1 x := by
  rw [View.readAt_unit arg.view _ _ rfl inb_S1x1x4x256_S1x1x1x256_0_0_1_0, harg.read_unread]
  funext p
  rw [eq_ix2 p]
  have h0 : (p 0).val < 1 := (p 0).isLt
  pointwise [k0_pay78]
  refine congrArg x (funext fun a => Fin.ext ?_)
  fin_cases a
  · rfl
  · rfl
  · rfl
  · show 0 + 1 * (p 1).val = (p 1).val; omega

theorem load79 (arg : Memref sig .tc .vmem S1x1x4x256 .f32) (harg : arg.IsWhole) (x : FVec Ideal S1x1x4x256 .f32) :
    k0_pay79 (View.readAt (Elt Ideal) arg.view (Rect.unit (s := S1x1x4x256) ![0, 0, 2, 0] S1x1x1x256.size inb_S1x1x4x256_S1x1x1x256_0_0_2_0).toLoadRect (harg.unread x)) = ro 2 x := by
  rw [View.readAt_unit arg.view _ _ rfl inb_S1x1x4x256_S1x1x1x256_0_0_2_0, harg.read_unread]
  funext p
  rw [eq_ix2 p]
  have h0 : (p 0).val < 1 := (p 0).isLt
  pointwise [k0_pay79]
  refine congrArg x (funext fun a => Fin.ext ?_)
  fin_cases a
  · rfl
  · rfl
  · rfl
  · show 0 + 1 * (p 1).val = (p 1).val; omega

theorem load80 (arg : Memref sig .tc .vmem S1x1x4x256 .f32) (harg : arg.IsWhole) (x : FVec Ideal S1x1x4x256 .f32) :
    k0_pay80 (View.readAt (Elt Ideal) arg.view (Rect.unit (s := S1x1x4x256) ![0, 0, 3, 0] S1x1x1x256.size inb_S1x1x4x256_S1x1x1x256_0_0_3_0).toLoadRect (harg.unread x)) = ro 3 x := by
  rw [View.readAt_unit arg.view _ _ rfl inb_S1x1x4x256_S1x1x1x256_0_0_3_0, harg.read_unread]
  funext p
  rw [eq_ix2 p]
  have h0 : (p 0).val < 1 := (p 0).isLt
  pointwise [k0_pay80]
  refine congrArg x (funext fun a => Fin.ext ?_)
  fin_cases a
  · rfl
  · rfl
  · rfl
  · show 0 + 1 * (p 1).val = (p 1).val; omega

theorem load81 (arg : Memref sig .tc .vmem S1x1x4x256 .f32) (harg : arg.IsWhole) (x : FVec Ideal S1x1x4x256 .f32) :
    k0_pay81 (View.readAt (Elt Ideal) arg.view (Rect.unit (s := S1x1x4x256) ![0, 0, 0, 0] S1x1x1x256.size inb_S1x1x4x256_S1x1x1x256_0_0_0_0).toLoadRect (harg.unread x)) = ro 0 x := by
  rw [View.readAt_unit arg.view _ _ rfl inb_S1x1x4x256_S1x1x1x256_0_0_0_0, harg.read_unread]
  funext p
  rw [eq_ix2 p]
  have h0 : (p 0).val < 1 := (p 0).isLt
  pointwise [k0_pay81]
  refine congrArg x (funext fun a => Fin.ext ?_)
  fin_cases a
  · rfl
  · rfl
  · rfl
  · show 0 + 1 * (p 1).val = (p 1).val; omega

theorem load82 (arg : Memref sig .tc .vmem S1x1x4x256 .f32) (harg : arg.IsWhole) (x : FVec Ideal S1x1x4x256 .f32) :
    k0_pay82 (View.readAt (Elt Ideal) arg.view (Rect.unit (s := S1x1x4x256) ![0, 0, 1, 0] S1x1x1x256.size inb_S1x1x4x256_S1x1x1x256_0_0_1_0).toLoadRect (harg.unread x)) = ro 1 x := by
  rw [View.readAt_unit arg.view _ _ rfl inb_S1x1x4x256_S1x1x1x256_0_0_1_0, harg.read_unread]
  funext p
  rw [eq_ix2 p]
  have h0 : (p 0).val < 1 := (p 0).isLt
  pointwise [k0_pay82]
  refine congrArg x (funext fun a => Fin.ext ?_)
  fin_cases a
  · rfl
  · rfl
  · rfl
  · show 0 + 1 * (p 1).val = (p 1).val; omega

theorem load83 (arg : Memref sig .tc .vmem S1x1x4x256 .f32) (harg : arg.IsWhole) (x : FVec Ideal S1x1x4x256 .f32) :
    k0_pay83 (View.readAt (Elt Ideal) arg.view (Rect.unit (s := S1x1x4x256) ![0, 0, 2, 0] S1x1x1x256.size inb_S1x1x4x256_S1x1x1x256_0_0_2_0).toLoadRect (harg.unread x)) = ro 2 x := by
  rw [View.readAt_unit arg.view _ _ rfl inb_S1x1x4x256_S1x1x1x256_0_0_2_0, harg.read_unread]
  funext p
  rw [eq_ix2 p]
  have h0 : (p 0).val < 1 := (p 0).isLt
  pointwise [k0_pay83]
  refine congrArg x (funext fun a => Fin.ext ?_)
  fin_cases a
  · rfl
  · rfl
  · rfl
  · show 0 + 1 * (p 1).val = (p 1).val; omega

theorem load84 (arg : Memref sig .tc .vmem S1x1x4x256 .f32) (harg : arg.IsWhole) (x : FVec Ideal S1x1x4x256 .f32) :
    k0_pay84 (View.readAt (Elt Ideal) arg.view (Rect.unit (s := S1x1x4x256) ![0, 0, 3, 0] S1x1x1x256.size inb_S1x1x4x256_S1x1x1x256_0_0_3_0).toLoadRect (harg.unread x)) = ro 3 x := by
  rw [View.readAt_unit arg.view _ _ rfl inb_S1x1x4x256_S1x1x1x256_0_0_3_0, harg.read_unread]
  funext p
  rw [eq_ix2 p]
  have h0 : (p 0).val < 1 := (p 0).isLt
  pointwise [k0_pay84]
  refine congrArg x (funext fun a => Fin.ext ?_)
  fin_cases a
  · rfl
  · rfl
  · rfl
  · show 0 + 1 * (p 1).val = (p 1).val; omega

theorem load85 (arg : Memref sig .tc .vmem S1x33x128x256 .bf16) (harg : arg.IsWhole) (x : FVec Ideal S1x33x128x256 .bf16) (y : Fin 128) (k : Fin 256) :
    k0_pay85 (View.readAt (Elt Ideal) arg.view (Rect.unit (s := S1x33x128x256) ![0, 0, 0, 0] S1x1x128x256.size inb_S1x33x128x256_S1x1x128x256_0_0_0_0).toLoadRect (harg.unread x)) (ix2 y k) = x (ix4 0 0 y k) := by
  rw [View.readAt_unit arg.view _ _ rfl inb_S1x33x128x256_S1x1x128x256_0_0_0_0, harg.read_unread]
  pointwise [k0_pay85]
  refine congrArg x (funext fun a => Fin.ext ?_)
  fin_cases a
  · rfl
  · rfl
  · show 0 + 1 * y.val = y.val; omega
  · show 0 + 1 * k.val = k.val; omega

theorem load_rows (arg : Memref sig .tc .vmem S8448x128 .bf16) (harg : arg.IsWhole) (x : FVec Ideal S8448x128 .bf16) (n : Fin 256) (y : Fin 128) :
    View.readAt (Elt Ideal) arg.view (Rect.unit (s := S8448x128) ![0, 0] S256x128.size inb_S8448x128_S256x128_0_0).toLoadRect (harg.unread x) (ix2 n y) = x (ix2 (lo n) y) := by
  rw [View.readAt_unit arg.view _ _ rfl inb_S8448x128_S256x128_0_0, harg.read_unread]
  exact window_first _ _ _ _

theorem zero67 (m : Fin 8448) (y : Fin 128) : k0_pay67 (F := Ideal) (ix2 m y) = 0 := by pointwise [k0_pay67]
theorem zero68 (m : Fin 8448) (y : Fin 128) : k0_pay68 (F := Ideal) (ix2 m y) = 0 := by pointwise [k0_pay68]
theorem zero86 (m : Fin 128) (y : Fin 256) : k0_pay86 (F := Ideal) (ix2 m y) = 0 := by pointwise [k0_pay86]
theorem zero87 (m : Fin 128) (y : Fin 256) : k0_pay87 (F := Ideal) (ix2 m y) = 0 := by pointwise [k0_pay87]
theorem zero88 (m : Fin 128) (y : Fin 256) : k0_pay88 (F := Ideal) (ix2 m y) = 0 := by pointwise [k0_pay88]
theorem zero89 (m : Fin 128) (y : Fin 256) : k0_pay89 (F := Ideal) (ix2 m y) = 0 := by pointwise [k0_pay89]

/-- A load of 256 rows that an unmasked store covers reads the rows stored. -/
theorem load_cov (arg : Memref sig .tc .vmem S8448x128 .f32) (w : FVec Ideal S8448x128 .f32) (n : Fin 256) (y : Fin 128) :
    arg.view.readCov (Val := Elt Ideal) [⟨Rect.unit (s := S8448x128) ![0, 0] S8448x128.size inb_S8448x128_S8448x128_0_0, w⟩] (Rect.unit (s := S8448x128) ![0, 0] S256x128.size inb_S8448x128_S256x128_0_0).toLoadRect (ix2 n y)
      = w (ix2 (lo n) y) := by
  unfold View.readCov
  rw [View.readAt_unit arg.view _ _ rfl inb_S8448x128_S256x128_0_0, View.read_writes_full]
  exact window_first _ _ _ _

theorem load_old (arg : Memref sig .tc .vmem S8448x128 .f32) (harg : arg.IsWhole) (x : FVec Ideal S8448x128 .f32) (n : Fin 256) (y : Fin 128) :
    View.readAt (Elt Ideal) arg.view (Rect.unit (s := S8448x128) ![0, 0] S256x128.size inb_S8448x128_S256x128_0_0).toLoadRect (harg.unread x) (ix2 n y) = x (ix2 (lo n) y) := by
  rw [View.readAt_unit arg.view _ _ rfl inb_S8448x128_S256x128_0_0, harg.read_unread]
  exact window_first _ _ _ _

/-- The trips of the loop: none at a group's first point, eight at the others. -/
theorem trips_t1 (i : grid0.Coords) : (k0_t1_loop i).trips = if (i 1).val = 0 then 0 else 8 := by
  have h : ∀ n : Fin 33, (Scf.trips (0#32) (Scalar.addi (0#32) (Scalar.muli (Scalar.divsi (Scalar.subi (Scalar.select (Scalar.cmpi CmpIPredicate.eq (BitVec.ofNat 32 n.val) 0#32) 0#32 8#32) 0#32) 1#32) 1#32)) 1#32) = if n.val = 0 then 0 else 8 := by decide
  exact h (i 1)

end Cert.Attn.Dev

end
-- ==== Proof.Core.lean ====
/- A point of the gradient kernel: the first 256 keys and the loop together. -/
module

public import proofs.«01_k».proof.Proof.Heads

@[expose] public section

set_option maxRecDepth 16384

noncomputable section

namespace Cert.Attn.Dev

open Cert.KernelIdeal Cert.KernelIdeal.Gen Idealize.ShloMosaic Idealize.ShloMosaic.TcCoe Idealize.SL.Sem

/-- What the heads add to a row of the keys' gradient. -/
def keyAll (q d : Fin 4 → FVec Ideal S256x128 .bf16) (l e : Fin 4 → FVec Ideal S1x256 .f32) (K V : FVec Ideal S8448x128 .bf16)
    (m : Fin 8448) (y : Fin 128) : EReal := ∑ h : Fin 4, rowAdd (gr (q h) (d h) (l h) (e h) K V) (q h) m y

/-- What the heads add to a row of the values' gradient. -/
def valueAll (q d : Fin 4 → FVec Ideal S256x128 .bf16) (l : Fin 4 → FVec Ideal S1x256 .f32) (K : FVec Ideal S8448x128 .bf16)
    (m : Fin 8448) (y : Fin 128) : EReal := ∑ h : Fin 4, rowAdd (wt (q h) (l h) K) (d h) m y

/-- The carried sums and the two accumulated gradients of a point after `n` trips. -/
structure Done (q d : Fin 4 → FVec Ideal S256x128 .bf16) (l e : Fin 4 → FVec Ideal S1x256 .f32) (K V : FVec Ideal S8448x128 .bf16)
    (T : FVec Ideal S1x33x128x256 .bf16) (s : FVec Ideal S128x256 .f32 × FVec Ideal S128x256 .f32 × FVec Ideal S128x256 .f32 × FVec Ideal S128x256 .f32) (b10 r10 b11 r11 : FVec Ideal S8448x128 .f32) (n : ℕ) : Prop where
  c0 : ∀ y r, s.1 (ix2 y r) = ∑ j ∈ Finset.range (4 * n + 1), chunk T (gr (q 0) (d 0) (l 0) (e 0) K V) j y r
  c1 : ∀ y r, s.2.1 (ix2 y r) = ∑ j ∈ Finset.range (4 * n + 1), chunk T (gr (q 1) (d 1) (l 1) (e 1) K V) j y r
  c2 : ∀ y r, s.2.2.1 (ix2 y r) = ∑ j ∈ Finset.range (4 * n + 1), chunk T (gr (q 2) (d 2) (l 2) (e 2) K V) j y r
  c3 : ∀ y r, s.2.2.2 (ix2 y r) = ∑ j ∈ Finset.range (4 * n + 1), chunk T (gr (q 3) (d 3) (l 3) (e 3) K V) j y r
  keys : ∀ m y, r10 (ix2 m y) = b10 (ix2 m y) + if m.val < 1024 * n + 256 then keyAll q d l e K V m y else 0
  values : ∀ m y, r11 (ix2 m y) = b11 (ix2 m y) + if m.val < 1024 * n + 256 then valueAll q d l K m y else 0

/-- The first chunk and the loop's chunks are one sum. -/
theorem chunks_eq (T : FVec Ideal S1x33x128x256 .bf16) (g : Fin 8448 → Fin 256 → EReal) (t : FVec Ideal S128x256 .bf16)
    (ht : ∀ y x, t (ix2 y x) = T (ix4 0 0 y x)) (n : ℕ) (y : Fin 128) (r : Fin 256) :
    (0 + ∑ x : Fin 256, t (ix2 y x) * g (lo x) r) + ∑ j ∈ Finset.range (4 * n), chunk T g (j + 1) y r
      = ∑ j ∈ Finset.range (4 * n + 1), chunk T g j y r := by
  rw [Finset.sum_range_succ', zero_add, add_comm]
  congr 1
  unfold chunk
  rw [dif_pos (by omega)]
  refine Finset.sum_congr rfl fun x _ => ?_
  rw [ht]
  exact congrArg (fun k => T (ix4 0 0 y x) * g k r) (Fin.ext (by show x.val = 256 * 0 + x.val; omega))

theorem split_rows (a b c : EReal) (m n : ℕ) (h : a = b + if m < 256 then c else 0) :
    (a + if 256 ≤ m ∧ m < 1024 * n + 256 then c else 0) = b + if m < 1024 * n + 256 then c else 0 := by
  rw [h]
  by_cases h1 : m < 256
  · rw [if_pos h1, if_neg (by omega), if_pos (by omega), add_zero]
  · rw [if_neg h1, add_zero]
    by_cases h2 : m < 1024 * n + 256
    · rw [if_pos (by omega), if_pos h2]
    · rw [if_neg (by omega), if_neg h2]

theorem point_core (𝒱 : Variants) (c : Dev nD) (bd : Option 𝒱.V) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (arg1 : BitVec 32) (v4 : FVec Ideal S256x128 .bf16) (v6 : FVec Ideal S256x128 .bf16) (v8 : FVec Ideal S256x128 .bf16) (v10 : FVec Ideal S256x128 .bf16) (v12 : FVec Ideal S256x128 .bf16) (v14 : FVec Ideal S256x128 .bf16) (v16 : FVec Ideal S256x128 .bf16) (v18 : FVec Ideal S256x128 .bf16) (v20 : FVec Ideal S1x256 .f32) (v22 : FVec Ideal S1x256 .f32) (v24 : FVec Ideal S1x256 .f32) (v26 : FVec Ideal S1x256 .f32) (v28 : FVec Ideal S1x256 .f32) (v30 : FVec Ideal S1x256 .f32) (v32 : FVec Ideal S1x256 .f32) (v34 : FVec Ideal S1x256 .f32) (v36 : FVec Ideal S128x256 .bf16) (v39 : FVec Ideal S128x256 .f32) (v40 : FVec Ideal S128x256 .f32) (v50 : FVec Ideal S256x256 .f32) (v54 : FVec Ideal S256x256 .f32) (v68 : FVec Ideal S128x256 .f32) (v82 : FVec Ideal S128x256 .f32) (v88 : FVec Ideal S256x128 .f32) (v94 : FVec Ideal S256x128 .f32) (v95 : FVec Ideal S128x256 .f32) (X_arg4 : BufTy.Contents (Elt Ideal) arg4.view.ty) (X_arg5 : BufTy.Contents (Elt Ideal) arg5.view.ty) (X_arg6 : BufTy.Contents (Elt Ideal) arg6.view.ty) (G_arg10 : BufTy.Contents (Elt Ideal) arg10.view.ty) (G_arg11 : BufTy.Contents (Elt Ideal) arg11.view.ty) (init : FVec Ideal S128x256 .f32 × FVec Ideal S128x256 .f32 × FVec Ideal S128x256 .f32 × FVec Ideal S128x256 .f32)
    (kb vb : FVec Ideal S256x128 .bf16) (q d : Fin 4 → FVec Ideal S256x128 .bf16) (l e : Fin 4 → FVec Ideal S1x256 .f32) (K V : FVec Ideal S8448x128 .bf16)
    (T : FVec Ideal S1x33x128x256 .bf16) (b10 b11 : FVec Ideal S8448x128 .f32)
    (hK : arg4.view.read (Elt Ideal) X_arg4 = K) (hV : arg5.view.read (Elt Ideal) X_arg5 = V) (hT : arg6.view.read (Elt Ideal) X_arg6 = T)
    (h4 : v4 = q 0) (h6 : v6 = q 1) (h8 : v8 = q 2) (h10 : v10 = q 3) (h12 : v12 = d 0) (h14 : v14 = d 1) (h16 : v16 = d 2) (h18 : v18 = d 3)
    (h20 : v20 = l 0) (h22 : v22 = l 1) (h24 : v24 = l 2) (h26 : v26 = l 3) (h28 : v28 = e 0) (h30 : v30 = e 1) (h32 : v32 = e 2) (h34 : v34 = e 3)
    (h36 : ∀ y x, v36 (ix2 y x) = T (ix4 0 0 y x))
    (hkb : ∀ n x, kb (ix2 n x) = K (ix2 (lo n) x)) (hvb : ∀ n x, vb (ix2 n x) = V (ix2 (lo n) x))
    (hinit : init = (k0_pay101 v12 v20 v28 v36 k0_pay86 (k0_pay91 vb) (k0_pay94 v4 kb), k0_pay104 v14 v22 v30 v36 k0_pay87 (k0_pay91 vb) (k0_pay95 v6 kb), k0_pay110 k0_pay88 (k0_pay109 v16 v24 v32 v36 (k0_pay91 vb) (k0_pay96 v8 kb)), k0_pay113 v26 v34 v36 k0_pay89 (k0_pay97 v10 (k0_pay90 kb)) (k0_pay98 v18 (k0_pay91 vb))))
    (hG10 : ∀ m y, arg10.view.read (Elt Ideal) G_arg10 (ix2 m y) = b10 (ix2 m y) + if m.val < 256 then keyAll q d l e K V m y else 0)
    (hG11 : ∀ m y, arg11.view.read (Elt Ideal) G_arg11 (ix2 m y) = b11 (ix2 m y) + if m.val < 256 then valueAll q d l K m y else 0)
    (n : ℕ) (hn : n ≤ (k0_t1_loop i).trips) :
    Done q d l e K V T (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init n).1 b10 (arg10.view.read (Elt Ideal) (arg10.view.writes (Elt Ideal) G_arg10 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init n).2.1))
      b11 (arg11.view.read (Elt Ideal) (arg11.view.writes (Elt Ideal) G_arg11 (st_k0_t1 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 X_arg4 X_arg5 X_arg6 G_arg10 G_arg11 init n).2.2)) n := by
  subst hK hV hT h4 h6 h8 h10 h12 h14 h16 h18 h20 h22 h24 h26 h28 h30 h32 h34
  have A := loop_at 𝒱 c bd i arg2 harg2 arg3 harg3 arg4 harg4 arg5 harg5 arg6 harg6 arg7 harg7 arg8 harg8 arg9 harg9 arg10 harg10 arg11 harg11 arg1 (q 0) (q 1) (q 2) (q 3) (d 0) (d 1) (d 2) (d 3) (l 0) (l 1) (l 2) (l 3) (e 0) (e 1) (e 2) (e 3) v36 v39 v40 v50 v54 v68 v82 v88 v94 v95 X_arg4 X_arg5 X_arg6 G_arg10 G_arg11 init n hn
  constructor
  · intro y r
    rw [A.c0, hinit]; dsimp only; rw [fquery0_at _ _ _ _ _ _ _ _ _ _ lo hkb hvb, zero86]
    exact chunks_eq _ _ _ h36 n y r
  · intro y r
    rw [A.c1, hinit]; dsimp only; rw [fquery1_at _ _ _ _ _ _ _ _ _ _ lo hkb hvb, zero87]
    exact chunks_eq _ _ _ h36 n y r
  · intro y r
    rw [A.c2, hinit]; dsimp only; rw [fquery2_at _ _ _ _ _ _ _ _ _ _ lo hkb hvb, zero88]
    exact chunks_eq _ _ _ h36 n y r
  · intro y r
    rw [A.c3, hinit]; dsimp only; rw [fquery3_at _ _ _ _ _ _ _ _ _ _ lo hkb hvb, zero89]
    exact chunks_eq _ _ _ h36 n y r
  · intro m y
    rw [A.keys]
    have s : keyAdd (q 0) (q 1) (q 2) (q 3) (d 0) (d 1) (d 2) (d 3) (l 0) (l 1) (l 2) (l 3) (e 0) (e 1) (e 2) (e 3) (arg4.view.read (Elt Ideal) X_arg4) (arg5.view.read (Elt Ideal) X_arg5) m y
        = keyAll q d l e (arg4.view.read (Elt Ideal) X_arg4) (arg5.view.read (Elt Ideal) X_arg5) m y := by
      unfold keyAll keyAdd; rw [Fin.sum_univ_four]
    rw [s]
    exact split_rows _ _ _ _ _ (hG10 m y)
  · intro m y
    rw [A.values]
    have s : valueAdd (q 0) (q 1) (q 2) (q 3) (d 0) (d 1) (d 2) (d 3) (l 0) (l 1) (l 2) (l 3) (arg4.view.read (Elt Ideal) X_arg4) m y
        = valueAll q d l (arg4.view.read (Elt Ideal) X_arg4) m y := by
      unfold valueAll valueAdd; rw [Fin.sum_univ_four]
    rw [s]
    exact split_rows _ _ _ _ _ (hG11 m y)

/-- The first store into the keys' gradient adds what the heads' rows add. -/
theorem first_keys (q d : Fin 4 → FVec Ideal S256x128 .bf16) (l e : Fin 4 → FVec Ideal S1x256 .f32) (K V : FVec Ideal S8448x128 .bf16)
    (kb vb : FVec Ideal S256x128 .bf16) (hkb : ∀ n x, kb (ix2 n x) = K (ix2 (lo n) x)) (hvb : ∀ n x, vb (ix2 n x) = V (ix2 (lo n) x))
    (z : FVec Ideal S256x128 .f32) (b : FVec Ideal S8448x128 .f32) (hz : ∀ n y, z (ix2 n y) = b (ix2 (lo n) y)) (n : Fin 256) (y : Fin 128) :
    k0_pay114 (q 3) (l 3) (e 3) (k0_pay97 (q 3) (k0_pay90 kb)) (k0_pay98 (d 3) (k0_pay91 vb))
        (k0_pay108 (q 0) (q 1) (q 2) (d 0) (d 1) (d 2) (l 0) (l 1) (l 2) (e 0) (e 1) (e 2) (k0_pay91 vb) k0_pay92 (k0_pay94 (q 0) kb) (k0_pay95 (q 1) kb) (k0_pay96 (q 2) kb)) z (ix2 n y)
      = b (ix2 (lo n) y) + keyAll q d l e K V (lo n) y := by
  rw [fkey_at (q 0) (q 1) (q 2) (q 3) (d 0) (d 1) (d 2) (d 3) (l 0) (l 1) (l 2) (l 3) (e 0) (e 1) (e 2) (e 3) K V kb vb z lo hkb hvb, hz]
  unfold keyAll; rw [Fin.sum_univ_four]

theorem first_values (q d : Fin 4 → FVec Ideal S256x128 .bf16) (l : Fin 4 → FVec Ideal S1x256 .f32) (K : FVec Ideal S8448x128 .bf16)
    (kb : FVec Ideal S256x128 .bf16) (hkb : ∀ n x, kb (ix2 n x) = K (ix2 (lo n) x))
    (z : FVec Ideal S256x128 .f32) (b : FVec Ideal S8448x128 .f32) (hz : ∀ n y, z (ix2 n y) = b (ix2 (lo n) y)) (n : Fin 256) (y : Fin 128) :
    k0_pay115 (d 3) (l 3) (k0_pay97 (q 3) (k0_pay90 kb))
        (k0_pay106 (d 0) (d 1) (d 2) (l 0) (l 1) (l 2) k0_pay93 (k0_pay94 (q 0) kb) (k0_pay95 (q 1) kb) (k0_pay96 (q 2) kb)) z (ix2 n y)
      = b (ix2 (lo n) y) + valueAll q d l K (lo n) y := by
  rw [fvalue_at (q 0) (q 1) (q 2) (q 3) (d 0) (d 1) (d 2) (d 3) (l 0) (l 1) (l 2) (l 3) K kb z lo hkb, hz]
  unfold valueAll; rw [Fin.sum_univ_four]

/-- The same with the rows and columns named. -/
theorem first_keys' (v4 v6 v8 v10 v12 v14 v16 v18 : FVec Ideal S256x128 .bf16) (v20 v22 v24 v26 v28 v30 v32 v34 : FVec Ideal S1x256 .f32) (q d : Fin 4 → FVec Ideal S256x128 .bf16) (l e : Fin 4 → FVec Ideal S1x256 .f32) (K V : FVec Ideal S8448x128 .bf16)
    (h4 : v4 = q 0) (h6 : v6 = q 1) (h8 : v8 = q 2) (h10 : v10 = q 3) (h12 : v12 = d 0) (h14 : v14 = d 1) (h16 : v16 = d 2) (h18 : v18 = d 3)
    (h20 : v20 = l 0) (h22 : v22 = l 1) (h24 : v24 = l 2) (h26 : v26 = l 3) (h28 : v28 = e 0) (h30 : v30 = e 1) (h32 : v32 = e 2) (h34 : v34 = e 3)
    (kb vb : FVec Ideal S256x128 .bf16) (hkb : ∀ n x, kb (ix2 n x) = K (ix2 (lo n) x)) (hvb : ∀ n x, vb (ix2 n x) = V (ix2 (lo n) x))
    (z : FVec Ideal S256x128 .f32) (b : FVec Ideal S8448x128 .f32) (hz : ∀ n y, z (ix2 n y) = b (ix2 (lo n) y)) (n : Fin 256) (y : Fin 128) :
    k0_pay114 v10 v26 v34 (k0_pay97 v10 (k0_pay90 kb)) (k0_pay98 v18 (k0_pay91 vb)) (k0_pay108 v4 v6 v8 v12 v14 v16 v20 v22 v24 v28 v30 v32 (k0_pay91 vb) k0_pay92 (k0_pay94 v4 kb) (k0_pay95 v6 kb) (k0_pay96 v8 kb)) z (ix2 n y) = b (ix2 (lo n) y) + keyAll q d l e K V (lo n) y := by
  subst h4 h6 h8 h10 h12 h14 h16 h18 h20 h22 h24 h26 h28 h30 h32 h34
  exact first_keys q d l e K V kb vb hkb hvb z b hz n y

theorem first_values' (v4 v6 v8 v10 v12 v14 v16 v18 : FVec Ideal S256x128 .bf16) (v20 v22 v24 v26 : FVec Ideal S1x256 .f32) (q d : Fin 4 → FVec Ideal S256x128 .bf16) (l : Fin 4 → FVec Ideal S1x256 .f32) (K : FVec Ideal S8448x128 .bf16)
    (h4 : v4 = q 0) (h6 : v6 = q 1) (h8 : v8 = q 2) (h10 : v10 = q 3) (h12 : v12 = d 0) (h14 : v14 = d 1) (h16 : v16 = d 2) (h18 : v18 = d 3)
    (h20 : v20 = l 0) (h22 : v22 = l 1) (h24 : v24 = l 2) (h26 : v26 = l 3)
    (kb : FVec Ideal S256x128 .bf16) (hkb : ∀ n x, kb (ix2 n x) = K (ix2 (lo n) x))
    (z : FVec Ideal S256x128 .f32) (b : FVec Ideal S8448x128 .f32) (hz : ∀ n y, z (ix2 n y) = b (ix2 (lo n) y)) (n : Fin 256) (y : Fin 128) :
    k0_pay115 v18 v26 (k0_pay97 v10 (k0_pay90 kb)) (k0_pay106 v12 v14 v16 v20 v22 v24 k0_pay93 (k0_pay94 v4 kb) (k0_pay95 v6 kb) (k0_pay96 v8 kb)) z (ix2 n y) = b (ix2 (lo n) y) + valueAll q d l K (lo n) y := by
  subst h4 h6 h8 h10 h12 h14 h16 h18 h20 h22 h24 h26
  exact first_values q d l K kb hkb z b hz n y

end Cert.Attn.Dev

end
-- ==== Proof.Pieces.lean ====
/- What each of the three kinds of point stores, with the sums of the loop as the loop module reads them. -/
module

public import proofs.«01_k».proof.Proof.Core
public import proofs.«01_k».proof.Proof.DevValue
public import proofs.«01_k».proof.Proof.Loop

@[expose] public section

set_option maxRecDepth 16384

noncomputable section

namespace Cert.Attn.Dev

open Cert.KernelIdeal Cert.KernelIdeal.Gen Idealize.ShloMosaic Idealize.ShloMosaic.TcCoe Idealize.SL.Sem

/-- The loop kept for a remainder has no trips. -/
theorem trips_t2 (i : grid0.Coords) : (k0_t2_loop i).trips = 0 := Nat.le_zero.mp (k0_t2_abs i).2.1

/-- Before its first trip that loop has its initial values and has stored nothing. -/
theorem t2_start (𝒱 : Variants) (c : Dev nD) (bd : Option 𝒱.V) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (arg1 : BitVec 32) (v4 : FVec Ideal S256x128 .bf16) (v6 : FVec Ideal S256x128 .bf16) (v8 : FVec Ideal S256x128 .bf16) (v10 : FVec Ideal S256x128 .bf16) (v12 : FVec Ideal S256x128 .bf16) (v14 : FVec Ideal S256x128 .bf16) (v16 : FVec Ideal S256x128 .bf16) (v18 : FVec Ideal S256x128 .bf16) (v20 : FVec Ideal S1x256 .f32) (v22 : FVec Ideal S1x256 .f32) (v24 : FVec Ideal S1x256 .f32) (v26 : FVec Ideal S1x256 .f32) (v28 : FVec Ideal S1x256 .f32) (v30 : FVec Ideal S1x256 .f32) (v32 : FVec Ideal S1x256 .f32) (v34 : FVec Ideal S1x256 .f32) (v36 : FVec Ideal S128x256 .bf16) (v39 : FVec Ideal S128x256 .f32) (v40 : FVec Ideal S128x256 .f32) (v50 : FVec Ideal S256x256 .f32) (v54 : FVec Ideal S256x256 .f32) (v68 : FVec Ideal S128x256 .f32) (v82 : FVec Ideal S128x256 .f32) (v88 : FVec Ideal S256x128 .f32) (v94 : FVec Ideal S256x128 .f32) (v95 : FVec Ideal S128x256 .f32) (v125 : BitVec 32) (X_arg4 : BufTy.Contents (Elt Ideal) arg4.view.ty) (X_arg5 : BufTy.Contents (Elt Ideal) arg5.view.ty) (X_arg6 : BufTy.Contents (Elt Ideal) arg6.view.ty) (G_arg10 : BufTy.Contents (Elt Ideal) arg10.view.ty) (G_arg11 : BufTy.Contents (Elt Ideal) arg11.view.ty) (init : FVec Ideal S128x256 .f32 × FVec Ideal S128x256 .f32 × FVec Ideal S128x256 .f32 × FVec Ideal S128x256 .f32) :
    (st_k0_t2 (F := Ideal) 𝒱 c bd i arg2 harg2 arg3 harg3 arg4 harg4 arg5 harg5 arg6 harg6 arg7 harg7 arg8 harg8 arg9 harg9 arg10 harg10 arg11 harg11 arg1 v4 v6 v8 v10 v12 v14 v16 v18 v20 v22 v24 v26 v28 v30 v32 v34 v36 v39 v40 v50 v54 v68 v82 v88 v94 v95 v125 X_arg4 X_arg5 X_arg6 G_arg10 G_arg11 init 0) = (init, [], []) :=
  Eq.trans rfl (Eq.refl _)

/-- The loop of the first point of a group, run to its end. -/
abbrev sumA (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) : (FVec Ideal S128x256 .f32 × FVec Ideal S128x256 .f32 × FVec Ideal S128x256 .f32 × FVec Ideal S128x256 .f32) × (List (View.Piece (Elt Ideal) S8448x128 .f32)) × (List (View.Piece (Elt Ideal) S8448x128 .f32)) :=
  (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (k0_t1_loop i).trips)

/-- The remainder's loop of the first point of a group, after `n` trips. -/
abbrev restA (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (n : ℕ) : (FVec Ideal S128x256 .f32 × FVec Ideal S128x256 .f32 × FVec Ideal S128x256 .f32 × FVec Ideal S128x256 .f32) × (List (View.Piece (Elt Ideal) S8448x128 .f32)) × (List (View.Piece (Elt Ideal) S8448x128 .f32)) :=
  (st_k0_t2 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (kernelRun0_A.sl.v125 i) (harg4.unread x2) (harg5.unread x3) (harg6.unread x4) (arg10.view.writes (Elt Ideal) arg10.view.junk ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (k0_t1_loop i).trips).2.1 ++ (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32))))) (arg11.view.writes (Elt Ideal) arg11.view.junk ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (k0_t1_loop i).trips).2.2 ++ (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32))))) ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (k0_t1_loop i).trips).1.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (k0_t1_loop i).trips).1.2.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (k0_t1_loop i).trips).1.2.2.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (k0_t1_loop i).trips).1.2.2.2) n)

theorem restA_zero (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) :
    (restA c i arg2 harg2 arg3 harg3 arg4 harg4 arg5 harg5 arg6 harg6 arg7 harg7 arg8 harg8 arg9 harg9 arg10 harg10 arg11 harg11 x0 x1 x2 x3 x4 x5 x6 0) = (((sumA c i arg2 harg2 arg3 harg3 arg4 harg4 arg5 harg5 arg6 harg6 arg7 harg7 arg8 harg8 arg9 harg9 arg10 harg10 arg11 harg11 x0 x1 x2 x3 x4 x5 x6).1.1, (sumA c i arg2 harg2 arg3 harg3 arg4 harg4 arg5 harg5 arg6 harg6 arg7 harg7 arg8 harg8 arg9 harg9 arg10 harg10 arg11 harg11 x0 x1 x2 x3 x4 x5 x6).1.2.1, (sumA c i arg2 harg2 arg3 harg3 arg4 harg4 arg5 harg5 arg6 harg6 arg7 harg7 arg8 harg8 arg9 harg9 arg10 harg10 arg11 harg11 x0 x1 x2 x3 x4 x5 x6).1.2.2.1, (sumA c i arg2 harg2 arg3 harg3 arg4 harg4 arg5 harg5 arg6 harg6 arg7 harg7 arg8 harg8 arg9 harg9 arg10 harg10 arg11 harg11 x0 x1 x2 x3 x4 x5 x6).1.2.2.2), [], []) := by
  unfold restA
  rw [t2_start]

theorem pieces_A_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) :
    (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).1 = [⟨Rect.unit (s := S256x512) ![0, 384] S256x128.size inb_S256x512_S256x128_0_384, k0_pay3 (sumA c i arg2 harg2 arg3 harg3 arg4 harg4 arg5 harg5 arg6 harg6 arg7 harg7 arg8 harg8 arg9 harg9 arg10 harg10 arg11 harg11 x0 x1 x2 x3 x4 x5 x6).1.2.2.2⟩, ⟨Rect.unit (s := S256x512) ![0, 256] S256x128.size inb_S256x512_S256x128_0_256, k0_pay2 (sumA c i arg2 harg2 arg3 harg3 arg4 harg4 arg5 harg5 arg6 harg6 arg7 harg7 arg8 harg8 arg9 harg9 arg10 harg10 arg11 harg11 x0 x1 x2 x3 x4 x5 x6).1.2.2.1⟩, ⟨Rect.unit (s := S256x512) ![0, 128] S256x128.size inb_S256x512_S256x128_0_128, k0_pay1 (sumA c i arg2 harg2 arg3 harg3 arg4 harg4 arg5 harg5 arg6 harg6 arg7 harg7 arg8 harg8 arg9 harg9 arg10 harg10 arg11 harg11 x0 x1 x2 x3 x4 x5 x6).1.2.1⟩, ⟨Rect.unit (s := S256x512) ![0, 0] S256x128.size inb_S256x512_S256x128_0_0, k0_pay122 (sumA c i arg2 harg2 arg3 harg3 arg4 harg4 arg5 harg5 arg6 harg6 arg7 harg7 arg8 harg8 arg9 harg9 arg10 harg10 arg11 harg11 x0 x1 x2 x3 x4 x5 x6).1.1⟩] := by
  have h : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).1 = [⟨Rect.unit (s := S256x512) ![0, 384] S256x128.size inb_S256x512_S256x128_0_384, k0_pay3 (restA c i arg2 harg2 arg3 harg3 arg4 harg4 arg5 harg5 arg6 harg6 arg7 harg7 arg8 harg8 arg9 harg9 arg10 harg10 arg11 harg11 x0 x1 x2 x3 x4 x5 x6 (k0_t2_loop i).trips).1.2.2.2⟩, ⟨Rect.unit (s := S256x512) ![0, 256] S256x128.size inb_S256x512_S256x128_0_256, k0_pay2 (restA c i arg2 harg2 arg3 harg3 arg4 harg4 arg5 harg5 arg6 harg6 arg7 harg7 arg8 harg8 arg9 harg9 arg10 harg10 arg11 harg11 x0 x1 x2 x3 x4 x5 x6 (k0_t2_loop i).trips).1.2.2.1⟩, ⟨Rect.unit (s := S256x512) ![0, 128] S256x128.size inb_S256x512_S256x128_0_128, k0_pay1 (restA c i arg2 harg2 arg3 harg3 arg4 harg4 arg5 harg5 arg6 harg6 arg7 harg7 arg8 harg8 arg9 harg9 arg10 harg10 arg11 harg11 x0 x1 x2 x3 x4 x5 x6 (k0_t2_loop i).trips).1.2.1⟩, ⟨Rect.unit (s := S256x512) ![0, 0] S256x128.size inb_S256x512_S256x128_0_0, k0_pay122 (restA c i arg2 harg2 arg3 harg3 arg4 harg4 arg5 harg5 arg6 harg6 arg7 harg7 arg8 harg8 arg9 harg9 arg10 harg10 arg11 harg11 x0 x1 x2 x3 x4 x5 x6 (k0_t2_loop i).trips).1.1⟩] := by
    unfold kernelRun0_A; dsimp only [restA, sumA, kernelRun0_A.sl.r_29, kernelRun0_A.sl.r_30, kernelRun0_A.sl.r_31, kernelRun0_A.sl.H8_2, kernelRun0_A.sl.H9_2, kernelRun0_A.sl.H8_1, kernelRun0_A.sl.H9_1, kernelRun0_A.sl.v111, kernelRun0_A.sl.v115]
  exact h.trans (by rw [trips_t2, restA_zero] <;> simp only [List.nil_append])

theorem pieces_A_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) :
    (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.1 = (sumA c i arg2 harg2 arg3 harg3 arg4 harg4 arg5 harg5 arg6 harg6 arg7 harg7 arg8 harg8 arg9 harg9 arg10 harg10 arg11 harg11 x0 x1 x2 x3 x4 x5 x6).2.1 ++ (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32))) := by
  have h : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.1 = (restA c i arg2 harg2 arg3 harg3 arg4 harg4 arg5 harg5 arg6 harg6 arg7 harg7 arg8 harg8 arg9 harg9 arg10 harg10 arg11 harg11 x0 x1 x2 x3 x4 x5 x6 (k0_t2_loop i).trips).2.1 ++ ((sumA c i arg2 harg2 arg3 harg3 arg4 harg4 arg5 harg5 arg6 harg6 arg7 harg7 arg8 harg8 arg9 harg9 arg10 harg10 arg11 harg11 x0 x1 x2 x3 x4 x5 x6).2.1 ++ (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) := by
    unfold kernelRun0_A; dsimp only [restA, sumA, kernelRun0_A.sl.r_29, kernelRun0_A.sl.r_30, kernelRun0_A.sl.r_31, kernelRun0_A.sl.H8_2, kernelRun0_A.sl.H9_2, kernelRun0_A.sl.H8_1, kernelRun0_A.sl.H9_1, kernelRun0_A.sl.v111, kernelRun0_A.sl.v115]
  exact h.trans (by rw [trips_t2, restA_zero] <;> simp only [List.nil_append])

theorem pieces_A_9 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) :
    (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.2.1 = (sumA c i arg2 harg2 arg3 harg3 arg4 harg4 arg5 harg5 arg6 harg6 arg7 harg7 arg8 harg8 arg9 harg9 arg10 harg10 arg11 harg11 x0 x1 x2 x3 x4 x5 x6).2.2 ++ (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32))) := by
  have h : (kernelRun0_A (F := Ideal) c i arg2 harg2 arg3 harg3 arg4 harg4 arg5 harg5 arg6 harg6 arg7 harg7 arg8 harg8 arg9 harg9 arg10 harg10 arg11 harg11 hc0 hc1 x0 x1 x2 x3 x4 x5 x6).2.2.1 = (restA c i arg2 harg2 arg3 harg3 arg4 harg4 arg5 harg5 arg6 harg6 arg7 harg7 arg8 harg8 arg9 harg9 arg10 harg10 arg11 harg11 x0 x1 x2 x3 x4 x5 x6 (k0_t2_loop i).trips).2.2 ++ ((sumA c i arg2 harg2 arg3 harg3 arg4 harg4 arg5 harg5 arg6 harg6 arg7 harg7 arg8 harg8 arg9 harg9 arg10 harg10 arg11 harg11 x0 x1 x2 x3 x4 x5 x6).2.2 ++ (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))) := by
    unfold kernelRun0_A; dsimp only [restA, sumA, kernelRun0_A.sl.r_29, kernelRun0_A.sl.r_30, kernelRun0_A.sl.r_31, kernelRun0_A.sl.H8_2, kernelRun0_A.sl.H9_2, kernelRun0_A.sl.H8_1, kernelRun0_A.sl.H9_1, kernelRun0_A.sl.v111, kernelRun0_A.sl.v115]
  exact h.trans (by rw [trips_t2, restA_zero] <;> simp only [List.nil_append])

/-- The loop of a point between, run to its end. -/
abbrev sumB (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) : (FVec Ideal S128x256 .f32 × FVec Ideal S128x256 .f32 × FVec Ideal S128x256 .f32 × FVec Ideal S128x256 .f32) × (List (View.Piece (Elt Ideal) S8448x128 .f32)) × (List (View.Piece (Elt Ideal) S8448x128 .f32)) :=
  (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (k0_t1_loop i).trips)

/-- The remainder's loop of a point between, after `n` trips. -/
abbrev restB (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) (n : ℕ) : (FVec Ideal S128x256 .f32 × FVec Ideal S128x256 .f32 × FVec Ideal S128x256 .f32 × FVec Ideal S128x256 .f32) × (List (View.Piece (Elt Ideal) S8448x128 .f32)) × (List (View.Piece (Elt Ideal) S8448x128 .f32)) :=
  (st_k0_t2 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (kernelRun0_B.sl.v125 i) (harg4.unread x2) (harg5.unread x3) (harg6.unread x4) (arg10.view.writes (Elt Ideal) (harg10.unread xo8) ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (k0_t1_loop i).trips).2.1 ++ (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32))))) (arg11.view.writes (Elt Ideal) (harg11.unread xo9) ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (k0_t1_loop i).trips).2.2 ++ (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32))))) ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (k0_t1_loop i).trips).1.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (k0_t1_loop i).trips).1.2.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (k0_t1_loop i).trips).1.2.2.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (k0_t1_loop i).trips).1.2.2.2) n)

theorem restB_zero (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (restB c i arg2 harg2 arg3 harg3 arg4 harg4 arg5 harg5 arg6 harg6 arg7 harg7 arg8 harg8 arg9 harg9 arg10 harg10 arg11 harg11 x0 x1 x2 x3 x4 x5 x6 xo8 xo9 0) = (((sumB c i arg2 harg2 arg3 harg3 arg4 harg4 arg5 harg5 arg6 harg6 arg7 harg7 arg8 harg8 arg9 harg9 arg10 harg10 arg11 harg11 x0 x1 x2 x3 x4 x5 x6 xo8 xo9).1.1, (sumB c i arg2 harg2 arg3 harg3 arg4 harg4 arg5 harg5 arg6 harg6 arg7 harg7 arg8 harg8 arg9 harg9 arg10 harg10 arg11 harg11 x0 x1 x2 x3 x4 x5 x6 xo8 xo9).1.2.1, (sumB c i arg2 harg2 arg3 harg3 arg4 harg4 arg5 harg5 arg6 harg6 arg7 harg7 arg8 harg8 arg9 harg9 arg10 harg10 arg11 harg11 x0 x1 x2 x3 x4 x5 x6 xo8 xo9).1.2.2.1, (sumB c i arg2 harg2 arg3 harg3 arg4 harg4 arg5 harg5 arg6 harg6 arg7 harg7 arg8 harg8 arg9 harg9 arg10 harg10 arg11 harg11 x0 x1 x2 x3 x4 x5 x6 xo8 xo9).1.2.2.2), [], []) := by
  unfold restB
  rw [t2_start]

theorem pieces_B_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).1 = [⟨Rect.unit (s := S256x512) ![0, 384] S256x128.size inb_S256x512_S256x128_0_384, k0_pay3 (sumB c i arg2 harg2 arg3 harg3 arg4 harg4 arg5 harg5 arg6 harg6 arg7 harg7 arg8 harg8 arg9 harg9 arg10 harg10 arg11 harg11 x0 x1 x2 x3 x4 x5 x6 xo8 xo9).1.2.2.2⟩, ⟨Rect.unit (s := S256x512) ![0, 256] S256x128.size inb_S256x512_S256x128_0_256, k0_pay2 (sumB c i arg2 harg2 arg3 harg3 arg4 harg4 arg5 harg5 arg6 harg6 arg7 harg7 arg8 harg8 arg9 harg9 arg10 harg10 arg11 harg11 x0 x1 x2 x3 x4 x5 x6 xo8 xo9).1.2.2.1⟩, ⟨Rect.unit (s := S256x512) ![0, 128] S256x128.size inb_S256x512_S256x128_0_128, k0_pay1 (sumB c i arg2 harg2 arg3 harg3 arg4 harg4 arg5 harg5 arg6 harg6 arg7 harg7 arg8 harg8 arg9 harg9 arg10 harg10 arg11 harg11 x0 x1 x2 x3 x4 x5 x6 xo8 xo9).1.2.1⟩, ⟨Rect.unit (s := S256x512) ![0, 0] S256x128.size inb_S256x512_S256x128_0_0, k0_pay122 (sumB c i arg2 harg2 arg3 harg3 arg4 harg4 arg5 harg5 arg6 harg6 arg7 harg7 arg8 harg8 arg9 harg9 arg10 harg10 arg11 harg11 x0 x1 x2 x3 x4 x5 x6 xo8 xo9).1.1⟩] := by
  have h : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).1 = [⟨Rect.unit (s := S256x512) ![0, 384] S256x128.size inb_S256x512_S256x128_0_384, k0_pay3 (restB c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.2.2.2⟩, ⟨Rect.unit (s := S256x512) ![0, 256] S256x128.size inb_S256x512_S256x128_0_256, k0_pay2 (restB c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.2.2.1⟩, ⟨Rect.unit (s := S256x512) ![0, 128] S256x128.size inb_S256x512_S256x128_0_128, k0_pay1 (restB c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.2.1⟩, ⟨Rect.unit (s := S256x512) ![0, 0] S256x128.size inb_S256x512_S256x128_0_0, k0_pay122 (restB c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.1⟩] := by
    unfold kernelRun0_B; dsimp only [restB, sumB, kernelRun0_B.sl.r_29, kernelRun0_B.sl.r_30, kernelRun0_B.sl.r_31]
  exact h.trans (by rw [trips_t2, restB_zero] <;> simp only [List.nil_append])

theorem pieces_B_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.1 = (sumB c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32))) := by
  have h : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.1 = (restB c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).2.1 ++ ((sumB c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) := by
    unfold kernelRun0_B; dsimp only [restB, sumB, kernelRun0_B.sl.r_29, kernelRun0_B.sl.r_30, kernelRun0_B.sl.r_31]
  exact h.trans (by rw [trips_t2, restB_zero] <;> simp only [List.nil_append])

theorem pieces_B_9 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.2.1 = (sumB c i arg2 harg2 arg3 harg3 arg4 harg4 arg5 harg5 arg6 harg6 arg7 harg7 arg8 harg8 arg9 harg9 arg10 harg10 arg11 harg11 x0 x1 x2 x3 x4 x5 x6 xo8 xo9).2.2 ++ (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32))) := by
  have h : (kernelRun0_B (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.2.1 = (restB c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).2.2 ++ ((sumB c i arg2 harg2 arg3 harg3 arg4 harg4 arg5 harg5 arg6 harg6 arg7 harg7 arg8 harg8 arg9 harg9 arg10 harg10 arg11 harg11 x0 x1 x2 x3 x4 x5 x6 xo8 xo9).2.2 ++ (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) := by
    unfold kernelRun0_B; dsimp only [restB, sumB, kernelRun0_B.sl.r_29, kernelRun0_B.sl.r_30, kernelRun0_B.sl.r_31]
  exact h.trans (by rw [trips_t2, restB_zero] <;> simp only [List.nil_append])

/-- The loop of the last point of a group, run to its end. -/
abbrev sumC (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) : (FVec Ideal S128x256 .f32 × FVec Ideal S128x256 .f32 × FVec Ideal S128x256 .f32 × FVec Ideal S128x256 .f32) × (List (View.Piece (Elt Ideal) S8448x128 .f32)) × (List (View.Piece (Elt Ideal) S8448x128 .f32)) :=
  (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (k0_t1_loop i).trips)

/-- The remainder's loop of the last point of a group, after `n` trips. -/
abbrev restC (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) (n : ℕ) : (FVec Ideal S128x256 .f32 × FVec Ideal S128x256 .f32 × FVec Ideal S128x256 .f32 × FVec Ideal S128x256 .f32) × (List (View.Piece (Elt Ideal) S8448x128 .f32)) × (List (View.Piece (Elt Ideal) S8448x128 .f32)) :=
  (st_k0_t2 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (kernelRun0_C.sl.v125 i) (harg4.unread x2) (harg5.unread x3) (harg6.unread x4) (arg10.view.writes (Elt Ideal) (harg10.unread xo8) ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (k0_t1_loop i).trips).2.1 ++ (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32))))) (arg11.view.writes (Elt Ideal) (harg11.unread xo9) ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (k0_t1_loop i).trips).2.2 ++ (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32))))) ((st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (k0_t1_loop i).trips).1.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (k0_t1_loop i).trips).1.2.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (k0_t1_loop i).trips).1.2.2.1, (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (k0_t1_loop i).trips).1.2.2.2) n)

theorem restC_zero (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (restC c i arg2 harg2 arg3 harg3 arg4 harg4 arg5 harg5 arg6 harg6 arg7 harg7 arg8 harg8 arg9 harg9 arg10 harg10 arg11 harg11 x0 x1 x2 x3 x4 x5 x6 xo8 xo9 0) = (((sumC c i arg2 harg2 arg3 harg3 arg4 harg4 arg5 harg5 arg6 harg6 arg7 harg7 arg8 harg8 arg9 harg9 arg10 harg10 arg11 harg11 x0 x1 x2 x3 x4 x5 x6 xo8 xo9).1.1, (sumC c i arg2 harg2 arg3 harg3 arg4 harg4 arg5 harg5 arg6 harg6 arg7 harg7 arg8 harg8 arg9 harg9 arg10 harg10 arg11 harg11 x0 x1 x2 x3 x4 x5 x6 xo8 xo9).1.2.1, (sumC c i arg2 harg2 arg3 harg3 arg4 harg4 arg5 harg5 arg6 harg6 arg7 harg7 arg8 harg8 arg9 harg9 arg10 harg10 arg11 harg11 x0 x1 x2 x3 x4 x5 x6 xo8 xo9).1.2.2.1, (sumC c i arg2 harg2 arg3 harg3 arg4 harg4 arg5 harg5 arg6 harg6 arg7 harg7 arg8 harg8 arg9 harg9 arg10 harg10 arg11 harg11 x0 x1 x2 x3 x4 x5 x6 xo8 xo9).1.2.2.2), [], []) := by
  unfold restC
  rw [t2_start]

theorem pieces_C_7 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).1 = [⟨Rect.unit (s := S256x512) ![0, 384] S256x128.size inb_S256x512_S256x128_0_384, k0_pay3 (sumC c i arg2 harg2 arg3 harg3 arg4 harg4 arg5 harg5 arg6 harg6 arg7 harg7 arg8 harg8 arg9 harg9 arg10 harg10 arg11 harg11 x0 x1 x2 x3 x4 x5 x6 xo8 xo9).1.2.2.2⟩, ⟨Rect.unit (s := S256x512) ![0, 256] S256x128.size inb_S256x512_S256x128_0_256, k0_pay2 (sumC c i arg2 harg2 arg3 harg3 arg4 harg4 arg5 harg5 arg6 harg6 arg7 harg7 arg8 harg8 arg9 harg9 arg10 harg10 arg11 harg11 x0 x1 x2 x3 x4 x5 x6 xo8 xo9).1.2.2.1⟩, ⟨Rect.unit (s := S256x512) ![0, 128] S256x128.size inb_S256x512_S256x128_0_128, k0_pay1 (sumC c i arg2 harg2 arg3 harg3 arg4 harg4 arg5 harg5 arg6 harg6 arg7 harg7 arg8 harg8 arg9 harg9 arg10 harg10 arg11 harg11 x0 x1 x2 x3 x4 x5 x6 xo8 xo9).1.2.1⟩, ⟨Rect.unit (s := S256x512) ![0, 0] S256x128.size inb_S256x512_S256x128_0_0, k0_pay122 (sumC c i arg2 harg2 arg3 harg3 arg4 harg4 arg5 harg5 arg6 harg6 arg7 harg7 arg8 harg8 arg9 harg9 arg10 harg10 arg11 harg11 x0 x1 x2 x3 x4 x5 x6 xo8 xo9).1.1⟩] := by
  have h : (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).1 = [⟨Rect.unit (s := S256x512) ![0, 384] S256x128.size inb_S256x512_S256x128_0_384, k0_pay3 (restC c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.2.2.2⟩, ⟨Rect.unit (s := S256x512) ![0, 256] S256x128.size inb_S256x512_S256x128_0_256, k0_pay2 (restC c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.2.2.1⟩, ⟨Rect.unit (s := S256x512) ![0, 128] S256x128.size inb_S256x512_S256x128_0_128, k0_pay1 (restC c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.2.1⟩, ⟨Rect.unit (s := S256x512) ![0, 0] S256x128.size inb_S256x512_S256x128_0_0, k0_pay122 (restC c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).1.1⟩] := by
    unfold kernelRun0_C; dsimp only [restC, sumC, kernelRun0_C.sl.r_29, kernelRun0_C.sl.r_30, kernelRun0_C.sl.r_31]
  exact h.trans (by rw [trips_t2, restC_zero] <;> simp only [List.nil_append])

theorem pieces_C_8 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.1 = (⟨(Rect.unit (s := S8448x128) ![0, 0] S8448x128.size inb_S8448x128_S8448x128_0_0), k0_pay4 (View.readAt (Elt Ideal) arg10.view (Rect.unit (s := S8448x128) ![0, 0] S8448x128.size inb_S8448x128_S8448x128_0_0).toLoadRect (arg10.view.writes (Elt Ideal) (harg10.unread xo8) ((sumC c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32))))))⟩ :: ((sumC c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) : (List (View.Piece (Elt Ideal) S8448x128 .f32))) := by
  have h : (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.1 = (⟨(Rect.unit (s := S8448x128) ![0, 0] S8448x128.size inb_S8448x128_S8448x128_0_0), k0_pay4 (View.readAt (Elt Ideal) arg10.view (Rect.unit (s := S8448x128) ![0, 0] S8448x128.size inb_S8448x128_S8448x128_0_0).toLoadRect (arg10.view.writes (Elt Ideal) (harg10.unread xo8) ((restC c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).2.1 ++ ((sumC c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))))))⟩ :: ((restC c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).2.1 ++ ((sumC c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32))))) : (List (View.Piece (Elt Ideal) S8448x128 .f32))) := by
    unfold kernelRun0_C; dsimp only [restC, sumC, kernelRun0_C.sl.v147, kernelRun0_C.sl.r_29, kernelRun0_C.sl.r_30, kernelRun0_C.sl.r_31]
  exact h.trans (by rw [trips_t2, restC_zero] <;> simp only [List.nil_append])

theorem pieces_C_9 (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.2.1 = (sumC c i arg2 harg2 arg3 harg3 arg4 harg4 arg5 harg5 arg6 harg6 arg7 harg7 arg8 harg8 arg9 harg9 arg10 harg10 arg11 harg11 x0 x1 x2 x3 x4 x5 x6 xo8 xo9).2.2 ++ (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32))) := by
  have h : (kernelRun0_C (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9).2.2.1 = (restC c i arg2 harg2 arg3 harg3 arg4 harg4 arg5 harg5 arg6 harg6 arg7 harg7 arg8 harg8 arg9 harg9 arg10 harg10 arg11 harg11 x0 x1 x2 x3 x4 x5 x6 xo8 xo9 (k0_t2_loop i).trips).2.2 ++ ((sumC c i arg2 harg2 arg3 harg3 arg4 harg4 arg5 harg5 arg6 harg6 arg7 harg7 arg8 harg8 arg9 harg9 arg10 harg10 arg11 harg11 x0 x1 x2 x3 x4 x5 x6 xo8 xo9).2.2 ++ (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))) := by
    unfold kernelRun0_C; dsimp only [restC, sumC, kernelRun0_C.sl.r_29, kernelRun0_C.sl.r_30, kernelRun0_C.sl.r_31]
  exact h.trans (by rw [trips_t2, restC_zero] <;> simp only [List.nil_append])

end Cert.Attn.Dev

end
-- ==== Proof.Cases.lean ====
/- The three kinds of point of the gradient kernel: what each leaves in its three results. -/
module

public import proofs.«01_k».proof.Proof.Core
public import proofs.«01_k».proof.Proof.Pieces

@[expose] public section

set_option maxRecDepth 16384

noncomputable section

namespace Cert.Attn.Dev

open Cert.KernelIdeal Cert.KernelIdeal.Gen Idealize.ShloMosaic Idealize.ShloMosaic.TcCoe Idealize.SL.Sem

/-- What a point leaves: the queries' gradient of its rows, and the two gradients accumulated over the points. -/
structure Point (x0 x1 : FVec Ideal S256x512 .bf16) (x2 x3 : FVec Ideal S8448x128 .bf16) (x4 : FVec Ideal S1x33x128x256 .bf16) (x5 x6 : FVec Ideal S1x1x4x256 .f32)
    (b8 b9 : FVec Ideal S8448x128 .f32) (n : ℕ) (fin : EReal) (o7 : FVec Ideal S256x512 .f32) (o8 o9 : FVec Ideal S8448x128 .f32) : Prop where
  dq : ∀ (r : Fin 256) (h : Fin 4) (y : Fin 128), o7 (ix2 r ⟨128 * h.val + y.val, by omega⟩)
    = (∑ j ∈ Finset.range (4 * n + 1), chunk x4 (gr (hd h x0) (hd h x1) (ro h x5) (ro h x6) x2 x3) j y r) * (sc : EReal)
  dk : ∀ m y, o8 (ix2 m y) = (b8 (ix2 m y) + if m.val < 1024 * n + 256 then keyAll (fun h => hd h x0) (fun h => hd h x1) (fun h => ro h x5) (fun h => ro h x6) x2 x3 m y else 0) * fin
  dv : ∀ m y, o9 (ix2 m y) = b9 (ix2 m y) + if m.val < 1024 * n + 256 then valueAll (fun h => hd h x0) (fun h => hd h x1) (fun h => ro h x5) x2 m y else 0

/-- What the first kind of point has summed after its loop. -/
theorem done_A (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) :
    Done (fun h => hd h x0) (fun h => hd h x1) (fun h => ro h x5) (fun h => ro h x6) x2 x3 x4 (sumA c i arg2 harg2 arg3 harg3 arg4 harg4 arg5 harg5 arg6 harg6 arg7 harg7 arg8 harg8 arg9 harg9 arg10 harg10 arg11 harg11 x0 x1 x2 x3 x4 x5 x6).1 (fun _ => 0) (arg10.view.read (Elt Ideal) (arg10.view.writes (Elt Ideal) arg10.view.junk ((sumA c i arg2 harg2 arg3 harg3 arg4 harg4 arg5 harg5 arg6 harg6 arg7 harg7 arg8 harg8 arg9 harg9 arg10 harg10 arg11 harg11 x0 x1 x2 x3 x4 x5 x6).2.1 ++ (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32))))))
      (fun _ => 0) (arg11.view.read (Elt Ideal) (arg11.view.writes (Elt Ideal) arg11.view.junk ((sumA c i arg2 harg2 arg3 harg3 arg4 harg4 arg5 harg5 arg6 harg6 arg7 harg7 arg8 harg8 arg9 harg9 arg10 harg10 arg11 harg11 x0 x1 x2 x3 x4 x5 x6).2.2 ++ (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32)))))) (k0_t1_loop i).trips := by
  have hkb := load_rows arg4 harg4 x2
  have hvb := load_rows arg5 harg5 x3
  have hG10 := store_first arg10.view arg10.view.junk [⟨Rect.unit (s := S8448x128) ![0, 0] S8448x128.size inb_S8448x128_S8448x128_0_0, (k0_pay67 (F := Ideal))⟩] (fun _ => 0) (k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)) (keyAll (fun h => hd h x0) (fun h => hd h x1) (fun h => ro h x5) (fun h => ro h x6) x2 x3) (fun m y => (congrFun (View.read_writes_full _ _ _ _ _) _).trans (zero67 m y))
    (fun n y => first_keys' (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (fun h => hd h x0) (fun h => hd h x1) (fun h => ro h x5) (fun h => ro h x6) x2 x3 (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (load81 arg8 harg8 x6) (load82 arg8 harg8 x6) (load83 arg8 harg8 x6) (load84 arg8 harg8 x6) (View.readAt (Elt Ideal) arg4.view (Rect.unit (s := S8448x128) ![0, 0] S256x128.size inb_S8448x128_S256x128_0_0).toLoadRect (harg4.unread x2)) (View.readAt (Elt Ideal) arg5.view (Rect.unit (s := S8448x128) ![0, 0] S256x128.size inb_S8448x128_S256x128_0_0).toLoadRect (harg5.unread x3)) hkb hvb (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect) (fun _ => 0) (fun n y => (load_cov arg10 _ n y).trans (zero67 (lo n) y)) n y)
  have hG11 := store_first arg11.view arg11.view.junk [⟨Rect.unit (s := S8448x128) ![0, 0] S8448x128.size inb_S8448x128_S8448x128_0_0, (k0_pay68 (F := Ideal))⟩] (fun _ => 0) (k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)) (valueAll (fun h => hd h x0) (fun h => hd h x1) (fun h => ro h x5) x2) (fun m y => (congrFun (View.read_writes_full _ _ _ _ _) _).trans (zero68 m y))
    (fun n y => first_values' (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (fun h => hd h x0) (fun h => hd h x1) (fun h => ro h x5) x2 (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (View.readAt (Elt Ideal) arg4.view (Rect.unit (s := S8448x128) ![0, 0] S256x128.size inb_S8448x128_S256x128_0_0).toLoadRect (harg4.unread x2)) hkb (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect) (fun _ => 0) (fun n y => (load_cov arg11 _ n y).trans (zero68 (lo n) y)) n y)
  have core := point_core Variants.none c none i arg2 harg2 arg3 harg3 arg4 harg4 arg5 harg5 arg6 harg6 arg7 harg7 arg8 harg8 arg9 harg9 arg10 harg10 arg11 harg11 (BitVec.ofNat 32 (i 1).val) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg3 harg3 x1) (kernelRun0_A.sl.r_5 c arg3 harg3 x1) (kernelRun0_A.sl.r_6 c arg3 harg3 x1) (kernelRun0_A.sl.r_7 c arg3 harg3 x1) (kernelRun0_A.sl.r_8 c arg7 harg7 x5) (kernelRun0_A.sl.r_9 c arg7 harg7 x5) (kernelRun0_A.sl.r_10 c arg7 harg7 x5) (kernelRun0_A.sl.r_11 c arg7 harg7 x5) (kernelRun0_A.sl.r_12 c arg8 harg8 x6) (kernelRun0_A.sl.r_13 c arg8 harg8 x6) (kernelRun0_A.sl.r_14 c arg8 harg8 x6) (kernelRun0_A.sl.r_15 c arg8 harg8 x6) (kernelRun0_A.sl.r_16 c arg6 harg6 x4) k0_pay88 k0_pay89 (kernelRun0_A.sl.r_22 c arg2 harg2 arg4 harg4 x0 x2) (kernelRun0_A.sl.r_23 c arg3 harg3 arg5 harg5 x1 x3) (kernelRun0_A.sl.r_24 c arg2 harg2 arg3 harg3 arg4 harg4 arg5 harg5 arg6 harg6 arg7 harg7 arg8 harg8 x0 x1 x2 x3 x4 x5 x6) (kernelRun0_A.sl.r_25 c arg2 harg2 arg3 harg3 arg4 harg4 arg5 harg5 arg6 harg6 arg7 harg7 arg8 harg8 x0 x1 x2 x3 x4 x5 x6) (kernelRun0_A.sl.r_26 c arg2 harg2 arg3 harg3 arg4 harg4 arg7 harg7 x0 x1 x2 x5) (kernelRun0_A.sl.r_27 c arg2 harg2 arg3 harg3 arg4 harg4 arg5 harg5 arg7 harg7 arg8 harg8 x0 x1 x2 x3 x5 x6) (kernelRun0_A.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) arg10.view.junk (⟨(Rect.unit (s := S8448x128) ![0, 0] S256x128.size inb_S8448x128_S256x128_0_0), k0_pay114 (kernelRun0_A.sl.r_3 c arg2 harg2 x0) (kernelRun0_A.sl.r_11 c arg7 harg7 x5) (kernelRun0_A.sl.r_15 c arg8 harg8 x6) (kernelRun0_A.sl.r_22 c arg2 harg2 arg4 harg4 x0 x2) (kernelRun0_A.sl.r_23 c arg3 harg3 arg5 harg5 x1 x3) (kernelRun0_A.sl.r_27 c arg2 harg2 arg3 harg3 arg4 harg4 arg5 harg5 arg7 harg7 arg8 harg8 x0 x1 x2 x3 x5 x6) (arg10.view.readCov (Val := Elt Ideal) [⟨Rect.unit (s := S8448x128) ![0, 0] S8448x128.size inb_S8448x128_S8448x128_0_0, (k0_pay67 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay67 (F := Ideal))⟩] : (List (View.Piece (Elt Ideal) S8448x128 .f32)))) (arg11.view.writes (Elt Ideal) arg11.view.junk (⟨(Rect.unit (s := S8448x128) ![0, 0] S256x128.size inb_S8448x128_S256x128_0_0), k0_pay115 (kernelRun0_A.sl.r_7 c arg3 harg3 x1) (kernelRun0_A.sl.r_11 c arg7 harg7 x5) (kernelRun0_A.sl.r_22 c arg2 harg2 arg4 harg4 x0 x2) (kernelRun0_A.sl.r_26 c arg2 harg2 arg3 harg3 arg4 harg4 arg7 harg7 x0 x1 x2 x5) (arg11.view.readCov (Val := Elt Ideal) [⟨Rect.unit (s := S8448x128) ![0, 0] S8448x128.size inb_S8448x128_S8448x128_0_0, (k0_pay68 (F := Ideal))⟩] (Rect.unit (s := S8448x128) ![0, 0] S256x128.size inb_S8448x128_S256x128_0_0).toLoadRect)⟩ :: [⟨Rect.unit (s := S8448x128) ![0, 0] S8448x128.size inb_S8448x128_S8448x128_0_0, (k0_pay68 (F := Ideal))⟩] : (List (View.Piece (Elt Ideal) S8448x128 .f32))))
    ((kernelRun0_A.sl.r_24 c arg2 harg2 arg3 harg3 arg4 harg4 arg5 harg5 arg6 harg6 arg7 harg7 arg8 harg8 x0 x1 x2 x3 x4 x5 x6), (kernelRun0_A.sl.r_25 c arg2 harg2 arg3 harg3 arg4 harg4 arg5 harg5 arg6 harg6 arg7 harg7 arg8 harg8 x0 x1 x2 x3 x4 x5 x6), k0_pay110 k0_pay88 (kernelRun0_A.sl.r_28 c arg2 harg2 arg3 harg3 arg4 harg4 arg5 harg5 arg6 harg6 arg7 harg7 arg8 harg8 x0 x1 x2 x3 x4 x5 x6), k0_pay113 (kernelRun0_A.sl.r_11 c arg7 harg7 x5) (kernelRun0_A.sl.r_15 c arg8 harg8 x6) (kernelRun0_A.sl.r_16 c arg6 harg6 x4) k0_pay89 (kernelRun0_A.sl.r_22 c arg2 harg2 arg4 harg4 x0 x2) (kernelRun0_A.sl.r_23 c arg3 harg3 arg5 harg5 x1 x3)) (View.readAt (Elt Ideal) arg4.view (Rect.unit (s := S8448x128) ![0, 0] S256x128.size inb_S8448x128_S256x128_0_0).toLoadRect (harg4.unread x2)) (View.readAt (Elt Ideal) arg5.view (Rect.unit (s := S8448x128) ![0, 0] S256x128.size inb_S8448x128_S256x128_0_0).toLoadRect (harg5.unread x3)) (fun h => hd h x0) (fun h => hd h x1) (fun h => ro h x5) (fun h => ro h x6) x2 x3 x4 (fun _ => 0) (fun _ => 0) (harg4.read_unread x2) (harg5.read_unread x3) (harg6.read_unread x4)
    (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (load81 arg8 harg8 x6) (load82 arg8 harg8 x6) (load83 arg8 harg8 x6) (load84 arg8 harg8 x6) (load85 arg6 harg6 x4) hkb hvb rfl hG10 hG11 (k0_t1_loop i).trips le_rfl
  rw [View.writes_append, View.writes_append]
  with_reducible exact core

theorem point_A (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) :
    Point x0 x1 x2 x3 x4 x5 x6 (fun _ => 0) (fun _ => 0) (k0_t1_loop i).trips 1 (out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6) (out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6) (out0_A_9 (F := Ideal) c i arg2 harg2 arg3 harg3 arg4 harg4 arg5 harg5 arg6 harg6 arg7 harg7 arg8 harg8 arg9 harg9 arg10 harg10 arg11 harg11 hc0 hc1 x0 x1 x2 x3 x4 x5 x6) := by
  have core := done_A c i arg2 harg2 arg3 harg3 arg4 harg4 arg5 harg5 arg6 harg6 arg7 harg7 arg8 harg8 arg9 harg9 arg10 harg10 arg11 harg11 x0 x1 x2 x3 x4 x5 x6
  constructor
  · intro r h y
    unfold out0_A_7
    rw [pieces_A_7]
    refine (four_cols VO0_7 _ (![k0_pay122 (sumA c i arg2 harg2 arg3 harg3 arg4 harg4 arg5 harg5 arg6 harg6 arg7 harg7 arg8 harg8 arg9 harg9 arg10 harg10 arg11 harg11 x0 x1 x2 x3 x4 x5 x6).1.1, k0_pay1 (sumA c i arg2 harg2 arg3 harg3 arg4 harg4 arg5 harg5 arg6 harg6 arg7 harg7 arg8 harg8 arg9 harg9 arg10 harg10 arg11 harg11 x0 x1 x2 x3 x4 x5 x6).1.2.1, k0_pay2 (sumA c i arg2 harg2 arg3 harg3 arg4 harg4 arg5 harg5 arg6 harg6 arg7 harg7 arg8 harg8 arg9 harg9 arg10 harg10 arg11 harg11 x0 x1 x2 x3 x4 x5 x6).1.2.2.1, k0_pay3 (sumA c i arg2 harg2 arg3 harg3 arg4 harg4 arg5 harg5 arg6 harg6 arg7 harg7 arg8 harg8 arg9 harg9 arg10 harg10 arg11 harg11 x0 x1 x2 x3 x4 x5 x6).1.2.2.2] : Fin 4 → FVec Ideal S256x128 .f32) r h y).trans ?_
    match h with
    | 0 => exact (store0_at _ r y).trans (congrArg (· * (sc : EReal)) (core.c0 y r))
    | 1 => exact (store1_at _ r y).trans (congrArg (· * (sc : EReal)) (core.c1 y r))
    | 2 => exact (store2_at _ r y).trans (congrArg (· * (sc : EReal)) (core.c2 y r))
    | 3 => exact (store3_at _ r y).trans (congrArg (· * (sc : EReal)) (core.c3 y r))
  · intro m y
    unfold out0_A_8
    rw [View.read_writes_of_cover VO0_8 VO0_8.junk arg10.view arg10.view.junk _ (cover0_A_8 c i arg2 harg2 arg3 harg3 arg4 harg4 arg5 harg5 arg6 harg6 arg7 harg7 arg8 harg8 arg9 harg9 arg10 harg10 arg11 harg11 hc0 hc1 x0 x1 x2 x3 x4 x5 x6), pieces_A_8, mul_one]
    exact core.keys m y
  · intro m y
    unfold out0_A_9
    rw [View.read_writes_of_cover VO0_9 VO0_9.junk arg11.view arg11.view.junk _ (cover0_A_9 c i arg2 harg2 arg3 harg3 arg4 harg4 arg5 harg5 arg6 harg6 arg7 harg7 arg8 harg8 arg9 harg9 arg10 harg10 arg11 harg11 hc0 hc1 x0 x1 x2 x3 x4 x5 x6), pieces_A_9]
    exact core.values m y

/-- What the middle kind of point has summed after its loop. -/
theorem done_B (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    Done (fun h => hd h x0) (fun h => hd h x1) (fun h => ro h x5) (fun h => ro h x6) x2 x3 x4 (sumB c i arg2 harg2 arg3 harg3 arg4 harg4 arg5 harg5 arg6 harg6 arg7 harg7 arg8 harg8 arg9 harg9 arg10 harg10 arg11 harg11 x0 x1 x2 x3 x4 x5 x6 xo8 xo9).1 xo8 (arg10.view.read (Elt Ideal) (arg10.view.writes (Elt Ideal) (harg10.unread xo8) ((sumB c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32))))))
      xo9 (arg11.view.read (Elt Ideal) (arg11.view.writes (Elt Ideal) (harg11.unread xo9) ((sumB c i arg2 harg2 arg3 harg3 arg4 harg4 arg5 harg5 arg6 harg6 arg7 harg7 arg8 harg8 arg9 harg9 arg10 harg10 arg11 harg11 x0 x1 x2 x3 x4 x5 x6 xo8 xo9).2.2 ++ (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))))) (k0_t1_loop i).trips := by
  have hkb := load_rows arg4 harg4 x2
  have hvb := load_rows arg5 harg5 x3
  have hG10 := store_first arg10.view (harg10.unread xo8) [] xo8 (k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))) (keyAll (fun h => hd h x0) (fun h => hd h x1) (fun h => ro h x5) (fun h => ro h x6) x2 x3) (fun m y => by rw [View.writes_nil, harg10.read_unread])
    (fun n y => first_keys' (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (fun h => hd h x0) (fun h => hd h x1) (fun h => ro h x5) (fun h => ro h x6) x2 x3 (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (load81 arg8 harg8 x6) (load82 arg8 harg8 x6) (load83 arg8 harg8 x6) (load84 arg8 harg8 x6) (View.readAt (Elt Ideal) arg4.view (Rect.unit (s := S8448x128) ![0, 0] S256x128.size inb_S8448x128_S256x128_0_0).toLoadRect (harg4.unread x2)) (View.readAt (Elt Ideal) arg5.view (Rect.unit (s := S8448x128) ![0, 0] S256x128.size inb_S8448x128_S256x128_0_0).toLoadRect (harg5.unread x3)) hkb hvb (View.readAt (Elt Ideal) arg10.view (Rect.unit (s := S8448x128) ![0, 0] S256x128.size inb_S8448x128_S256x128_0_0).toLoadRect (harg10.unread xo8)) xo8 (fun n y => load_old arg10 harg10 _ n y) n y)
  have hG11 := store_first arg11.view (harg11.unread xo9) [] xo9 (k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))) (valueAll (fun h => hd h x0) (fun h => hd h x1) (fun h => ro h x5) x2) (fun m y => by rw [View.writes_nil, harg11.read_unread])
    (fun n y => first_values' (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (fun h => hd h x0) (fun h => hd h x1) (fun h => ro h x5) x2 (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (View.readAt (Elt Ideal) arg4.view (Rect.unit (s := S8448x128) ![0, 0] S256x128.size inb_S8448x128_S256x128_0_0).toLoadRect (harg4.unread x2)) hkb (View.readAt (Elt Ideal) arg11.view (Rect.unit (s := S8448x128) ![0, 0] S256x128.size inb_S8448x128_S256x128_0_0).toLoadRect (harg11.unread xo9)) xo9 (fun n y => load_old arg11 harg11 _ n y) n y)
  have core := point_core Variants.none c none i arg2 harg2 arg3 harg3 arg4 harg4 arg5 harg5 arg6 harg6 arg7 harg7 arg8 harg8 arg9 harg9 arg10 harg10 arg11 harg11 (BitVec.ofNat 32 (i 1).val) (kernelRun0_B.sl.r c arg2 harg2 x0) (kernelRun0_B.sl.r_1 c arg2 harg2 x0) (kernelRun0_B.sl.r_2 c arg2 harg2 x0) (kernelRun0_B.sl.r_3 c arg2 harg2 x0) (kernelRun0_B.sl.r_4 c arg3 harg3 x1) (kernelRun0_B.sl.r_5 c arg3 harg3 x1) (kernelRun0_B.sl.r_6 c arg3 harg3 x1) (kernelRun0_B.sl.r_7 c arg3 harg3 x1) (kernelRun0_B.sl.r_8 c arg7 harg7 x5) (kernelRun0_B.sl.r_9 c arg7 harg7 x5) (kernelRun0_B.sl.r_10 c arg7 harg7 x5) (kernelRun0_B.sl.r_11 c arg7 harg7 x5) (kernelRun0_B.sl.r_12 c arg8 harg8 x6) (kernelRun0_B.sl.r_13 c arg8 harg8 x6) (kernelRun0_B.sl.r_14 c arg8 harg8 x6) (kernelRun0_B.sl.r_15 c arg8 harg8 x6) (kernelRun0_B.sl.r_16 c arg6 harg6 x4) k0_pay88 k0_pay89 (kernelRun0_B.sl.r_22 c arg2 harg2 arg4 harg4 x0 x2) (kernelRun0_B.sl.r_23 c arg3 harg3 arg5 harg5 x1 x3) (kernelRun0_B.sl.r_24 c arg2 harg2 arg3 harg3 arg4 harg4 arg5 harg5 arg6 harg6 arg7 harg7 arg8 harg8 x0 x1 x2 x3 x4 x5 x6) (kernelRun0_B.sl.r_25 c arg2 harg2 arg3 harg3 arg4 harg4 arg5 harg5 arg6 harg6 arg7 harg7 arg8 harg8 x0 x1 x2 x3 x4 x5 x6) (kernelRun0_B.sl.r_26 c arg2 harg2 arg3 harg3 arg4 harg4 arg7 harg7 x0 x1 x2 x5) (kernelRun0_B.sl.r_27 c arg2 harg2 arg3 harg3 arg4 harg4 arg5 harg5 arg7 harg7 arg8 harg8 x0 x1 x2 x3 x5 x6) (kernelRun0_B.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_B.sl.r_3 c arg2 harg2 x0) (kernelRun0_B.sl.r_11 c arg7 harg7 x5) (kernelRun0_B.sl.r_15 c arg8 harg8 x6) (kernelRun0_B.sl.r_22 c arg2 harg2 arg4 harg4 x0 x2) (kernelRun0_B.sl.r_23 c arg3 harg3 arg5 harg5 x1 x3) (kernelRun0_B.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_B.sl.r_7 c arg3 harg3 x1) (kernelRun0_B.sl.r_11 c arg7 harg7 x5) (kernelRun0_B.sl.r_22 c arg2 harg2 arg4 harg4 x0 x2) (kernelRun0_B.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32))))
    ((kernelRun0_B.sl.r_24 c arg2 harg2 arg3 harg3 arg4 harg4 arg5 harg5 arg6 harg6 arg7 harg7 arg8 harg8 x0 x1 x2 x3 x4 x5 x6), (kernelRun0_B.sl.r_25 c arg2 harg2 arg3 harg3 arg4 harg4 arg5 harg5 arg6 harg6 arg7 harg7 arg8 harg8 x0 x1 x2 x3 x4 x5 x6), k0_pay110 k0_pay88 (kernelRun0_B.sl.r_28 c arg2 harg2 arg3 harg3 arg4 harg4 arg5 harg5 arg6 harg6 arg7 harg7 arg8 harg8 x0 x1 x2 x3 x4 x5 x6), k0_pay113 (kernelRun0_B.sl.r_11 c arg7 harg7 x5) (kernelRun0_B.sl.r_15 c arg8 harg8 x6) (kernelRun0_B.sl.r_16 c arg6 harg6 x4) k0_pay89 (kernelRun0_B.sl.r_22 c arg2 harg2 arg4 harg4 x0 x2) (kernelRun0_B.sl.r_23 c arg3 harg3 arg5 harg5 x1 x3)) (View.readAt (Elt Ideal) arg4.view (Rect.unit (s := S8448x128) ![0, 0] S256x128.size inb_S8448x128_S256x128_0_0).toLoadRect (harg4.unread x2)) (View.readAt (Elt Ideal) arg5.view (Rect.unit (s := S8448x128) ![0, 0] S256x128.size inb_S8448x128_S256x128_0_0).toLoadRect (harg5.unread x3)) (fun h => hd h x0) (fun h => hd h x1) (fun h => ro h x5) (fun h => ro h x6) x2 x3 x4 xo8 xo9 (harg4.read_unread x2) (harg5.read_unread x3) (harg6.read_unread x4)
    (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (load81 arg8 harg8 x6) (load82 arg8 harg8 x6) (load83 arg8 harg8 x6) (load84 arg8 harg8 x6) (load85 arg6 harg6 x4) hkb hvb rfl hG10 hG11 (k0_t1_loop i).trips le_rfl
  rw [View.writes_append, View.writes_append]
  with_reducible exact core

theorem point_B (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    Point x0 x1 x2 x3 x4 x5 x6 xo8 xo9 (k0_t1_loop i).trips 1 (out0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9) (out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9) (out0_B_9 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9) := by
  have core := done_B c i arg2 harg2 arg3 harg3 arg4 harg4 arg5 harg5 arg6 harg6 arg7 harg7 arg8 harg8 arg9 harg9 arg10 harg10 arg11 harg11 x0 x1 x2 x3 x4 x5 x6 xo8 xo9
  constructor
  · intro r h y
    unfold out0_B_7
    rw [pieces_B_7]
    refine (four_cols VO0_7 _ (![k0_pay122 (sumB c i arg2 harg2 arg3 harg3 arg4 harg4 arg5 harg5 arg6 harg6 arg7 harg7 arg8 harg8 arg9 harg9 arg10 harg10 arg11 harg11 x0 x1 x2 x3 x4 x5 x6 xo8 xo9).1.1, k0_pay1 (sumB c i arg2 harg2 arg3 harg3 arg4 harg4 arg5 harg5 arg6 harg6 arg7 harg7 arg8 harg8 arg9 harg9 arg10 harg10 arg11 harg11 x0 x1 x2 x3 x4 x5 x6 xo8 xo9).1.2.1, k0_pay2 (sumB c i arg2 harg2 arg3 harg3 arg4 harg4 arg5 harg5 arg6 harg6 arg7 harg7 arg8 harg8 arg9 harg9 arg10 harg10 arg11 harg11 x0 x1 x2 x3 x4 x5 x6 xo8 xo9).1.2.2.1, k0_pay3 (sumB c i arg2 harg2 arg3 harg3 arg4 harg4 arg5 harg5 arg6 harg6 arg7 harg7 arg8 harg8 arg9 harg9 arg10 harg10 arg11 harg11 x0 x1 x2 x3 x4 x5 x6 xo8 xo9).1.2.2.2] : Fin 4 → FVec Ideal S256x128 .f32) r h y).trans ?_
    match h with
    | 0 => exact (store0_at _ r y).trans (congrArg (· * (sc : EReal)) (core.c0 y r))
    | 1 => exact (store1_at _ r y).trans (congrArg (· * (sc : EReal)) (core.c1 y r))
    | 2 => exact (store2_at _ r y).trans (congrArg (· * (sc : EReal)) (core.c2 y r))
    | 3 => exact (store3_at _ r y).trans (congrArg (· * (sc : EReal)) (core.c3 y r))
  · intro m y
    unfold out0_B_8
    rw [pieces_B_8, mul_one]
    exact core.keys m y
  · intro m y
    unfold out0_B_9
    rw [pieces_B_9]
    exact core.values m y

/-- What the last kind of point has summed after its loop. -/
theorem done_C (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    Done (fun h => hd h x0) (fun h => hd h x1) (fun h => ro h x5) (fun h => ro h x6) x2 x3 x4 (sumC c i arg2 harg2 arg3 harg3 arg4 harg4 arg5 harg5 arg6 harg6 arg7 harg7 arg8 harg8 arg9 harg9 arg10 harg10 arg11 harg11 x0 x1 x2 x3 x4 x5 x6 xo8 xo9).1 xo8 (arg10.view.read (Elt Ideal) (arg10.view.writes (Elt Ideal) (harg10.unread xo8) ((sumC c i arg2 harg2 arg3 harg3 arg4 harg4 arg5 harg5 arg6 harg6 arg7 harg7 arg8 harg8 arg9 harg9 arg10 harg10 arg11 harg11 x0 x1 x2 x3 x4 x5 x6 xo8 xo9).2.1 ++ (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32))))))
      xo9 (arg11.view.read (Elt Ideal) (arg11.view.writes (Elt Ideal) (harg11.unread xo9) ((sumC c i arg2 harg2 arg3 harg3 arg4 harg4 arg5 harg5 arg6 harg6 arg7 harg7 arg8 harg8 arg9 harg9 arg10 harg10 arg11 harg11 x0 x1 x2 x3 x4 x5 x6 xo8 xo9).2.2 ++ (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32)))))) (k0_t1_loop i).trips := by
  have hkb := load_rows arg4 harg4 x2
  have hvb := load_rows arg5 harg5 x3
  have hG10 := store_first arg10.view (harg10.unread xo8) [] xo8 (k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))) (keyAll (fun h => hd h x0) (fun h => hd h x1) (fun h => ro h x5) (fun h => ro h x6) x2 x3) (fun m y => by rw [View.writes_nil, harg10.read_unread])
    (fun n y => first_keys' (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (fun h => hd h x0) (fun h => hd h x1) (fun h => ro h x5) (fun h => ro h x6) x2 x3 (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (load81 arg8 harg8 x6) (load82 arg8 harg8 x6) (load83 arg8 harg8 x6) (load84 arg8 harg8 x6) (View.readAt (Elt Ideal) arg4.view (Rect.unit (s := S8448x128) ![0, 0] S256x128.size inb_S8448x128_S256x128_0_0).toLoadRect (harg4.unread x2)) (View.readAt (Elt Ideal) arg5.view (Rect.unit (s := S8448x128) ![0, 0] S256x128.size inb_S8448x128_S256x128_0_0).toLoadRect (harg5.unread x3)) hkb hvb (View.readAt (Elt Ideal) arg10.view (Rect.unit (s := S8448x128) ![0, 0] S256x128.size inb_S8448x128_S256x128_0_0).toLoadRect (harg10.unread xo8)) xo8 (fun n y => load_old arg10 harg10 _ n y) n y)
  have hG11 := store_first arg11.view (harg11.unread xo9) [] xo9 (k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))) (valueAll (fun h => hd h x0) (fun h => hd h x1) (fun h => ro h x5) x2) (fun m y => by rw [View.writes_nil, harg11.read_unread])
    (fun n y => first_values' (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (fun h => hd h x0) (fun h => hd h x1) (fun h => ro h x5) x2 (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (View.readAt (Elt Ideal) arg4.view (Rect.unit (s := S8448x128) ![0, 0] S256x128.size inb_S8448x128_S256x128_0_0).toLoadRect (harg4.unread x2)) hkb (View.readAt (Elt Ideal) arg11.view (Rect.unit (s := S8448x128) ![0, 0] S256x128.size inb_S8448x128_S256x128_0_0).toLoadRect (harg11.unread xo9)) xo9 (fun n y => load_old arg11 harg11 _ n y) n y)
  have core := point_core Variants.none c none i arg2 harg2 arg3 harg3 arg4 harg4 arg5 harg5 arg6 harg6 arg7 harg7 arg8 harg8 arg9 harg9 arg10 harg10 arg11 harg11 (BitVec.ofNat 32 (i 1).val) (kernelRun0_C.sl.r c arg2 harg2 x0) (kernelRun0_C.sl.r_1 c arg2 harg2 x0) (kernelRun0_C.sl.r_2 c arg2 harg2 x0) (kernelRun0_C.sl.r_3 c arg2 harg2 x0) (kernelRun0_C.sl.r_4 c arg3 harg3 x1) (kernelRun0_C.sl.r_5 c arg3 harg3 x1) (kernelRun0_C.sl.r_6 c arg3 harg3 x1) (kernelRun0_C.sl.r_7 c arg3 harg3 x1) (kernelRun0_C.sl.r_8 c arg7 harg7 x5) (kernelRun0_C.sl.r_9 c arg7 harg7 x5) (kernelRun0_C.sl.r_10 c arg7 harg7 x5) (kernelRun0_C.sl.r_11 c arg7 harg7 x5) (kernelRun0_C.sl.r_12 c arg8 harg8 x6) (kernelRun0_C.sl.r_13 c arg8 harg8 x6) (kernelRun0_C.sl.r_14 c arg8 harg8 x6) (kernelRun0_C.sl.r_15 c arg8 harg8 x6) (kernelRun0_C.sl.r_16 c arg6 harg6 x4) k0_pay88 k0_pay89 (kernelRun0_C.sl.r_22 c arg2 harg2 arg4 harg4 x0 x2) (kernelRun0_C.sl.r_23 c arg3 harg3 arg5 harg5 x1 x3) (kernelRun0_C.sl.r_24 c arg2 harg2 arg3 harg3 arg4 harg4 arg5 harg5 arg6 harg6 arg7 harg7 arg8 harg8 x0 x1 x2 x3 x4 x5 x6) (kernelRun0_C.sl.r_25 c arg2 harg2 arg3 harg3 arg4 harg4 arg5 harg5 arg6 harg6 arg7 harg7 arg8 harg8 x0 x1 x2 x3 x4 x5 x6) (kernelRun0_C.sl.r_26 c arg2 harg2 arg3 harg3 arg4 harg4 arg7 harg7 x0 x1 x2 x5) (kernelRun0_C.sl.r_27 c arg2 harg2 arg3 harg3 arg4 harg4 arg5 harg5 arg7 harg7 arg8 harg8 x0 x1 x2 x3 x5 x6) (kernelRun0_C.sl.r_28 c arg2 harg2 arg3 harg3 arg4 harg4 arg5 harg5 arg6 harg6 arg7 harg7 arg8 harg8 x0 x1 x2 x3 x4 x5 x6) (harg4.unread x2) (harg5.unread x3) (harg6.unread x4) (arg10.view.writes (Elt Ideal) (harg10.unread xo8) (⟨(Rect.unit (s := S8448x128) ![0, 0] S256x128.size inb_S8448x128_S256x128_0_0), k0_pay114 (kernelRun0_C.sl.r_3 c arg2 harg2 x0) (kernelRun0_C.sl.r_11 c arg7 harg7 x5) (kernelRun0_C.sl.r_15 c arg8 harg8 x6) (kernelRun0_C.sl.r_22 c arg2 harg2 arg4 harg4 x0 x2) (kernelRun0_C.sl.r_23 c arg3 harg3 arg5 harg5 x1 x3) (kernelRun0_C.sl.r_27 c arg2 harg2 arg3 harg3 arg4 harg4 arg5 harg5 arg7 harg7 arg8 harg8 x0 x1 x2 x3 x5 x6) (View.readAt (Elt Ideal) arg10.view (Rect.unit (s := S8448x128) ![0, 0] S256x128.size inb_S8448x128_S256x128_0_0).toLoadRect (harg10.unread xo8))⟩ :: [] : (List (View.Piece (Elt Ideal) S8448x128 .f32)))) (arg11.view.writes (Elt Ideal) (harg11.unread xo9) (⟨(Rect.unit (s := S8448x128) ![0, 0] S256x128.size inb_S8448x128_S256x128_0_0), k0_pay115 (kernelRun0_C.sl.r_7 c arg3 harg3 x1) (kernelRun0_C.sl.r_11 c arg7 harg7 x5) (kernelRun0_C.sl.r_22 c arg2 harg2 arg4 harg4 x0 x2) (kernelRun0_C.sl.r_26 c arg2 harg2 arg3 harg3 arg4 harg4 arg7 harg7 x0 x1 x2 x5) (View.readAt (Elt Ideal) arg11.view (Rect.unit (s := S8448x128) ![0, 0] S256x128.size inb_S8448x128_S256x128_0_0).toLoadRect (harg11.unread xo9))⟩ :: [] : (List (View.Piece (Elt Ideal) S8448x128 .f32))))
    ((kernelRun0_C.sl.r_24 c arg2 harg2 arg3 harg3 arg4 harg4 arg5 harg5 arg6 harg6 arg7 harg7 arg8 harg8 x0 x1 x2 x3 x4 x5 x6), (kernelRun0_C.sl.r_25 c arg2 harg2 arg3 harg3 arg4 harg4 arg5 harg5 arg6 harg6 arg7 harg7 arg8 harg8 x0 x1 x2 x3 x4 x5 x6), k0_pay110 k0_pay88 (kernelRun0_C.sl.r_28 c arg2 harg2 arg3 harg3 arg4 harg4 arg5 harg5 arg6 harg6 arg7 harg7 arg8 harg8 x0 x1 x2 x3 x4 x5 x6), k0_pay113 (kernelRun0_C.sl.r_11 c arg7 harg7 x5) (kernelRun0_C.sl.r_15 c arg8 harg8 x6) (kernelRun0_C.sl.r_16 c arg6 harg6 x4) k0_pay89 (kernelRun0_C.sl.r_22 c arg2 harg2 arg4 harg4 x0 x2) (kernelRun0_C.sl.r_23 c arg3 harg3 arg5 harg5 x1 x3)) (View.readAt (Elt Ideal) arg4.view (Rect.unit (s := S8448x128) ![0, 0] S256x128.size inb_S8448x128_S256x128_0_0).toLoadRect (harg4.unread x2)) (View.readAt (Elt Ideal) arg5.view (Rect.unit (s := S8448x128) ![0, 0] S256x128.size inb_S8448x128_S256x128_0_0).toLoadRect (harg5.unread x3)) (fun h => hd h x0) (fun h => hd h x1) (fun h => ro h x5) (fun h => ro h x6) x2 x3 x4 xo8 xo9 (harg4.read_unread x2) (harg5.read_unread x3) (harg6.read_unread x4)
    (load69 arg2 harg2 x0) (load70 arg2 harg2 x0) (load71 arg2 harg2 x0) (load72 arg2 harg2 x0) (load73 arg3 harg3 x1) (load74 arg3 harg3 x1) (load75 arg3 harg3 x1) (load76 arg3 harg3 x1) (load77 arg7 harg7 x5) (load78 arg7 harg7 x5) (load79 arg7 harg7 x5) (load80 arg7 harg7 x5) (load81 arg8 harg8 x6) (load82 arg8 harg8 x6) (load83 arg8 harg8 x6) (load84 arg8 harg8 x6) (load85 arg6 harg6 x4) hkb hvb rfl hG10 hG11 (k0_t1_loop i).trips le_rfl
  rw [View.writes_append, View.writes_append]
  with_reducible exact core

theorem point_C (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) :
    Point x0 x1 x2 x3 x4 x5 x6 xo8 xo9 (k0_t1_loop i).trips ((Real.log 2 : ℝ) : EReal) (out0_C_7 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9) (out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9) (out0_C_9 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9) := by
  have core := done_C c i arg2 harg2 arg3 harg3 arg4 harg4 arg5 harg5 arg6 harg6 arg7 harg7 arg8 harg8 arg9 harg9 arg10 harg10 arg11 harg11 x0 x1 x2 x3 x4 x5 x6 xo8 xo9
  constructor
  · intro r h y
    unfold out0_C_7
    rw [pieces_C_7]
    refine (four_cols VO0_7 _ (![k0_pay122 (sumC c i arg2 harg2 arg3 harg3 arg4 harg4 arg5 harg5 arg6 harg6 arg7 harg7 arg8 harg8 arg9 harg9 arg10 harg10 arg11 harg11 x0 x1 x2 x3 x4 x5 x6 xo8 xo9).1.1, k0_pay1 (sumC c i arg2 harg2 arg3 harg3 arg4 harg4 arg5 harg5 arg6 harg6 arg7 harg7 arg8 harg8 arg9 harg9 arg10 harg10 arg11 harg11 x0 x1 x2 x3 x4 x5 x6 xo8 xo9).1.2.1, k0_pay2 (sumC c i arg2 harg2 arg3 harg3 arg4 harg4 arg5 harg5 arg6 harg6 arg7 harg7 arg8 harg8 arg9 harg9 arg10 harg10 arg11 harg11 x0 x1 x2 x3 x4 x5 x6 xo8 xo9).1.2.2.1, k0_pay3 (sumC c i arg2 harg2 arg3 harg3 arg4 harg4 arg5 harg5 arg6 harg6 arg7 harg7 arg8 harg8 arg9 harg9 arg10 harg10 arg11 harg11 x0 x1 x2 x3 x4 x5 x6 xo8 xo9).1.2.2.2] : Fin 4 → FVec Ideal S256x128 .f32) r h y).trans ?_
    match h with
    | 0 => exact (store0_at _ r y).trans (congrArg (· * (sc : EReal)) (core.c0 y r))
    | 1 => exact (store1_at _ r y).trans (congrArg (· * (sc : EReal)) (core.c1 y r))
    | 2 => exact (store2_at _ r y).trans (congrArg (· * (sc : EReal)) (core.c2 y r))
    | 3 => exact (store3_at _ r y).trans (congrArg (· * (sc : EReal)) (core.c3 y r))
  · intro m y
    unfold out0_C_8
    rw [pieces_C_8, View.read_writes_full, last_at, View.readAt_full]
    exact congrArg (· * ((Real.log 2 : ℝ) : EReal)) (core.keys m y)
  · intro m y
    unfold out0_C_9
    rw [pieces_C_9]
    exact core.values m y

end Cert.Attn.Dev

end
-- ==== Proof.Blocks.lean ====
/- Where the blocks of a point sit in the arrays: its reads of the arguments and its writes to the results. -/
module

public import proofs.«01_k».proof.Proof.Cases

@[expose] public section

set_option maxRecDepth 16384

noncomputable section

namespace Cert.Attn.Dev

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem point_lt (t : Fin cfg0.N) : t.val < 132 := lt_of_lt_of_eq t.isLt N_0

/-- The group of a point. -/
abbrev gp (t : Fin cfg0.N) : Fin 4 := ⟨t.val / 33, by have := point_lt t; omega⟩

/-- The row block of a point. -/
abbrev rb (t : Fin cfg0.N) : Fin 33 := ⟨t.val % 33, by omega⟩

theorem coord0 (t : Fin cfg0.N) : (grid0.coords t 0).val = (gp t).val := by
  have := point_lt t
  rw [Pipeline.Grid.coords_val t 0 (S := 33) (B := 4) (by decide) rfl]; show _ = t.val / 33; omega

theorem coord1 (t : Fin cfg0.N) : (grid0.coords t 1).val = (rb t).val := by
  rw [Pipeline.Grid.coords_val t 1 (S := 1) (B := 33) (by decide) rfl]; show _ = t.val % 33; omega

theorem at_0 (t : Fin cfg0.N) : win0_0.index t 0 = (rb t).val ∧ win0_0.index t 1 = (gp t).val :=
  ⟨by
      show (BitVec.ofNat 32 (grid0.coords t 1).val).toNat = _
      rw [coord1, BitVec.toNat_ofNat]; have := (rb t).isLt; omega,
    by
      show (BitVec.ofNat 32 (grid0.coords t 0).val).toNat = _
      rw [coord0, BitVec.toNat_ofNat]; have := (gp t).isLt; omega⟩

theorem at_1 (t : Fin cfg0.N) : win0_1.index t 0 = (rb t).val ∧ win0_1.index t 1 = (gp t).val :=
  ⟨by
      show (BitVec.ofNat 32 (grid0.coords t 1).val).toNat = _
      rw [coord1, BitVec.toNat_ofNat]; have := (rb t).isLt; omega,
    by
      show (BitVec.ofNat 32 (grid0.coords t 0).val).toNat = _
      rw [coord0, BitVec.toNat_ofNat]; have := (gp t).isLt; omega⟩

theorem at_2 (t : Fin cfg0.N) : win0_2.index t 0 = 0 ∧ win0_2.index t 1 = (gp t).val :=
  ⟨rfl,
    by
      show (BitVec.ofNat 32 (grid0.coords t 0).val).toNat = _
      rw [coord0, BitVec.toNat_ofNat]; have := (gp t).isLt; omega⟩

theorem at_3 (t : Fin cfg0.N) : win0_3.index t 0 = 0 ∧ win0_3.index t 1 = 36 + (gp t).val :=
  ⟨rfl,
    by
      show (BitVec.ofNat 32 36 + BitVec.ofNat 32 (grid0.coords t 0).val).toNat = _
      rw [coord0, BitVec.toNat_add, BitVec.toNat_ofNat, BitVec.toNat_ofNat]; have := (gp t).isLt; omega⟩

theorem at_4 (t : Fin cfg0.N) : win0_4.index t 0 = (gp t).val ∧ win0_4.index t 1 = 0 ∧ win0_4.index t 2 = 0 ∧ win0_4.index t 3 = 0 :=
  ⟨by
      show (BitVec.ofNat 32 (grid0.coords t 0).val).toNat = _
      rw [coord0, BitVec.toNat_ofNat]; have := (gp t).isLt; omega,
    rfl,
    rfl,
    rfl⟩

theorem at_5 (t : Fin cfg0.N) : win0_5.index t 0 = (gp t).val ∧ win0_5.index t 1 = (rb t).val ∧ win0_5.index t 2 = 0 ∧ win0_5.index t 3 = 0 :=
  ⟨by
      show (BitVec.ofNat 32 (grid0.coords t 0).val).toNat = _
      rw [coord0, BitVec.toNat_ofNat]; have := (gp t).isLt; omega,
    by
      show (BitVec.ofNat 32 (grid0.coords t 1).val).toNat = _
      rw [coord1, BitVec.toNat_ofNat]; have := (rb t).isLt; omega,
    rfl,
    rfl⟩

theorem at_6 (t : Fin cfg0.N) : win0_6.index t 0 = (gp t).val ∧ win0_6.index t 1 = (rb t).val ∧ win0_6.index t 2 = 0 ∧ win0_6.index t 3 = 0 :=
  ⟨by
      show (BitVec.ofNat 32 (grid0.coords t 0).val).toNat = _
      rw [coord0, BitVec.toNat_ofNat]; have := (gp t).isLt; omega,
    by
      show (BitVec.ofNat 32 (grid0.coords t 1).val).toNat = _
      rw [coord1, BitVec.toNat_ofNat]; have := (rb t).isLt; omega,
    rfl,
    rfl⟩

theorem at_7 (t : Fin cfg0.N) : win0_7.index t 0 = (rb t).val ∧ win0_7.index t 1 = (gp t).val :=
  ⟨by
      show (BitVec.ofNat 32 (grid0.coords t 1).val).toNat = _
      rw [coord1, BitVec.toNat_ofNat]; have := (rb t).isLt; omega,
    by
      show (BitVec.ofNat 32 (grid0.coords t 0).val).toNat = _
      rw [coord0, BitVec.toNat_ofNat]; have := (gp t).isLt; omega⟩

theorem at_8 (t : Fin cfg0.N) : win0_8.index t 0 = 0 ∧ win0_8.index t 1 = (gp t).val :=
  ⟨rfl,
    by
      show (BitVec.ofNat 32 (grid0.coords t 0).val).toNat = _
      rw [coord0, BitVec.toNat_ofNat]; have := (gp t).isLt; omega⟩

theorem at_9 (t : Fin cfg0.N) : win0_9.index t 0 = 0 ∧ win0_9.index t 1 = (gp t).val :=
  ⟨rfl,
    by
      show (BitVec.ofNat 32 (grid0.coords t 0).val).toNat = _
      rw [coord0, BitVec.toNat_ofNat]; have := (gp t).isLt; omega⟩

/-- The point's block of the queries. -/
theorem blk_0 (c : Dev nD) (t : Fin cfg0.N) (r : Fin 256) (x : Fin 512) :
    (iblk m c 0 t : FVec Ideal S256x512 .bf16) (ix2 r x) = (V m c main_v6 : FVec Ideal S8448x2048 .bf16) (ix2 ⟨256 * (rb t).val + r.val, by have := (rb t).isLt; omega⟩ ⟨512 * (gp t).val + x.val, by have := (gp t).isLt; omega⟩) := by
  obtain ⟨h0, h1⟩ := at_0 t
  unfold iblk
  rw [View.read_apply]
  show (V m c main_v6 : FVec Ideal S8448x2048 .bf16) _ = _
  congr 1
  funext a
  apply Fin.ext
  match a with
  | ⟨0, _⟩ => show win0_0.index t 0 * 256 + 1 * r.val = 256 * (rb t).val + r.val; rw [h0]; omega
  | ⟨1, _⟩ => show win0_0.index t 1 * 512 + 1 * x.val = 512 * (gp t).val + x.val; rw [h1]; omega

/-- The point's block of the cotangents. -/
theorem blk_1 (c : Dev nD) (t : Fin cfg0.N) (r : Fin 256) (x : Fin 512) :
    (iblk m c 1 t : FVec Ideal S256x512 .bf16) (ix2 r x) = (V m c main_v97 : FVec Ideal S8448x2048 .bf16) (ix2 ⟨256 * (rb t).val + r.val, by have := (rb t).isLt; omega⟩ ⟨512 * (gp t).val + x.val, by have := (gp t).isLt; omega⟩) := by
  obtain ⟨h0, h1⟩ := at_1 t
  unfold iblk
  rw [View.read_apply]
  show (V m c main_v97 : FVec Ideal S8448x2048 .bf16) _ = _
  congr 1
  funext a
  apply Fin.ext
  match a with
  | ⟨0, _⟩ => show win0_1.index t 0 * 256 + 1 * r.val = 256 * (rb t).val + r.val; rw [h0]; omega
  | ⟨1, _⟩ => show win0_1.index t 1 * 512 + 1 * x.val = 512 * (gp t).val + x.val; rw [h1]; omega

/-- The point's block of the keys. -/
theorem blk_2 (c : Dev nD) (t : Fin cfg0.N) (n : Fin 8448) (x : Fin 128) :
    (iblk m c 2 t : FVec Ideal S8448x128 .bf16) (ix2 n x) = (V m c main_v7 : FVec Ideal S8448x512 .bf16) (ix2 n ⟨128 * (gp t).val + x.val, by have := (gp t).isLt; omega⟩) := by
  obtain ⟨h0, h1⟩ := at_2 t
  unfold iblk
  rw [View.read_apply]
  show (V m c main_v7 : FVec Ideal S8448x512 .bf16) _ = _
  congr 1
  funext a
  apply Fin.ext
  match a with
  | ⟨0, _⟩ => show win0_2.index t 0 * 8448 + 1 * n.val = n.val; rw [h0]; omega
  | ⟨1, _⟩ => show win0_2.index t 1 * 128 + 1 * x.val = 128 * (gp t).val + x.val; rw [h1]; omega

/-- The point's block of the values. -/
theorem blk_3 (c : Dev nD) (t : Fin cfg0.N) (n : Fin 8448) (x : Fin 128) :
    (iblk m c 3 t : FVec Ideal S8448x128 .bf16) (ix2 n x) = (V m c main_v100 : FVec Ideal S8448x5120 .bf16) (ix2 n ⟨4608 + 128 * (gp t).val + x.val, by have := (gp t).isLt; omega⟩) := by
  obtain ⟨h0, h1⟩ := at_3 t
  unfold iblk
  rw [View.read_apply]
  show (V m c main_v100 : FVec Ideal S8448x5120 .bf16) _ = _
  congr 1
  funext a
  apply Fin.ext
  match a with
  | ⟨0, _⟩ => show win0_3.index t 0 * 8448 + 1 * n.val = n.val; rw [h0]; omega
  | ⟨1, _⟩ => show win0_3.index t 1 * 128 + 1 * x.val = 4608 + 128 * (gp t).val + x.val; rw [h1]; omega

/-- The point's block of the transposed keys. -/
theorem blk_4 (c : Dev nD) (t : Fin cfg0.N) (j : Fin 33) (y : Fin 128) (x : Fin 256) :
    (iblk m c 4 t : FVec Ideal S1x33x128x256 .bf16) (ix4 0 j y x) = (V m c main_v99 : FVec Ideal S4x33x128x256 .bf16) (ix4 (gp t) j y x) := by
  obtain ⟨h0, h1, h2, h3⟩ := at_4 t
  unfold iblk
  rw [View.read_apply]
  show (V m c main_v99 : FVec Ideal S4x33x128x256 .bf16) _ = _
  congr 1
  funext a
  apply Fin.ext
  match a with
  | ⟨0, _⟩ => show win0_4.index t 0 * 1 + 1 * 0 = (gp t).val; rw [h0]; omega
  | ⟨1, _⟩ => show win0_4.index t 1 * 33 + 1 * j.val = j.val; rw [h1]; omega
  | ⟨2, _⟩ => show win0_4.index t 2 * 128 + 1 * y.val = y.val; rw [h2]; omega
  | ⟨3, _⟩ => show win0_4.index t 3 * 256 + 1 * x.val = x.val; rw [h3]; omega

/-- The point's block of the log sums. -/
theorem blk_5 (c : Dev nD) (t : Fin cfg0.N) (h : Fin 4) (r : Fin 256) :
    (iblk m c 5 t : FVec Ideal S1x1x4x256 .f32) (ix4 0 0 h r) = (V m c main_v94 : FVec Ideal S4x33x4x256 .f32) (ix4 (gp t) (rb t) h r) := by
  obtain ⟨h0, h1, h2, h3⟩ := at_5 t
  unfold iblk
  rw [View.read_apply]
  show (V m c main_v94 : FVec Ideal S4x33x4x256 .f32) _ = _
  congr 1
  funext a
  apply Fin.ext
  match a with
  | ⟨0, _⟩ => show win0_5.index t 0 * 1 + 1 * 0 = (gp t).val; rw [h0]; omega
  | ⟨1, _⟩ => show win0_5.index t 1 * 1 + 1 * 0 = (rb t).val; rw [h1]; omega
  | ⟨2, _⟩ => show win0_5.index t 2 * 4 + 1 * h.val = h.val; rw [h2]; omega
  | ⟨3, _⟩ => show win0_5.index t 3 * 256 + 1 * r.val = r.val; rw [h3]; omega

/-- The point's block of the row products. -/
theorem blk_6 (c : Dev nD) (t : Fin cfg0.N) (h : Fin 4) (r : Fin 256) :
    (iblk m c 6 t : FVec Ideal S1x1x4x256 .f32) (ix4 0 0 h r) = (V m c main_v96 : FVec Ideal S4x33x4x256 .f32) (ix4 (gp t) (rb t) h r) := by
  obtain ⟨h0, h1, h2, h3⟩ := at_6 t
  unfold iblk
  rw [View.read_apply]
  show (V m c main_v96 : FVec Ideal S4x33x4x256 .f32) _ = _
  congr 1
  funext a
  apply Fin.ext
  match a with
  | ⟨0, _⟩ => show win0_6.index t 0 * 1 + 1 * 0 = (gp t).val; rw [h0]; omega
  | ⟨1, _⟩ => show win0_6.index t 1 * 1 + 1 * 0 = (rb t).val; rw [h1]; omega
  | ⟨2, _⟩ => show win0_6.index t 2 * 4 + 1 * h.val = h.val; rw [h2]; omega
  | ⟨3, _⟩ => show win0_6.index t 3 * 256 + 1 * r.val = r.val; rw [h3]; omega

end Cert.Attn.Dev

end
-- ==== Proof.Points.lean ====
/- What the result blocks hold after each point: the queries' gradient of its rows, and the running sums of the other two. -/
module

public import proofs.«01_k».proof.Proof.Blocks

@[expose] public section

set_option maxRecDepth 16384

noncomputable section

namespace Cert.Attn.Dev

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The part of a sum over the row blocks up to the block `i`. -/
def upTo (f : Fin 33 → ℝ) (i : ℕ) : ℝ := ∑ j : Fin 33, if j.val ≤ i then f j else 0

theorem upTo_zero (f : Fin 33 → ℝ) : upTo f 0 = f 0 := by
  unfold upTo
  rw [Finset.sum_eq_single (0 : Fin 33)]
  · rfl
  · intro j _ hj; rw [if_neg]; intro h; exact hj (Fin.ext (Nat.le_zero.mp h))
  · intro h; exact absurd (Finset.mem_univ _) h

theorem upTo_succ (f : Fin 33 → ℝ) (i : ℕ) (h : i + 1 < 33) : upTo f (i + 1) = upTo f i + f ⟨i + 1, h⟩ := by
  unfold upTo
  have e : ∀ j : Fin 33, (if j.val ≤ i + 1 then f j else 0) = (if j.val ≤ i then f j else 0) + (if j = ⟨i + 1, h⟩ then f j else 0) := by
    intro j
    by_cases h1 : j.val ≤ i
    · rw [if_pos h1, if_pos (by omega), if_neg (by intro e; rw [e] at h1; dsimp only at h1; omega), add_zero]
    · by_cases h2 : j = ⟨i + 1, h⟩
      · rw [if_neg h1, if_pos h2, if_pos (by rw [h2]), zero_add]
      · rw [if_neg h1, if_neg h2, if_neg (fun h3 => h2 (Fin.ext (by dsimp only; omega))), zero_add]
  rw [Finset.sum_congr rfl fun j _ => e j, Finset.sum_add_distrib, Finset.sum_ite_eq' Finset.univ, if_pos (Finset.mem_univ _)]

theorem upTo_all (f : Fin 33 → ℝ) : upTo f 32 = ∑ j, f j :=
  Finset.sum_congr rfl fun j _ => if_pos (by have := j.isLt; omega)

/-- How many keys a row block reads: the context rows the context keys, the others all. -/
def lim (i : Fin 33) : ℕ := if i.val = 0 then 256 else 8448

theorem lim_trips (t : Fin cfg0.N) : 1024 * (k0_t1_loop (grid0.coords t)).trips + 256 = lim (rb t) := by
  rw [trips_t1, coord1]; unfold lim; split <;> rfl

theorem of_A (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (p : Vec Ideal S256x512 .f32 × Vec Ideal S8448x128 .f32 × Vec Ideal S8448x128 .f32)
    (hp : p = (out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6, out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6, out0_A_9 (F := Ideal) c i arg2 harg2 arg3 harg3 arg4 harg4 arg5 harg5 arg6 harg6 arg7 harg7 arg8 harg8 arg9 harg9 arg10 harg10 arg11 harg11 hc0 hc1 x0 x1 x2 x3 x4 x5 x6)) :
    Point x0 x1 x2 x3 x4 x5 x6 (fun _ => 0) (fun _ => 0) (k0_t1_loop i).trips 1 p.1 p.2.1 p.2.2 := by
  subst hp
  with_reducible exact point_A c i arg2 harg2 arg3 harg3 arg4 harg4 arg5 harg5 arg6 harg6 arg7 harg7 arg8 harg8 arg9 harg9 arg10 harg10 arg11 harg11 hc0 hc1 x0 x1 x2 x3 x4 x5 x6

theorem of_B (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : ¬cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) (p : Vec Ideal S256x512 .f32 × Vec Ideal S8448x128 .f32 × Vec Ideal S8448x128 .f32)
    (hp : p = (out0_B_7 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9, out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9, out0_B_9 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9)) :
    Point x0 x1 x2 x3 x4 x5 x6 xo8 xo9 (k0_t1_loop i).trips 1 p.1 p.2.1 p.2.2 := by
  subst hp
  with_reducible exact point_B c i arg2 harg2 arg3 harg3 arg4 harg4 arg5 harg5 arg6 harg6 arg7 harg7 arg8 harg8 arg9 harg9 arg10 harg10 arg11 harg11 hc0 hc1 x0 x1 x2 x3 x4 x5 x6 xo8 xo9

theorem of_C (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S8448x128 .bf16) (harg4 : arg4.IsWhole) (arg5 : Memref sig .tc .vmem S8448x128 .bf16) (harg5 : arg5.IsWhole) (arg6 : Memref sig .tc .vmem S1x33x128x256 .bf16) (harg6 : arg6.IsWhole) (arg7 : Memref sig .tc .vmem S1x1x4x256 .f32) (harg7 : arg7.IsWhole) (arg8 : Memref sig .tc .vmem S1x1x4x256 .f32) (harg8 : arg8.IsWhole) (arg9 : Memref sig .tc .vmem S256x512 .f32) (harg9 : arg9.IsWhole) (arg10 : Memref sig .tc .vmem S8448x128 .f32) (harg10 : arg10.IsWhole) (arg11 : Memref sig .tc .vmem S8448x128 .f32) (harg11 : arg11.IsWhole) (hc0 : ¬cond0_0 i) (hc1 : cond0_1 i)
    (x0 : Vec Ideal S256x512 .bf16) (x1 : Vec Ideal S256x512 .bf16) (x2 : Vec Ideal S8448x128 .bf16) (x3 : Vec Ideal S8448x128 .bf16) (x4 : Vec Ideal S1x33x128x256 .bf16) (x5 : Vec Ideal S1x1x4x256 .f32) (x6 : Vec Ideal S1x1x4x256 .f32) (xo8 : Vec Ideal S8448x128 .f32) (xo9 : Vec Ideal S8448x128 .f32) (p : Vec Ideal S256x512 .f32 × Vec Ideal S8448x128 .f32 × Vec Ideal S8448x128 .f32)
    (hp : p = (out0_C_7 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9, out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9, out0_C_9 (F := Ideal) c i arg2 harg2 arg3 harg3 arg4 harg4 arg5 harg5 arg6 harg6 arg7 harg7 arg8 harg8 arg9 harg9 arg10 harg10 arg11 harg11 hc0 hc1 x0 x1 x2 x3 x4 x5 x6 xo8 xo9)) :
    Point x0 x1 x2 x3 x4 x5 x6 xo8 xo9 (k0_t1_loop i).trips ((Real.log 2 : ℝ) : EReal) p.1 p.2.1 p.2.2 := by
  subst hp
  with_reducible exact point_C c i arg2 harg2 arg3 harg3 arg4 harg4 arg5 harg5 arg6 harg6 arg7 harg7 arg8 harg8 arg9 harg9 arg10 harg10 arg11 harg11 hc0 hc1 x0 x1 x2 x3 x4 x5 x6 xo8 xo9

theorem point_first (c : Dev nD) (t : Fin cfg0.N) (h0 : t.val % 33 = 0) (h1 : ¬t.val % 33 = 32) :
    Point (iblk m c 0 t) (iblk m c 1 t) (iblk m c 2 t) (iblk m c 3 t) (iblk m c 4 t) (iblk m c 5 t) (iblk m c 6 t) (fun _ => 0) (fun _ => 0) (k0_t1_loop (grid0.coords t)).trips 1
      (outsAt0 m c t.val t.isLt).1 (outsAt0 m c t.val t.isLt).2.1 (outsAt0 m c t.val t.isLt).2.2 := by
  exact of_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (iblk m c 3 t) (iblk m c 4 t) (iblk m c 5 t) (iblk m c 6 t) _ (outsAt0_A m c t h0 h1)

theorem point_next (c : Dev nD) (t : Fin cfg0.N) (h0 : ¬t.val % 33 = 0) (h1 : ¬t.val % 33 = 32) :
    Point (iblk m c 0 t) (iblk m c 1 t) (iblk m c 2 t) (iblk m c 3 t) (iblk m c 4 t) (iblk m c 5 t) (iblk m c 6 t)
      (outsAt0 m c (t.val - 1) (by have := t.isLt; omega)).2.1 (outsAt0 m c (t.val - 1) (by have := t.isLt; omega)).2.2 (k0_t1_loop (grid0.coords t)).trips 1
      (outsAt0 m c t.val t.isLt).1 (outsAt0 m c t.val t.isLt).2.1 (outsAt0 m c t.val t.isLt).2.2 := by
  exact of_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ (outsAt0_B m c t h0 h1)

theorem point_last (c : Dev nD) (t : Fin cfg0.N) (h0 : ¬t.val % 33 = 0) (h1 : t.val % 33 = 32) :
    Point (iblk m c 0 t) (iblk m c 1 t) (iblk m c 2 t) (iblk m c 3 t) (iblk m c 4 t) (iblk m c 5 t) (iblk m c 6 t)
      (outsAt0 m c (t.val - 1) (by have := t.isLt; omega)).2.1 (outsAt0 m c (t.val - 1) (by have := t.isLt; omega)).2.2 (k0_t1_loop (grid0.coords t)).trips ((Real.log 2 : ℝ) : EReal)
      (outsAt0 m c t.val t.isLt).1 (outsAt0 m c t.val t.isLt).2.1 (outsAt0 m c t.val t.isLt).2.2 := by
  exact of_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk m c 0 t) (iblk m c 1 t) (iblk m c 2 t) (iblk m c 3 t) (iblk m c 4 t) (iblk m c 5 t) (iblk m c 6 t) _ _ _ (outsAt0_C m c t h0 h1)

/-- The queries' gradient that a point leaves. -/
theorem dq_at (c : Dev nD) (t : Fin cfg0.N) (r : Fin 256) (h : Fin 4) (y : Fin 128) :
    (outsAt0 m c t.val t.isLt).1 (ix2 r ⟨128 * h.val + y.val, by omega⟩)
      = (∑ j ∈ Finset.range (if (rb t).val = 0 then 1 else 33), chunk (iblk m c 4 t) (gr (hd h (iblk m c 0 t)) (hd h (iblk m c 1 t)) (ro h (iblk m c 5 t)) (ro h (iblk m c 6 t)) (iblk m c 2 t) (iblk m c 3 t)) j y r) * (sc : EReal) := by
  have ht : 4 * (k0_t1_loop (grid0.coords t)).trips + 1 = if (rb t).val = 0 then 1 else 33 := by
    rw [trips_t1, coord1]; split <;> rfl
  rw [← ht]
  by_cases h0 : t.val % 33 = 0
  · exact (point_first m c t h0 (by omega)).dq r h y
  · by_cases h1 : t.val % 33 = 32
    · exact (point_last m c t h0 h1).dq r h y
    · exact (point_next m c t h0 h1).dq r h y

/-- The running sums over the row blocks of a group, as real numbers: of the keys' gradient, times log 2 once the last
    block is in. -/
theorem sums_at (c : Dev nD) (KR VR : Fin 4 → Fin 33 → Fin 8448 → Fin 128 → ℝ)
    (hK : ∀ (t : Fin cfg0.N) n y, keyAll (fun h => hd h (iblk m c 0 t)) (fun h => hd h (iblk m c 1 t)) (fun h => ro h (iblk m c 5 t)) (fun h => ro h (iblk m c 6 t)) (iblk m c 2 t) (iblk m c 3 t) n y = (KR (gp t) (rb t) n y : EReal))
    (hV : ∀ (t : Fin cfg0.N) n y, valueAll (fun h => hd h (iblk m c 0 t)) (fun h => hd h (iblk m c 1 t)) (fun h => ro h (iblk m c 5 t)) (iblk m c 2 t) n y = (VR (gp t) (rb t) n y : EReal)) :
    ∀ (k : ℕ) (hk : k < cfg0.N),
      (∀ n y, (outsAt0 m c k hk).2.1 (ix2 n y) = ((upTo (fun j => if n.val < lim j then KR (gp ⟨k, hk⟩) j n y else 0) (rb ⟨k, hk⟩).val * if k % 33 = 32 then Real.log 2 else 1 : ℝ) : EReal))
      ∧ (∀ n y, (outsAt0 m c k hk).2.2 (ix2 n y) = ((upTo (fun j => if n.val < lim j then VR (gp ⟨k, hk⟩) j n y else 0) (rb ⟨k, hk⟩).val : ℝ) : EReal)) := by
  have coeIte : ∀ (p : Prop) [Decidable p] (x : ℝ), (if p then (x : EReal) else 0) = ((if p then x else 0 : ℝ) : EReal) := by
    intro p _ x; split <;> rfl
  intro k
  induction k with
  | zero =>
    intro hk
    have P := point_first m c ⟨0, hk⟩ rfl (by show ¬0 % 33 = 32; decide)
    have hl := lim_trips ⟨0, hk⟩
    have r0 : rb ⟨0, hk⟩ = 0 := rfl
    constructor
    · intro n y
      refine (P.dk n y).trans ?_
      rw [hl, hK, coeIte, mul_one, zero_add, r0]
      show _ = ((upTo _ 0 * (if 0 % 33 = 32 then Real.log 2 else 1) : ℝ) : EReal)
      rw [upTo_zero, if_neg (by decide : ¬0 % 33 = 32), mul_one]
    · intro n y
      refine (P.dv n y).trans ?_
      rw [hl, hV, coeIte, zero_add, r0]
      show _ = ((upTo _ 0 : ℝ) : EReal)
      rw [upTo_zero]
  | succ k ih =>
    intro hk
    have hk' : k < cfg0.N := by omega
    obtain ⟨ihk, ihv⟩ := ih hk'
    have hl := lim_trips ⟨k + 1, hk⟩
    by_cases h0 : (k + 1) % 33 = 0
    · have P := point_first m c ⟨k + 1, hk⟩ h0 (by dsimp only; omega)
      have r0 : rb ⟨k + 1, hk⟩ = 0 := Fin.ext h0
      constructor
      · intro n y
        refine (P.dk n y).trans ?_
        rw [hl, hK, coeIte, mul_one, zero_add, r0]
        show _ = ((upTo _ 0 * (if (k + 1) % 33 = 32 then Real.log 2 else 1) : ℝ) : EReal)
        rw [upTo_zero, if_neg (by omega : ¬(k + 1) % 33 = 32), mul_one]
      · intro n y
        refine (P.dv n y).trans ?_
        rw [hl, hV, coeIte, zero_add, r0]
        show _ = ((upTo _ 0 : ℝ) : EReal)
        rw [upTo_zero]
    · have hlt : k % 33 + 1 < 33 := by omega
      have hg : gp ⟨k, hk'⟩ = gp ⟨k + 1, hk⟩ := Fin.ext (by show k / 33 = (k + 1) / 33; omega)
      have hr : (rb ⟨k + 1, hk⟩) = ⟨(rb ⟨k, hk'⟩).val + 1, hlt⟩ := Fin.ext (by show (k + 1) % 33 = k % 33 + 1; omega)
      by_cases h1 : (k + 1) % 33 = 32
      · have P := point_last m c ⟨k + 1, hk⟩ h0 h1
        constructor
        · intro n y
          refine (P.dk n y).trans ?_
          show ((outsAt0 m c k _).2.1 (ix2 n y) + _) * _ = _
          rw [ihk, hl, hK, coeIte, if_neg (by omega : ¬k % 33 = 32), if_pos h1, mul_one, hg, hr, ← EReal.coe_add, ← EReal.coe_mul, upTo_succ _ _ hlt]
        · intro n y
          refine (P.dv n y).trans ?_
          show (outsAt0 m c k _).2.2 (ix2 n y) + _ = _
          rw [ihv, hl, hV, coeIte, hg, hr, ← EReal.coe_add, upTo_succ _ _ hlt]
      · have P := point_next m c ⟨k + 1, hk⟩ h0 h1
        constructor
        · intro n y
          refine (P.dk n y).trans ?_
          show ((outsAt0 m c k _).2.1 (ix2 n y) + _) * _ = _
          rw [ihk, hl, hK, coeIte, if_neg (by omega : ¬k % 33 = 32), if_neg h1, mul_one, mul_one, mul_one, hg, hr, ← EReal.coe_add, upTo_succ _ _ hlt]
        · intro n y
          refine (P.dv n y).trans ?_
          show (outsAt0 m c k _).2.2 (ix2 n y) + _ = _
          rw [ihv, hl, hV, coeIte, hg, hr, ← EReal.coe_add, upTo_succ _ _ hlt]

/-- The sums when the last row block of a group is in. -/
theorem sums_last (c : Dev nD) (KR VR : Fin 4 → Fin 33 → Fin 8448 → Fin 128 → ℝ)
    (hK : ∀ (t : Fin cfg0.N) n y, keyAll (fun h => hd h (iblk m c 0 t)) (fun h => hd h (iblk m c 1 t)) (fun h => ro h (iblk m c 5 t)) (fun h => ro h (iblk m c 6 t)) (iblk m c 2 t) (iblk m c 3 t) n y = (KR (gp t) (rb t) n y : EReal))
    (hV : ∀ (t : Fin cfg0.N) n y, valueAll (fun h => hd h (iblk m c 0 t)) (fun h => hd h (iblk m c 1 t)) (fun h => ro h (iblk m c 5 t)) (iblk m c 2 t) n y = (VR (gp t) (rb t) n y : EReal)) (t : Fin cfg0.N) (ht : t.val % 33 = 32) (n : Fin 8448) (y : Fin 128) :
    (outsAt0 m c t.val t.isLt).2.1 (ix2 n y) = (((∑ j, if n.val < lim j then KR (gp t) j n y else 0) * Real.log 2 : ℝ) : EReal)
      ∧ (outsAt0 m c t.val t.isLt).2.2 (ix2 n y) = ((∑ j, if n.val < lim j then VR (gp t) j n y else 0 : ℝ) : EReal) := by
  obtain ⟨a, b⟩ := sums_at m c KR VR hK hV t.val t.isLt
  have e : (rb ⟨t.val, t.isLt⟩).val = 32 := ht
  refine ⟨(a n y).trans ?_, (b n y).trans ?_⟩
  · rw [e, if_pos ht, upTo_all]
  · rw [e, upTo_all]

end Cert.Attn.Dev

end
-- ==== Proof.Rows.lean ====
/- The kernel's sums over row blocks and key chunks, as real numbers, against the formulas of the attention's derivative. -/
module

public import proofs.«01_k».proof.Proof.Points

@[expose] public section

noncomputable section

namespace Cert.Attn.Dev

/-- One of the latent rows. -/
def hi (r : Fin 8192) : Fin 8448 := ⟨256 + r.val, by omega⟩

/-- Row `r` of block `i`. -/
def row (i : Fin 33) (r : Fin 256) : Fin 8448 := ⟨256 * i.val + r.val, by omega⟩

theorem row_zero (r : Fin 256) : row 0 r = lo r := Fin.ext (by show 256 * 0 + r.val = r.val; omega)

theorem row_succ (j : Fin 32) (r : Fin 256) : row j.succ r = hi ⟨256 * j.val + r.val, by omega⟩ :=
  Fin.ext (by show 256 * (j.val + 1) + r.val = 256 + (256 * j.val + r.val); omega)

/-- A sum by blocks of 256. -/
theorem sum_blocks (a N : ℕ) (hN : a * 256 = N) (f : Fin N → ℝ) :
    ∑ j : Fin a, ∑ r : Fin 256, f ⟨256 * j.val + r.val, by have := j.isLt; omega⟩ = ∑ R, f R := by
  subst hN
  rw [← Fintype.sum_prod_type']
  refine Fintype.sum_equiv finProdFinEquiv _ _ fun p => ?_
  congr 1
  exact Fin.ext (by show 256 * p.1.val + p.2.val = p.2.val + 256 * p.1.val; omega)

section
variable (q d : Fin 8448 → Fin 4 → Fin 4 → Fin 128 → ℝ) (k v : Fin 8448 → Fin 4 → Fin 128 → ℝ)

/-- The context rows of an array. -/
abbrev low {α : Type} (f : Fin 8448 → α) : Fin 256 → α := fun r => f (lo r)

/-- The latent rows of an array. -/
abbrev high {α : Type} (f : Fin 8448 → α) : Fin 8192 → α := fun r => f (hi r)

/-- The logarithm of a row's sum of exponentials. -/
def lnr (g h : Fin 4) (R : Fin 8448) : ℝ :=
  if hR : R.val < 256 then Real.log (den (low q) (low k) g h ⟨R.val, hR⟩) else Real.log (den (high q) k g h ⟨R.val - 256, by omega⟩)

/-- A row's mean of the cotangents of its probabilities. -/
def dlr (g h : Fin 4) (R : Fin 8448) : ℝ :=
  if hR : R.val < 256 then dlt (low q) (low k) (low v) (low d) g h ⟨R.val, hR⟩ else dlt (high q) k v (high d) g h ⟨R.val - 256, by omega⟩

/-- A row's weight of a key. -/
def pw (g h : Fin 4) (R n : Fin 8448) : ℝ := Real.exp ((∑ x, k n g x * q R g h x) * sc - lnr q k g h R)

/-- A row's gradient of a score. -/
def gw (g h : Fin 4) (R n : Fin 8448) : ℝ := pw q k g h R n * ((∑ x, v n g x * d R g h x) - dlr q d k v g h R)

theorem lnr_lo (g h : Fin 4) (r : Fin 256) : lnr q k g h (lo r) = Real.log (den (low q) (low k) g h r) :=
  dif_pos (r.isLt : (lo r).val < 256)

theorem dlr_lo (g h : Fin 4) (r : Fin 256) : dlr q d k v g h (lo r) = dlt (low q) (low k) (low v) (low d) g h r :=
  dif_pos (r.isLt : (lo r).val < 256)

theorem hi_not (r : Fin 8192) : ¬(hi r).val < 256 := by show ¬256 + r.val < 256; omega

theorem hi_sub (r : Fin 8192) (h : (hi r).val - 256 < 8192) : (⟨(hi r).val - 256, h⟩ : Fin 8192) = r :=
  Fin.ext (by show 256 + r.val - 256 = r.val; omega)

theorem lnr_hi (g h : Fin 4) (r : Fin 8192) : lnr q k g h (hi r) = Real.log (den (high q) k g h r) := by
  unfold lnr; rw [dif_neg (hi_not r), hi_sub]

theorem dlr_hi (g h : Fin 4) (r : Fin 8192) : dlr q d k v g h (hi r) = dlt (high q) k v (high d) g h r := by
  unfold dlr; rw [dif_neg (hi_not r), hi_sub]

theorem pw_lo (g h : Fin 4) (r n : Fin 256) : pw q k g h (lo r) (lo n) = prb (low q) (low k) g h r n := by
  unfold pw prb; rw [lnr_lo, Real.exp_sub, Real.exp_log (den_pos ..)]; rfl

theorem pw_hi (g h : Fin 4) (r : Fin 8192) (n : Fin 8448) : pw q k g h (hi r) n = prb (high q) k g h r n := by
  unfold pw prb; rw [lnr_hi, Real.exp_sub, Real.exp_log (den_pos ..)]; rfl

theorem gw_lo (g h : Fin 4) (r n : Fin 256) : gw q d k v g h (lo r) (lo n) = gsc (low q) (low k) (low v) (low d) g h r n := by
  unfold gw gsc dpb; rw [pw_lo, dlr_lo, Finset.sum_congr rfl fun x _ => mul_comm (v (lo n) g x) (d (lo r) g h x)]

theorem gw_hi (g h : Fin 4) (r : Fin 8192) (n : Fin 8448) : gw q d k v g h (hi r) n = gsc (high q) k v (high d) g h r n := by
  unfold gw gsc dpb; rw [pw_hi, dlr_hi, Finset.sum_congr rfl fun x _ => mul_comm (v n g x) (d (hi r) g h x)]

/-- What a row block adds to the keys' gradient. -/
def KR (g : Fin 4) (i : Fin 33) (n : Fin 8448) (y : Fin 128) : ℝ :=
  ∑ h, ∑ r, gw q d k v g h (row i r) n * (q (row i r) g h y * sc / Real.log 2)

/-- What a row block adds to the values' gradient. -/
def VR (g : Fin 4) (i : Fin 33) (n : Fin 8448) (y : Fin 128) : ℝ := ∑ h, ∑ r, pw q k g h (row i r) n * d (row i r) g h y

theorem log2_ne : Real.log 2 ≠ 0 := (Real.log_pos (by norm_num)).ne'

theorem KR_lo (g : Fin 4) (n : Fin 256) (y : Fin 128) :
    KR q d k v g 0 (lo n) y * Real.log 2 = gkey (low q) (low k) (low v) (low d) n g y := by
  have := log2_ne
  unfold KR gkey
  rw [Finset.sum_comm, Finset.sum_mul]
  refine Finset.sum_congr rfl fun r _ => ?_
  rw [Finset.sum_mul]
  refine Finset.sum_congr rfl fun h _ => ?_
  rw [row_zero, gw_lo]
  field_simp

theorem KR_hi (g : Fin 4) (n : Fin 8448) (y : Fin 128) :
    (∑ j : Fin 32, KR q d k v g j.succ n y) * Real.log 2 = gkey (high q) k v (high d) n g y := by
  have := log2_ne
  unfold gkey
  rw [← sum_blocks 32 8192 rfl, Finset.sum_mul]
  refine Finset.sum_congr rfl fun j _ => ?_
  unfold KR
  rw [Finset.sum_comm, Finset.sum_mul]
  refine Finset.sum_congr rfl fun r _ => ?_
  rw [Finset.sum_mul]
  refine Finset.sum_congr rfl fun h _ => ?_
  rw [row_succ, gw_hi]
  field_simp

theorem VR_lo (g : Fin 4) (n : Fin 256) (y : Fin 128) : VR q d k g 0 (lo n) y = gval (low q) (low k) (low d) n g y := by
  unfold VR gval
  refine Finset.sum_congr rfl fun h _ => Finset.sum_congr rfl fun r _ => ?_
  rw [row_zero, pw_lo, mul_comm]

theorem VR_hi (g : Fin 4) (n : Fin 8448) (y : Fin 128) : ∑ j : Fin 32, VR q d k g j.succ n y = gval (high q) k (high d) n g y := by
  unfold VR gval
  rw [Finset.sum_comm]
  refine Finset.sum_congr rfl fun h _ => ?_
  rw [← sum_blocks 32 8192 rfl]
  refine Finset.sum_congr rfl fun j _ => Finset.sum_congr rfl fun r _ => ?_
  rw [row_succ, pw_hi, mul_comm]

theorem lim_zero : lim 0 = 256 := rfl

theorem lim_succ (j : Fin 32) : lim j.succ = 8448 := if_neg (Nat.succ_ne_zero _)

theorem blocks_split (f : Fin 33 → ℝ) (n : Fin 8448) : (∑ j, if n.val < lim j then f j else 0)
    = (if n.val < 256 then f 0 else 0) + ∑ j : Fin 32, f j.succ := by
  rw [Fin.sum_univ_succ, lim_zero]
  congr 1
  exact Finset.sum_congr rfl fun j _ => if_pos (by rw [lim_succ]; exact n.isLt)

/-- The keys' gradient: what the row blocks add, times log 2. -/
theorem key_total (g : Fin 4) (n : Fin 8448) (y : Fin 128) :
    (∑ j, if n.val < lim j then KR q d k v g j n y else 0) * Real.log 2 = gkey (high q) k v (high d) n g y
      + if hn : n.val < 256 then gkey (low q) (low k) (low v) (low d) ⟨n.val, hn⟩ g y else 0 := by
  rw [blocks_split, add_mul, KR_hi, add_comm]
  congr 1
  by_cases hn : n.val < 256
  · rw [if_pos hn, dif_pos hn]; exact KR_lo q d k v g ⟨n.val, hn⟩ y
  · rw [if_neg hn, dif_neg hn, zero_mul]

/-- The values' gradient: what the row blocks add. -/
theorem val_total (g : Fin 4) (n : Fin 8448) (y : Fin 128) :
    (∑ j, if n.val < lim j then VR q d k g j n y else 0) = gval (high q) k (high d) n g y
      + if hn : n.val < 256 then gval (low q) (low k) (low d) ⟨n.val, hn⟩ g y else 0 := by
  rw [blocks_split, VR_hi, add_comm]
  congr 1
  by_cases hn : n.val < 256
  · rw [if_pos hn, dif_pos hn]; exact VR_lo q d k g ⟨n.val, hn⟩ y
  · rw [if_neg hn, dif_neg hn]

/-- A context row's queries' gradient. -/
theorem qry_lo (g h : Fin 4) (r : Fin 256) (y : Fin 128) :
    (∑ x : Fin 256, k (lo x) g y * gw q d k v g h (lo r) (lo x)) * sc = gqry (low q) (low k) (low v) (low d) r g h y := by
  unfold gqry
  rw [Finset.sum_mul]
  refine Finset.sum_congr rfl fun x _ => ?_
  rw [gw_lo]; ring

/-- A latent row's queries' gradient. -/
theorem qry_hi (g h : Fin 4) (r : Fin 8192) (y : Fin 128) :
    (∑ j : Fin 33, ∑ x : Fin 256, k (row j x) g y * gw q d k v g h (hi r) (row j x)) * sc = gqry (high q) k v (high d) r g h y := by
  unfold gqry
  rw [← sum_blocks 33 8448 rfl, Finset.sum_mul]
  refine Finset.sum_congr rfl fun j _ => ?_
  rw [Finset.sum_mul]
  refine Finset.sum_congr rfl fun x _ => ?_
  rw [gw_hi]; unfold row; ring

end

end Cert.Attn.Dev

end
-- ==== Proof.Arrays.lean ====
/- The result arrays from what the points leave: the blocks written back cover them. -/
module

public import proofs.«01_k».proof.Proof.Rows

@[expose] public section

set_option maxRecDepth 16384

noncomputable section

namespace Cert.Attn.Dev

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The queries' gradient is the array `G` where each point leaves its block of `G`. -/
theorem array_7 (c : Dev nD) (G : FVec Ideal S8448x2048 .f32)
    (h : ∀ (t : Fin cfg0.N) (r : Fin 256) (x : Fin 512), (outsAt0 m c t.val t.isLt).1 (ix2 r x) = G (ix2 ⟨256 * (rb t).val + r.val, by have := (rb t).isLt; omega⟩ ⟨512 * (gp t).val + x.val, by have := (gp t).isLt; omega⟩)) :
    ((dats m 0 c).arrAt 7 cfg0.N : FVec Ideal S8448x2048 .f32) = G := by
  have hN : cfg0.N = 132 := N_0
  refine (dats m 0 c).arrAt_eq_of_cover 7 G (fun t hf => ?_) (fun i => ?_)
  · rw [flushed7]
    obtain ⟨h0, h1⟩ := at_7 t
    funext y
    rw [View.read_apply]
    show (outsAt0 m c t.val t.isLt).1 y = G _
    have hy : (y : S256x512.Idx) = ix2 (y 0) (y 1) := eq_ix2 y
    refine (congrArg ((outsAt0 m c t.val t.isLt).1) hy).trans ((h t (y 0) (y 1)).trans ?_)
    congr 1
    funext a
    apply Fin.ext
    match a with
    | ⟨0, _⟩ => show 256 * (rb t).val + (y 0).val = win0_7.index t 0 * 256 + 1 * (y 0).val; rw [h0]; omega
    | ⟨1, _⟩ => show 512 * (gp t).val + (y 1).val = win0_7.index t 1 * 512 + 1 * (y 1).val; rw [h1]; omega
  · have b0 : (i 0 : Nat) < 8448 := (i 0).isLt
    have b1 : (i 1 : Nat) < 2048 := (i 1).isLt
    obtain ⟨t, htv⟩ : ∃ t : Fin cfg0.N, t.val = 33 * ((i 1).val / 512) + (i 0).val / 256 := ⟨⟨33 * ((i 1).val / 512) + (i 0).val / 256, by rw [hN]; omega⟩, rfl⟩
    refine ⟨t, (flush0_7 _), ?_⟩
    obtain ⟨h0, h1⟩ := at_7 t
    show i ∈ ((View.whole main_v101_0).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [h0]
      have e : (rb t).val = (i 0).val / 256 := by show t.val % 33 = _; rw [htv]; omega
      rw [e]; omega
    | ⟨1, _⟩ =>
      show win0_7.index t 1 * 512 ≤ (i 1 : Nat) ∧ (i 1 : Nat) < win0_7.index t 1 * 512 + 512
      rw [h1]
      have e : (gp t).val = (i 1).val / 512 := by show t.val / 33 = _; rw [htv]; omega
      rw [e]; omega

/-- The keys' gradient is the array `G` where each point leaves its block of `G`. -/
theorem array_8 (c : Dev nD) (G : FVec Ideal S8448x512 .f32)
    (h : ∀ (t : Fin cfg0.N), t.val % 33 = 32 → ∀ (n : Fin 8448) (x : Fin 128), (outsAt0 m c t.val t.isLt).2.1 (ix2 n x) = G (ix2 n ⟨128 * (gp t).val + x.val, by have := (gp t).isLt; omega⟩)) :
    ((dats m 0 c).arrAt 8 cfg0.N : FVec Ideal S8448x512 .f32) = G := by
  have hN : cfg0.N = 132 := N_0
  refine (dats m 0 c).arrAt_eq_of_cover 8 G (fun t hf => ?_) (fun i => ?_)
  · rw [flushed8]
    obtain ⟨h0, h1⟩ := at_8 t
    funext y
    rw [View.read_apply]
    show (outsAt0 m c t.val t.isLt).2.1 y = G _
    have hy : (y : S8448x128.Idx) = ix2 (y 0) (y 1) := eq_ix2 y
    refine (congrArg ((outsAt0 m c t.val t.isLt).2.1) hy).trans ((h t ((flush0_8 t).mp hf) (y 0) (y 1)).trans ?_)
    congr 1
    funext a
    apply Fin.ext
    match a with
    | ⟨0, _⟩ => show (y 0).val = win0_8.index t 0 * 8448 + 1 * (y 0).val; rw [h0]; omega
    | ⟨1, _⟩ => show 128 * (gp t).val + (y 1).val = win0_8.index t 1 * 128 + 1 * (y 1).val; rw [h1]; omega
  · have b0 : (i 0 : Nat) < 8448 := (i 0).isLt
    have b1 : (i 1 : Nat) < 512 := (i 1).isLt
    obtain ⟨t, htv⟩ : ∃ t : Fin cfg0.N, t.val = 33 * ((i 1).val / 128) + 32 := ⟨⟨33 * ((i 1).val / 128) + 32, by rw [hN]; omega⟩, rfl⟩
    refine ⟨t, ((flush0_8 _).mpr (by rw [htv]; omega)), ?_⟩
    obtain ⟨h0, h1⟩ := at_8 t
    show i ∈ ((View.whole main_v101_1).slice (win0_8.rect t)).set
    rw [View.set_slice_whole, Rect.mem_set_unit]
    intro a
    match a with
    | ⟨0, _⟩ =>
      show win0_8.index t 0 * 8448 ≤ (i 0 : Nat) ∧ (i 0 : Nat) < win0_8.index t 0 * 8448 + 8448
      rw [h0]
      omega
    | ⟨1, _⟩ =>
      show win0_8.index t 1 * 128 ≤ (i 1 : Nat) ∧ (i 1 : Nat) < win0_8.index t 1 * 128 + 128
      rw [h1]
      have e : (gp t).val = (i 1).val / 128 := by show t.val / 33 = _; rw [htv]; omega
      rw [e]; omega

/-- The values' gradient is the array `G` where each point leaves its block of `G`. -/
theorem array_9 (c : Dev nD) (G : FVec Ideal S8448x512 .f32)
    (h : ∀ (t : Fin cfg0.N), t.val % 33 = 32 → ∀ (n : Fin 8448) (x : Fin 128), (outsAt0 m c t.val t.isLt).2.2 (ix2 n x) = G (ix2 n ⟨128 * (gp t).val + x.val, by have := (gp t).isLt; omega⟩)) :
    ((dats m 0 c).arrAt 9 cfg0.N : FVec Ideal S8448x512 .f32) = G := by
  have hN : cfg0.N = 132 := N_0
  refine (dats m 0 c).arrAt_eq_of_cover 9 G (fun t hf => ?_) (fun i => ?_)
  · rw [flushed9]
    obtain ⟨h0, h1⟩ := at_9 t
    funext y
    rw [View.read_apply]
    show (outsAt0 m c t.val t.isLt).2.2 y = G _
    have hy : (y : S8448x128.Idx) = ix2 (y 0) (y 1) := eq_ix2 y
    refine (congrArg ((outsAt0 m c t.val t.isLt).2.2) hy).trans ((h t ((flush0_9 t).mp hf) (y 0) (y 1)).trans ?_)
    congr 1
    funext a
    apply Fin.ext
    match a with
    | ⟨0, _⟩ => show (y 0).val = win0_9.index t 0 * 8448 + 1 * (y 0).val; rw [h0]; omega
    | ⟨1, _⟩ => show 128 * (gp t).val + (y 1).val = win0_9.index t 1 * 128 + 1 * (y 1).val; rw [h1]; omega
  · have b0 : (i 0 : Nat) < 8448 := (i 0).isLt
    have b1 : (i 1 : Nat) < 512 := (i 1).isLt
    obtain ⟨t, htv⟩ : ∃ t : Fin cfg0.N, t.val = 33 * ((i 1).val / 128) + 32 := ⟨⟨33 * ((i 1).val / 128) + 32, by rw [hN]; omega⟩, rfl⟩
    refine ⟨t, ((flush0_9 _).mpr (by rw [htv]; omega)), ?_⟩
    obtain ⟨h0, h1⟩ := at_9 t
    show i ∈ ((View.whole main_v101_2).slice (win0_9.rect t)).set
    rw [View.set_slice_whole, Rect.mem_set_unit]
    intro a
    match a with
    | ⟨0, _⟩ =>
      show win0_9.index t 0 * 8448 ≤ (i 0 : Nat) ∧ (i 0 : Nat) < win0_9.index t 0 * 8448 + 8448
      rw [h0]
      omega
    | ⟨1, _⟩ =>
      show win0_9.index t 1 * 128 ≤ (i 1 : Nat) ∧ (i 1 : Nat) < win0_9.index t 1 * 128 + 128
      rw [h1]
      have e : (gp t).val = (i 1).val / 128 := by show t.val / 33 = _; rw [htv]; omega
      rw [e]; omega

end Cert.Attn.Dev

end
-- ==== Proof.RefValue.lean ====
/- The reference's three results on finite arguments, by the formulas of the attention's derivative. -/
module

public import proofs.«01_k».proof.Proof.Arrays
public import proofs.«01_k».proof.Proof.Rows

@[expose] public section

noncomputable section

namespace Cert.Attn.Ref

open Cert.ReferenceIdeal Cert.ReferenceIdeal.Gen Idealize.ShloMosaic Idealize.SL.Sem Cert.Attn.Dev

/-- The column of a query head's number. -/
def qcol (g h : Fin 4) (x : Fin 128) : Fin 2048 := ⟨512 * g.val + 128 * h.val + x.val, by omega⟩

/-- The column of a key head's number. -/
def kcol (g : Fin 4) (x : Fin 128) : Fin 512 := ⟨128 * g.val + x.val, by omega⟩

/-- The column of a value head's number in the packed array. -/
def wcol (g : Fin 4) (x : Fin 128) : Fin 5120 := ⟨4608 + 128 * g.val + x.val, by omega⟩

theorem qC_at (X : FVec Ideal S8448x2048 .f32) (r : Fin 256) (g h : Fin 4) (x : Fin 128) : qC X (ix4 r g h x) = X (ix2 (lo r) (qcol g h x)) := by
  pointwise [qC, lo, qcol]
  congr 2; apply Fin.ext; dsimp only; omega

theorem qL_at (X : FVec Ideal S8448x2048 .f32) (r : Fin 8192) (g h : Fin 4) (x : Fin 128) : qL X (ix4 r g h x) = X (ix2 (hi r) (qcol g h x)) := by
  pointwise [qL, hi, qcol]
  congr 2; apply Fin.ext; dsimp only; omega

theorem kC_at (X : FVec Ideal S8448x512 .f32) (n : Fin 256) (g : Fin 4) (x : Fin 128) : kC X (ix3 n g x) = X (ix2 (lo n) (kcol g x)) := by
  pointwise [kC, lo, kcol]
  congr 2; apply Fin.ext; dsimp only; omega

theorem kL_at (X : FVec Ideal S8448x512 .f32) (n : Fin 8448) (g : Fin 4) (x : Fin 128) : kL X (ix3 n g x) = X (ix2 n (kcol g x)) := by
  pointwise [kL, kcol]
  congr 2; apply Fin.ext; dsimp only; omega

theorem vcols_at (X : FVec Ideal S8448x5120 .f32) (n : Fin 8448) (g : Fin 4) (x : Fin 128) : vcols X (ix2 n (kcol g x)) = X (ix2 n (wcol g x)) := by
  pointwise [vcols, kcol, wcol]
  congr 2; apply Fin.ext; dsimp only; omega

theorem pad_k (X : FVec Ideal S256x512 .f32) (n : Fin 8448) (c : Fin 512) :
    pad S8448x512 ![0, 0] ![8192, 0] ![0, 0] X (constant S_ .f32 0x00000000#32) pads_S256x512_S8448x512_081920_000 h_S_ (ix2 n c)
      = if h : n.val < 256 then X (ix2 ⟨n.val, h⟩ c) else 0 := by
  pointwise

theorem pad_c (X : FVec Ideal S256x2048 .f32) (n : Fin 8448) (c : Fin 2048) :
    pad S8448x2048 ![0, 0] ![8192, 0] ![0, 0] X (constant S_ .f32 0x00000000#32) pads_S256x2048_S8448x2048_081920_000 h_S_ (ix2 n c)
      = if h : n.val < 256 then X (ix2 ⟨n.val, h⟩ c) else 0 := by
  pointwise

theorem pad_l (X : FVec Ideal S8192x2048 .f32) (n : Fin 8448) (c : Fin 2048) :
    pad S8448x2048 ![256, 0] ![0, 0] ![0, 0] X (constant S_ .f32 0x00000000#32) pads_S8192x2048_S8448x2048_25600_000 h_S_ (ix2 n c)
      = if h : n.val < 256 then 0 else X (ix2 ⟨n.val - 256, by omega⟩ c) := by
  pointwise
  by_cases h : n.val < 256
  · rw [dif_pos h, dif_neg (by omega)]
  · rw [dif_neg h, dif_pos ⟨by omega, by omega⟩]

section
variable {Q D : FVec Ideal S8448x2048 .f32} {K : FVec Ideal S8448x512 .f32} {W : FVec Ideal S8448x5120 .f32}
  {q d : Fin 8448 → Fin 4 → Fin 4 → Fin 128 → ℝ} {k v : Fin 8448 → Fin 4 → Fin 128 → ℝ}

theorem qC_real (hq : ∀ R g h x, Q (ix2 R (qcol g h x)) = (q R g h x : EReal)) (r g h x) : qC Q (ix4 r g h x) = (low q r g h x : EReal) := by
  rw [qC_at, hq]
theorem qL_real (hq : ∀ R g h x, Q (ix2 R (qcol g h x)) = (q R g h x : EReal)) (r g h x) : qL Q (ix4 r g h x) = (high q r g h x : EReal) := by
  rw [qL_at, hq]
theorem kC_real (hk : ∀ n g x, K (ix2 n (kcol g x)) = (k n g x : EReal)) (n g x) : kC K (ix3 n g x) = (low k n g x : EReal) := by
  rw [kC_at, hk]
theorem kL_real (hk : ∀ n g x, K (ix2 n (kcol g x)) = (k n g x : EReal)) (n g x) : kL K (ix3 n g x) = (k n g x : EReal) := by
  rw [kL_at, hk]
theorem v_real (hw : ∀ n g x, W (ix2 n (wcol g x)) = (v n g x : EReal)) (n g x) : vcols W (ix2 n (kcol g x)) = (v n g x : EReal) := by
  rw [vcols_at, hw]

variable (hq : ∀ R g h x, Q (ix2 R (qcol g h x)) = (q R g h x : EReal)) (hk : ∀ n g x, K (ix2 n (kcol g x)) = (k n g x : EReal))
  (hw : ∀ n g x, W (ix2 n (wcol g x)) = (v n g x : EReal)) (hd : ∀ R g h x, D (ix2 R (qcol g h x)) = (d R g h x : EReal))
include hq hk

theorem sco_c_fin (g h r n) : sco_c (qC Q) (kC K) (ix4 g h r n) = (scr (low q) (low k) g h r n : EReal) :=
  sco_c_real (qC_real hq) (kC_real hk) g h r n
theorem sco_l_fin (g h r n) : sco_l (qL Q) (kL K) (ix4 g h r n) = (scr (high q) k g h r n : EReal) :=
  sco_l_real (qL_real hq) (kL_real hk) g h r n

theorem prb_c_fin (g h r n) : pr_c (ex_c (sco_c (qC Q) (kC K))) (ix4 g h r n) = (prb (low q) (low k) g h r n : EReal) := by
  obtain ⟨M, hM⟩ := ex_c_real _ _ (sco_c_fin hq hk)
  exact pr_c_real hM g h r n
theorem prb_l_fin (g h r n) : pr_l (ex_l (sco_l (qL Q) (kL K))) (ix4 g h r n) = (prb (high q) k g h r n : EReal) := by
  obtain ⟨M, hM⟩ := ex_l_real _ _ (sco_l_fin hq hk)
  exact pr_l_real hM g h r n

include hd

theorem refV_real (n : Fin 8448) (c : Fin 512) : refV Q K W D (ix2 n c) = (gval (high q) k (high d) n ⟨c / 128, by omega⟩ ⟨c % 128, by omega⟩
      + (if hn : n.val < 256 then gval (low q) (low k) (low d) ⟨n.val, hn⟩ ⟨c / 128, by omega⟩ ⟨c % 128, by omega⟩ else 0) : ℝ) := by
  show gv_l _ _ (ix2 n c) + pad _ _ _ _ _ _ _ _ (ix2 n c) = _
  rw [gv_l_real (qL_real hd) (prb_l_fin hq hk), pad_k, EReal.coe_add]
  congr 1
  by_cases hn : n.val < 256
  · rw [dif_pos hn, dif_pos hn, gv_c_real (qC_real hd) (prb_c_fin hq hk)]
  · rw [dif_neg hn, dif_neg hn]; rfl

include hw

theorem gs_c_fin (g h r n) : gs_c (ex_c (sco_c (qC Q) (kC K))) (dpr_c (qC D) (kC (vcols W))) (ix4 g h r n)
    = (gsc (low q) (low k) (low v) (low d) g h r n * sc : ℝ) := by
  obtain ⟨M, hM⟩ := ex_c_real _ _ (sco_c_fin hq hk)
  exact gs_c_real hM (dpr_c_real (qC_real hd) (kC_real (v_real hw))) g h r n
theorem gs_l_fin (g h r n) : gs_l (ex_l (sco_l (qL Q) (kL K))) (dpr_l (qL D) (kL (vcols W))) (ix4 g h r n)
    = (gsc (high q) k v (high d) g h r n * sc : ℝ) := by
  obtain ⟨M, hM⟩ := ex_l_real _ _ (sco_l_fin hq hk)
  exact gs_l_real hM (dpr_l_real (qL_real hd) (kL_real (v_real hw))) g h r n

theorem refK_real (n : Fin 8448) (c : Fin 512) : refK Q K W D (ix2 n c) = (gkey (high q) k v (high d) n ⟨c / 128, by omega⟩ ⟨c % 128, by omega⟩
      + (if hn : n.val < 256 then gkey (low q) (low k) (low v) (low d) ⟨n.val, hn⟩ ⟨c / 128, by omega⟩ ⟨c % 128, by omega⟩ else 0) : ℝ) := by
  show gk_l _ _ (ix2 n c) + pad _ _ _ _ _ _ _ _ (ix2 n c) = _
  rw [gk_l_real (gs_l_fin hq hk hw hd) (qL_real hq), pad_k, EReal.coe_add]
  congr 1
  by_cases hn : n.val < 256
  · rw [dif_pos hn, dif_pos hn, gk_c_real (gs_c_fin hq hk hw hd) (qC_real hq)]
  · rw [dif_neg hn, dif_neg hn]; rfl

theorem refQ_low (n : Fin 8448) (hn : n.val < 256) (c : Fin 2048) : refQ Q K W D (ix2 n c)
    = (gqry (low q) (low k) (low v) (low d) ⟨n.val, hn⟩ ⟨c / 512, by omega⟩ ⟨c / 128 % 4, by omega⟩ ⟨c % 128, by omega⟩ : EReal) := by
  show pad _ _ _ _ _ _ _ _ (ix2 n c) + pad _ _ _ _ _ _ _ _ (ix2 n c) = _
  rw [pad_l, pad_c, dif_pos hn, dif_pos hn, gq_c_real (gs_c_fin hq hk hw hd) (kC_real hk), zero_add]

theorem refQ_high (n : Fin 8448) (hn : ¬n.val < 256) (c : Fin 2048) : refQ Q K W D (ix2 n c)
    = (gqry (high q) k v (high d) ⟨n.val - 256, by omega⟩ ⟨c / 512, by omega⟩ ⟨c / 128 % 4, by omega⟩ ⟨c % 128, by omega⟩ : EReal) := by
  show pad _ _ _ _ _ _ _ _ (ix2 n c) + pad _ _ _ _ _ _ _ _ (ix2 n c) = _
  rw [pad_l, pad_c, dif_neg hn, dif_neg hn, gq_l_real (gs_l_fin hq hk hw hd) (kL_real hk), add_zero]

end

end Cert.Attn.Ref

end
-- ==== Proof.HostValue.lean ====
/- The arrays the host prepares, on finite arguments: the numbers they hold. -/
module

public import proofs.«01_k».proof.Proof.RefValue
public import proofs.«01_k».proof.Proof.HostTerms

@[expose] public section

noncomputable section

namespace Cert.Attn.Dev

open Cert.KernelIdeal Cert.KernelIdeal.Gen Idealize.ShloMosaic Idealize.ShloMosaic.TcCoe Idealize.SL.Sem Cert.Attn.Ref

/-- The literal 2. -/
theorem word_two : Ideal.ofBits .f32 0x40000000#32 = ((2 : ℝ) : EReal) := by
  simp [Ideal.ofBits, Ideal.ieee]
  rw [← EReal.coe_mul]; norm_num

theorem log_two : Ideal.log (Ideal.ofBits .f32 0x40000000#32) = (Real.log 2 : EReal) := by
  rw [word_two, Ideal.log_coe, if_neg (by norm_num)]

theorem qsH_at (Q : FVec Ideal S8448x2048 .f32) (p : S8448x2048.Idx) :
    qsH Q p = Ideal.div (Q p * Ideal.ofBits .f32 0x3DB504F3#32) (Ideal.log (Ideal.ofBits .f32 0x40000000#32)) := by
  rw [eq_ix2 p]
  pointwise [qsH]

theorem ktH_at (K : FVec Ideal S8448x512 .f32) (g : Fin 4) (j : Fin 33) (y : Fin 128) (x : Fin 256) :
    ktH K (ix4 g j y x) = K (ix2 (row j x) (kcol g y)) := by
  pointwise [ktH, row, kcol]
  congr 2 <;> apply Fin.ext <;> dsimp only <;> omega

theorem lsH_at (A : FVec Ideal S4x4x256 .f32) (B : FVec Ideal S4x4x8192 .f32) (g : Fin 4) (i : Fin 33) (h : Fin 4) (r : Fin 256) :
    lsH A B (ix4 g i h r) = Ideal.div (if hR : (row i r).val < 256 then A (ix3 g h ⟨(row i r).val, hR⟩) else B (ix3 g h ⟨(row i r).val - 256, by omega⟩))
      (Ideal.log (Ideal.ofBits .f32 0x40000000#32)) := by
  pointwise [lsH, row]
  simp only [Nat.mul_comm i.val 256]

theorem dlH_at (D : FVec Ideal S8448x2048 .f32) (A : FVec Ideal S256x2048 .f32) (B : FVec Ideal S8192x2048 .f32) (g : Fin 4) (i : Fin 33) (h : Fin 4) (r : Fin 256) :
    dlH D A B (ix4 g i h r) = ∑ x : Fin 128, D (ix2 (row i r) (qcol g h x)) *
      (if hR : (row i r).val < 256 then A (ix2 ⟨(row i r).val, hR⟩ (qcol g h x)) else B (ix2 ⟨(row i r).val - 256, by omega⟩ (qcol g h x))) := by
  pointwise [dlH, row, qcol]
  simp only [Nat.mul_comm i.val 256, Nat.mul_comm g.val 512, Nat.mul_comm h.val 128]

theorem lse_c_at (S : FVec Ideal S4x4x256x256 .f32) (M : FVec Ideal S4x4x256 .f32) (g h : Fin 4) (r : Fin 256) :
    addf M (Host.log (Host.reduceAdd (Host.exp (subf S (broadcastInDim S4x4x256x256 ![0, 1, 2, 3] bcast_S4x4x256x1_S4x4x256x256_0_1_2_3
    (broadcastInDim S4x4x256x1 ![0, 1, 2] bcast_S4x4x256_S4x4x256x1_0_1_2 M)))) (constant S_ .f32 0x00000000#32) reducesTo_S4x4x256x256_S4x4x256_d3 h_S_)) (ix3 g h r)
      = M (ix3 g h r) + Ideal.log (∑ n, Ideal.exp (S (ix4 g h r n) - M (ix3 g h r))) := by
  pointwise

theorem lse_l_at (S : FVec Ideal S4x4x8192x8448 .f32) (M : FVec Ideal S4x4x8192 .f32) (g h : Fin 4) (r : Fin 8192) :
    addf M (Host.log (Host.reduceAdd (Host.exp (subf S (broadcastInDim S4x4x8192x8448 ![0, 1, 2, 3] bcast_S4x4x8192x1_S4x4x8192x8448_0_1_2_3
    (broadcastInDim S4x4x8192x1 ![0, 1, 2] bcast_S4x4x8192_S4x4x8192x1_0_1_2 M)))) (constant S_ .f32 0x00000000#32) reducesTo_S4x4x8192x8448_S4x4x8192_d3 h_S_)) (ix3 g h r)
      = M (ix3 g h r) + Ideal.log (∑ n, Ideal.exp (S (ix4 g h r n) - M (ix3 g h r))) := by
  pointwise

/-- A maximum plus the logarithm of the sum of the shifted exponentials is the logarithm of the sum. -/
theorem lse_num {N K : ℕ} [NeZero K] (q : Fin N → Fin 4 → Fin 4 → Fin 128 → ℝ) (k : Fin K → Fin 4 → Fin 128 → ℝ) (g h : Fin 4) (r : Fin N) (M : ℝ) :
    (M : EReal) + Ideal.log (∑ n, Ideal.exp ((scr q k g h r n : EReal) - (M : EReal))) = (Real.log (den q k g h r) : EReal) := by
  have hp : 0 < den q k g h r * Real.exp (-M) := mul_pos (den_pos q k g h r) (Real.exp_pos _)
  rw [Finset.sum_congr rfl fun n _ => show Ideal.exp ((scr q k g h r n : EReal) - (M : EReal)) = (Real.exp (scr q k g h r n - M) : EReal) by
    rw [← EReal.coe_sub, Ideal.exp_coe], sum_real, sum_shift, Ideal.log_coe, if_neg (not_le.mpr hp), ← EReal.coe_add,
    Real.log_mul (den_pos q k g h r).ne' (Real.exp_pos _).ne', Real.log_exp]
  congr 1; ring

theorem lse_c_real (q : Fin 256 → Fin 4 → Fin 4 → Fin 128 → ℝ) (k : Fin 256 → Fin 4 → Fin 128 → ℝ) (S : FVec Ideal S4x4x256x256 .f32)
    (hs : ∀ g h r n, S (ix4 g h r n) = (scr q k g h r n : EReal)) (g h : Fin 4) (r : Fin 256) : lse_c S (ix3 g h r) = (Real.log (den q k g h r) : EReal) := by
  obtain ⟨M, hM⟩ := mx_c_real S _ hs g h r
  refine (lse_c_at S (Ref.mx_c S) g h r).trans ?_
  rw [hM, Finset.sum_congr rfl fun n _ => by rw [hs g h r n], lse_num]

theorem lse_l_real (q : Fin 8192 → Fin 4 → Fin 4 → Fin 128 → ℝ) (k : Fin 8448 → Fin 4 → Fin 128 → ℝ) (S : FVec Ideal S4x4x8192x8448 .f32)
    (hs : ∀ g h r n, S (ix4 g h r n) = (scr q k g h r n : EReal)) (g h : Fin 4) (r : Fin 8192) : lse_l S (ix3 g h r) = (Real.log (den q k g h r) : EReal) := by
  obtain ⟨M, hM⟩ := mx_l_real S _ hs g h r
  refine (lse_l_at S (Ref.mx_l S) g h r).trans ?_
  rw [hM, Finset.sum_congr rfl fun n _ => by rw [hs g h r n], lse_num]

theorem at_c_at (V : FVec Ideal S256x4x128 .f32) (P : FVec Ideal S4x4x256x256 .f32) (r : Fin 256) (g h : Fin 4) (x : Fin 128) :
    at_c V P (ix2 r (qcol g h x)) = ∑ n, V (ix3 n g x) * P (ix4 g h r n) := by
  pointwise [at_c, qcol]

theorem at_l_at (V : FVec Ideal S8448x4x128 .f32) (P : FVec Ideal S4x4x8192x8448 .f32) (r : Fin 8192) (g h : Fin 4) (x : Fin 128) :
    at_l V P (ix2 r (qcol g h x)) = ∑ n, V (ix3 n g x) * P (ix4 g h r n) := by
  pointwise [at_l, qcol]

end Cert.Attn.Dev

end
-- ==== Proof.BlockValue.lean ====
/- A point's blocks on finite arguments, and its weights and gradients by the real formulas. -/
module

public import proofs.«01_k».proof.Proof.HostValue

@[expose] public section

noncomputable section

namespace Cert.Attn.Dev

open Cert.KernelIdeal Cert.KernelIdeal.Gen Idealize.ShloMosaic Idealize.ShloMosaic.TcCoe Idealize.SL.Sem Cert.Attn.Ref

/-- Base 2 exponentials of numbers over log 2 are exponentials. -/
theorem exp2_over (z L : ℝ) : Ideal.exp2 (((z / Real.log 2 : ℝ) : EReal) - ((L / Real.log 2 : ℝ) : EReal)) = (Real.exp (z - L) : EReal) := by
  have := log2_ne
  rw [← EReal.coe_sub, Ideal.exp2_coe]
  congr 1
  show (2 : ℝ) ^ (z / Real.log 2 - L / Real.log 2) = _
  rw [Real.rpow_def_of_pos (by norm_num : (0 : ℝ) < 2)]
  congr 1
  field_simp

section
variable {a b : FVec Ideal S256x128 .bf16} {l e : FVec Ideal S1x256 .f32} {K V : FVec Ideal S8448x128 .bf16} {T : FVec Ideal S1x33x128x256 .bf16}
  {q d : Fin 8448 → Fin 4 → Fin 4 → Fin 128 → ℝ} {k v : Fin 8448 → Fin 4 → Fin 128 → ℝ} {g h : Fin 4} {i : Fin 33}
  (ha : ∀ r y, a (ix2 r y) = ((q (row i r) g h y * sc / Real.log 2 : ℝ) : EReal)) (hb : ∀ r y, b (ix2 r y) = (d (row i r) g h y : EReal))
  (hl : ∀ r, l (ix2 0 r) = ((lnr q k g h (row i r) / Real.log 2 : ℝ) : EReal)) (he : ∀ r, e (ix2 0 r) = (dlr q d k v g h (row i r) : EReal))
  (hK : ∀ n y, K (ix2 n y) = (k n g y : EReal)) (hV : ∀ n y, V (ix2 n y) = (v n g y : EReal))
  (hT : ∀ j y x, T (ix4 0 j y x) = (k (row j x) g y : EReal))

include ha hl hK in
theorem wt_real (n : Fin 8448) (r : Fin 256) : wt a l K n r = (pw q k g h (row i r) n : EReal) := by
  unfold wt pw
  rw [Finset.sum_congr rfl fun x _ => show K (ix2 n x) * a (ix2 r x) = ((k n g x * (q (row i r) g h x * sc / Real.log 2) : ℝ) : EReal) by
    rw [hK, ha, EReal.coe_mul], sum_real, hl, ← exp2_over]
  congr 3
  rw [Finset.sum_mul, Finset.sum_div]
  exact Finset.sum_congr rfl fun x _ => by ring

include ha hb hl he hK hV in
theorem gr_real (n : Fin 8448) (r : Fin 256) : gr a b l e K V n r = (gw q d k v g h (row i r) n : EReal) := by
  unfold gr gw
  rw [wt_real ha hl hK, Finset.sum_congr rfl fun x _ => show V (ix2 n x) * b (ix2 r x) = ((v n g x * d (row i r) g h x : ℝ) : EReal) by
    rw [hV, hb, EReal.coe_mul], sum_real, he, ← EReal.coe_sub, ← EReal.coe_mul]

include ha hb hl he hK hV in
theorem key_add (n : Fin 8448) (y : Fin 128) : rowAdd (gr a b l e K V) a n y
    = ((∑ r, gw q d k v g h (row i r) n * (q (row i r) g h y * sc / Real.log 2) : ℝ) : EReal) := by
  unfold rowAdd
  rw [← sum_real]
  exact Finset.sum_congr rfl fun r _ => by rw [gr_real ha hb hl he hK hV, ha, EReal.coe_mul]

include ha hb hl hK in
theorem value_add (n : Fin 8448) (y : Fin 128) : rowAdd (wt a l K) b n y
    = ((∑ r, pw q k g h (row i r) n * d (row i r) g h y : ℝ) : EReal) := by
  unfold rowAdd
  rw [← sum_real]
  exact Finset.sum_congr rfl fun r _ => by rw [wt_real ha hl hK, hb, EReal.coe_mul]

include ha hb hl he hK hV hT in
theorem chunk_real (j : Fin 33) (y : Fin 128) (r : Fin 256) : chunk T (gr a b l e K V) j.val y r
    = ((∑ x, k (row j x) g y * gw q d k v g h (row i r) (row j x) : ℝ) : EReal) := by
  unfold chunk
  rw [dif_pos j.isLt, ← sum_real]
  exact Finset.sum_congr rfl fun x _ => by
    rw [EReal.coe_mul, ← hT j y x, ← gr_real ha hb hl he hK hV (row j x) r]; rfl

include ha hb hl he hK hV hT in
/-- A context row's queries' gradient, as the kernel adds it up. -/
theorem dq_low (hi : i.val = 0) (r : Fin 256) (y : Fin 128) :
    (∑ j ∈ Finset.range 1, chunk T (gr a b l e K V) j y r) * (sc : EReal) = (gqry (low q) (low k) (low v) (low d) r g h y : EReal) := by
  have hi0 : i = 0 := Fin.ext hi
  rw [Finset.sum_range_one, show chunk T (gr a b l e K V) 0 y r = _ from chunk_real ha hb hl he hK hV hT 0 y r, ← EReal.coe_mul, ← qry_lo q d k v, hi0]
  simp only [row_zero]

include ha hb hl he hK hV hT in
/-- A latent row's queries' gradient, as the kernel adds it up. -/
theorem dq_high (R : Fin 8192) (r : Fin 256) (hR : row i r = hi R) (y : Fin 128) :
    (∑ j ∈ Finset.range 33, chunk T (gr a b l e K V) j y r) * (sc : EReal) = (gqry (high q) k v (high d) R g h y : EReal) := by
  rw [Finset.sum_range, Finset.sum_congr rfl fun j _ => chunk_real ha hb hl he hK hV hT j y r, sum_real, ← EReal.coe_mul, ← qry_hi q d k v, hR]

end

/-- The row sum of the products of the attention's output and its cotangent is the mean of the probabilities' cotangents. -/
theorem mean_num {N K : ℕ} (q d : Fin N → Fin 4 → Fin 4 → Fin 128 → ℝ) (k v : Fin K → Fin 4 → Fin 128 → ℝ) (g h : Fin 4) (r : Fin N) :
    ∑ x, d r g h x * (∑ n, v n g x * prb q k g h r n) = dlt q k v d g h r := by
  unfold dlt dpb
  simp only [Finset.mul_sum]
  rw [Finset.sum_comm]
  exact Finset.sum_congr rfl fun n _ => Finset.sum_congr rfl fun x _ => by ring

section
variable {Q D : FVec Ideal S8448x2048 .f32} {K : FVec Ideal S8448x512 .f32} {W : FVec Ideal S8448x5120 .f32}
  {q d : Fin 8448 → Fin 4 → Fin 4 → Fin 128 → ℝ} {k v : Fin 8448 → Fin 4 → Fin 128 → ℝ}
  (hq : ∀ R g h x, Q (ix2 R (qcol g h x)) = (q R g h x : EReal)) (hk : ∀ n g x, K (ix2 n (kcol g x)) = (k n g x : EReal))
  (hw : ∀ n g x, W (ix2 n (wcol g x)) = (v n g x : EReal)) (hd : ∀ R g h x, D (ix2 R (qcol g h x)) = (d R g h x : EReal))
include hq hk

theorem lsH_real (g : Fin 4) (i : Fin 33) (h : Fin 4) (r : Fin 256) : lsH (lse_c (sco_c (qC Q) (kC K))) (lse_l (sco_l (qL Q) (kL K))) (ix4 g i h r)
    = ((lnr q k g h (row i r) / Real.log 2 : ℝ) : EReal) := by
  rw [lsH_at, log_two, ← div_real _ log2_ne]
  congr 1
  unfold lnr
  by_cases hR : (row i r).val < 256
  · rw [dif_pos hR, dif_pos hR]; exact lse_c_real _ _ _ (sco_c_fin hq hk) _ _ _
  · rw [dif_neg hR, dif_neg hR]; exact lse_l_real _ _ _ (sco_l_fin hq hk) _ _ _

include hw hd

theorem dlH_real (g : Fin 4) (i : Fin 33) (h : Fin 4) (r : Fin 256) : dlH D (at_c (kC (vcols W)) (pr_c (ex_c (sco_c (qC Q) (kC K))))) (at_l (kL (vcols W)) (pr_l (ex_l (sco_l (qL Q) (kL K))))) (ix4 g i h r)
    = (dlr q d k v g h (row i r) : EReal) := by
  rw [dlH_at]
  unfold dlr
  by_cases hR : (row i r).val < 256
  · rw [dif_pos hR, ← mean_num, ← sum_real]
    refine Finset.sum_congr rfl fun x _ => ?_
    rw [dif_pos hR, at_c_at, hd, EReal.coe_mul, ← sum_real]
    exact congrArg₂ (· * ·) rfl (Finset.sum_congr rfl fun n _ => by rw [kC_real (v_real hw), prb_c_fin hq hk, EReal.coe_mul])
  · rw [dif_neg hR, ← mean_num, ← sum_real]
    refine Finset.sum_congr rfl fun x _ => ?_
    rw [dif_neg hR, at_l_at, hd, EReal.coe_mul, ← sum_real]
    refine congrArg₂ (· * ·) ?_ (Finset.sum_congr rfl fun n _ => by rw [kL_real (v_real hw), prb_l_fin hq hk, EReal.coe_mul])
    have e : row i r = hi ⟨(row i r).val - 256, by omega⟩ := Fin.ext (by show (row i r).val = 256 + ((row i r).val - 256); omega)
    exact congrArg (fun R => ((d R g h x : ℝ) : EReal)) e

end

section
variable (m : (ℓ : Loc nD τ sig) → Buf (Elt Ideal) ℓ) (c : Dev nD)
  {q d : Fin 8448 → Fin 4 → Fin 4 → Fin 128 → ℝ} {k v : Fin 8448 → Fin 4 → Fin 128 → ℝ}

/-- The arguments hold the numbers `q`, `k`, `v` and `d`. -/
structure Finite (q d : Fin 8448 → Fin 4 → Fin 4 → Fin 128 → ℝ) (k v : Fin 8448 → Fin 4 → Fin 128 → ℝ) : Prop where
  q : ∀ R g h x, (m ((c : Thread nD τ).loc main_arg0) : FVec Ideal S8448x2048 .f32) (ix2 R (qcol g h x)) = (q R g h x : EReal)
  k : ∀ n g x, (m ((c : Thread nD τ).loc main_arg1) : FVec Ideal S8448x512 .f32) (ix2 n (kcol g x)) = (k n g x : EReal)
  v : ∀ n g x, (m ((c : Thread nD τ).loc main_arg2) : FVec Ideal S8448x5120 .f32) (ix2 n (wcol g x)) = (v n g x : EReal)
  d : ∀ R g h x, (m ((c : Thread nD τ).loc main_arg3) : FVec Ideal S8448x2048 .f32) (ix2 R (qcol g h x)) = (d R g h x : EReal)

variable {m c} (H : Finite m c q d k v) (t : Fin cfg0.N)
include H

omit H in
theorem place (h : Fin 4) (r : Fin 256) (y : Fin 128) :
    ix2 (⟨256 * (rb t).val + r.val, by have := (rb t).isLt; omega⟩ : Fin 8448) (⟨512 * (gp t).val + (128 * h.val + y.val), by have := (gp t).isLt; omega⟩ : Fin 2048)
      = ix2 (row (rb t) r) (qcol (gp t) h y) := by
  congr 1; exact Fin.ext (by show 512 * (gp t).val + (128 * h.val + y.val) = 512 * (gp t).val + 128 * h.val + y.val; omega)

theorem in_q (h : Fin 4) (r : Fin 256) (y : Fin 128) :
    hd h (iblk m c 0 t) (ix2 r y) = ((q (row (rb t) r) (gp t) h y * sc / Real.log 2 : ℝ) : EReal) := by
  refine (blk_0 m c t r ⟨128 * h.val + y.val, by omega⟩).trans ((congrFun (V_v6 m c) _).trans ((congrArg (qsH _) (place t h r y)).trans ?_))
  rw [qsH_at, H.q, word_sc, log_two, ← EReal.coe_mul, div_real _ log2_ne]

theorem in_d (h : Fin 4) (r : Fin 256) (y : Fin 128) : hd h (iblk m c 1 t) (ix2 r y) = (d (row (rb t) r) (gp t) h y : EReal) := by
  refine (blk_1 m c t r ⟨128 * h.val + y.val, by omega⟩).trans ((congrFun (V_v97 m c) _).trans ?_)
  exact (congrArg (m ((c : Thread nD τ).loc main_arg3) : FVec Ideal S8448x2048 .f32) (place t h r y)).trans (H.d ..)

theorem in_k (n : Fin 8448) (y : Fin 128) : (iblk m c 2 t : FVec Ideal S8448x128 .bf16) (ix2 n y) = (k n (gp t) y : EReal) := by
  rw [blk_2, V_v7]
  exact H.k ..

theorem in_v (n : Fin 8448) (y : Fin 128) : (iblk m c 3 t : FVec Ideal S8448x128 .bf16) (ix2 n y) = (v n (gp t) y : EReal) := by
  rw [blk_3, V_v100]
  exact H.v ..

theorem in_t (j : Fin 33) (y : Fin 128) (x : Fin 256) : (iblk m c 4 t : FVec Ideal S1x33x128x256 .bf16) (ix4 0 j y x) = (k (row j x) (gp t) y : EReal) := by
  rw [blk_4, V_v99, ktH_at]
  exact H.k ..

theorem in_l (h : Fin 4) (r : Fin 256) : ro h (iblk m c 5 t) (ix2 0 r) = ((lnr q k (gp t) h (row (rb t) r) / Real.log 2 : ℝ) : EReal) :=
  (blk_5 m c t h r).trans ((congrFun (V_v94 m c) _).trans (lsH_real H.q H.k ..))

theorem in_e (h : Fin 4) (r : Fin 256) : ro h (iblk m c 6 t) (ix2 0 r) = (dlr q d k v (gp t) h (row (rb t) r) : EReal) :=
  (blk_6 m c t h r).trans ((congrFun (V_v96 m c) _).trans (dlH_real H.q H.k H.v H.d ..))

theorem keyAll_real (n : Fin 8448) (y : Fin 128) : keyAll (fun h => hd h (iblk m c 0 t)) (fun h => hd h (iblk m c 1 t)) (fun h => ro h (iblk m c 5 t)) (fun h => ro h (iblk m c 6 t)) (iblk m c 2 t) (iblk m c 3 t) n y
    = (KR q d k v (gp t) (rb t) n y : EReal) := by
  unfold keyAll KR
  rw [← sum_real]
  exact Finset.sum_congr rfl fun h _ => key_add (in_q H t h) (in_d H t h) (in_l H t h) (in_e H t h) (in_k H t) (in_v H t) n y

theorem valueAll_real (n : Fin 8448) (y : Fin 128) : valueAll (fun h => hd h (iblk m c 0 t)) (fun h => hd h (iblk m c 1 t)) (fun h => ro h (iblk m c 5 t)) (iblk m c 2 t) n y
    = (VR q d k (gp t) (rb t) n y : EReal) := by
  unfold valueAll VR
  rw [← sum_real]
  exact Finset.sum_congr rfl fun h _ => value_add (in_q H t h) (in_d H t h) (in_l H t h) (in_k H t) n y

end

end Cert.Attn.Dev

end
-- ==== Proof.Result.lean ====
/- On finite arguments the kernel's three result arrays are the reference's. -/
module

public import proofs.«01_k».proof.Proof.BlockValue
public import proofs.«01_k».proof.Proof.Arrays

@[expose] public section

noncomputable section

namespace Cert.Attn.Dev

open Cert.KernelIdeal Cert.KernelIdeal.Gen Idealize.ShloMosaic Idealize.ShloMosaic.TcCoe Idealize.SL.Sem Cert.Attn.Ref

section
variable {m : (ℓ : Loc nD τ sig) → Buf (Elt Ideal) ℓ} {c : Dev nD}
  {q d : Fin 8448 → Fin 4 → Fin 4 → Fin 128 → ℝ} {k v : Fin 8448 → Fin 4 → Fin 128 → ℝ} (H : Finite m c q d k v)
include H

theorem result_k : ((dats m 0 c).arrAt 8 cfg0.N : FVec Ideal S8448x512 .f32) = refK (m ((c : Thread nD τ).loc main_arg0)) (m ((c : Thread nD τ).loc main_arg1))
    (m ((c : Thread nD τ).loc main_arg2)) (m ((c : Thread nD τ).loc main_arg3)) := by
  refine array_8 m c _ fun t ht n y => ?_
  have hg := (gp t).isLt
  rw [(sums_last m c (KR q d k v) (VR q d k) (keyAll_real H) (valueAll_real H) t ht n y).1, refK_real H.q H.k H.v H.d, key_total]
  have e0 : (⟨(128 * (gp t).val + y.val) / 128, by omega⟩ : Fin 4) = gp t := Fin.ext (by dsimp only; omega)
  have e1 : (⟨(128 * (gp t).val + y.val) % 128, by omega⟩ : Fin 128) = y := Fin.ext (by dsimp only; omega)
  simp only [e0, e1]

theorem result_v : ((dats m 0 c).arrAt 9 cfg0.N : FVec Ideal S8448x512 .f32) = refV (m ((c : Thread nD τ).loc main_arg0)) (m ((c : Thread nD τ).loc main_arg1))
    (m ((c : Thread nD τ).loc main_arg2)) (m ((c : Thread nD τ).loc main_arg3)) := by
  refine array_9 m c _ fun t ht n y => ?_
  have hg := (gp t).isLt
  rw [(sums_last m c (KR q d k v) (VR q d k) (keyAll_real H) (valueAll_real H) t ht n y).2, refV_real H.q H.k H.d, val_total]
  have e0 : (⟨(128 * (gp t).val + y.val) / 128, by omega⟩ : Fin 4) = gp t := Fin.ext (by dsimp only; omega)
  have e1 : (⟨(128 * (gp t).val + y.val) % 128, by omega⟩ : Fin 128) = y := Fin.ext (by dsimp only; omega)
  simp only [e0, e1]

theorem result_q : ((dats m 0 c).arrAt 7 cfg0.N : FVec Ideal S8448x2048 .f32) = refQ (m ((c : Thread nD τ).loc main_arg0)) (m ((c : Thread nD τ).loc main_arg1))
    (m ((c : Thread nD τ).loc main_arg2)) (m ((c : Thread nD τ).loc main_arg3)) := by
  refine array_7 m c _ fun t r x => ?_
  have hg := (gp t).isLt
  have hb := (rb t).isLt
  obtain ⟨h, y, hx⟩ : ∃ (h : Fin 4) (y : Fin 128), x = ⟨128 * h.val + y.val, by omega⟩ :=
    ⟨⟨x.val / 128, by omega⟩, ⟨x.val % 128, by omega⟩, Fin.ext (by dsimp only; omega)⟩
  subst hx
  have e0 : (⟨(512 * (gp t).val + (128 * h.val + y.val)) / 512, by omega⟩ : Fin 4) = gp t := Fin.ext (by dsimp only; omega)
  have e1 : (⟨(512 * (gp t).val + (128 * h.val + y.val)) / 128 % 4, by omega⟩ : Fin 4) = h := Fin.ext (by dsimp only; omega)
  have e2 : (⟨(512 * (gp t).val + (128 * h.val + y.val)) % 128, by omega⟩ : Fin 128) = y := Fin.ext (by dsimp only; omega)
  rw [dq_at]
  by_cases hi0 : (rb t).val = 0
  · rw [if_pos hi0, dq_low (in_q H t h) (in_d H t h) (in_l H t h) (in_e H t h) (in_k H t) (in_v H t) (in_t H t) hi0 r y,
      refQ_low H.q H.k H.v H.d _ (by show 256 * (rb t).val + r.val < 256; omega)]
    have e3 : (⟨256 * (rb t).val + r.val, by omega⟩ : Fin 256) = r := Fin.ext (by show 256 * (rb t).val + r.val = r.val; omega)
    simp only [e0, e1, e2, e3]
  · rw [if_neg hi0, dq_high (in_q H t h) (in_d H t h) (in_l H t h) (in_e H t h) (in_k H t) (in_v H t) (in_t H t) ⟨256 * (rb t).val + r.val - 256, by omega⟩ r
        (Fin.ext (by show 256 * (rb t).val + r.val = 256 + (256 * (rb t).val + r.val - 256); omega)) y,
      refQ_high H.q H.k H.v H.d _ (by show ¬256 * (rb t).val + r.val < 256; omega)]
    simp only [e0, e1, e2]

end

end Cert.Attn.Dev

end
-- ==== Proof.Algebraic.lean ====
/- The value claim: on finite arguments the kernel's program and the reference's leave the same three arrays. -/
module

public import proofs.«01_k».proof.Proof.Result
public import proofs.«01_k».proof.Proof.Frames

@[expose] public section

noncomputable section

namespace Cert.Attn

open Idealize.ShloMosaic Idealize.ShloMosaic.TcCoe Idealize.SL.Sem Cert.KernelIdeal Cert.Attn.Ref Cert.Attn.Dev

/-- What compares below infinity in size is a number. -/
theorem real_of_lt (x : EReal) (h : Ideal.cmp .olt (max x (-x)) (Ideal.ofBits .f32 0x7F800000#32) = 1#1) : x = (x.toReal : EReal) := by
  rw [word_top] at h
  have hx : max x (-x) < ⊤ := by
    by_contra hn
    simp [Ideal.cmp, hn] at h
  refine (EReal.coe_toReal ?_ ?_).symm
  · rintro rfl; simp at hx
  · rintro rfl; simp at hx

theorem finite_of_pre (m : (ℓ : Loc nD τ sig) → Buf (Elt Ideal) ℓ) (hp : Cert.Pre_KernelIdeal_finite (hPre_finite := pre_facts) m) (c : Dev nD) :
    Finite m c (fun R g h x => ((m ((c : Thread nD τ).loc main_arg0) : FVec Ideal S8448x2048 .f32) (ix2 R (qcol g h x)) : EReal).toReal)
      (fun R g h x => ((m ((c : Thread nD τ).loc main_arg3) : FVec Ideal S8448x2048 .f32) (ix2 R (qcol g h x)) : EReal).toReal)
      (fun n g x => ((m ((c : Thread nD τ).loc main_arg1) : FVec Ideal S8448x512 .f32) (ix2 n (kcol g x)) : EReal).toReal)
      (fun n g x => ((m ((c : Thread nD τ).loc main_arg2) : FVec Ideal S8448x5120 .f32) (ix2 n (wcol g x)) : EReal).toReal) := by
  obtain ⟨h0, h1, h2, h3⟩ := hp c
  refine ⟨fun R g h x => real_of_lt _ (congrFun h0 (ix2 R (qcol g h x))), fun n g x => real_of_lt _ (congrFun h1 (ix2 n (kcol g x))),
    fun n g x => real_of_lt _ ?_, fun R g h x => real_of_lt _ (congrFun h3 (ix2 R (qcol g h x)))⟩
  rw [← vcols_at (m ((c : Thread nD τ).loc main_arg2))]
  exact congrFun h2 (ix2 n (kcol g x))

theorem algebraic : Cert.algebraic_KernelIdeal_ReferenceIdeal_pre_finite (hPre_finite := pre_facts) := by
  intro m g m' g' hp hagree
  refine ⟨_, _, _, run_blocks m g, ?_⟩
  refine (θ_run _ _ _).mono (fun _ h c => ?_) (Cert.ReferenceIdeal.Value.run (F := Ideal) m' g')
  obtain ⟨r0, r1, r2, ha⟩ := h c
  obtain ⟨a0, a1, a2, a3⟩ := hagree c
  have H := finite_of_pre m hp c
  refine ⟨r0.trans ?_, r1.trans ?_, r2.trans ?_, ha⟩
  · refine (out0_eq m' c).trans ?_
    rw [a0, a1, a2, a3]; exact (result_q H).symm
  · refine (out1_eq m' c).trans ?_
    rw [a0, a1, a2, a3]; exact (result_k H).symm
  · refine (out2_eq m' c).trans ?_
    rw [a0, a1, a2, a3]; exact (result_v H).symm

end Cert.Attn

end
-- ==== Proof.Products.lean ====
/- Sums of products by numbers of rows and columns, and sums by blocks. -/
module

public import proofs.«01_k».proof.Proof.Algebraic
public import Idealize.ShloMosaic.PureOps
public import Idealize.ShloMosaic.Lib.Pointwise

@[expose] public section

noncomputable section

namespace Cert.Products

open Idealize.ShloMosaic

/-- The entry of a matrix at two numbers, 0 outside of it. -/
def cell {a b : ℕ} (f : Fin a → Fin b → EReal) (i j : ℕ) : EReal := if h : i < a ∧ j < b then f ⟨i, h.1⟩ ⟨j, h.2⟩ else 0

theorem cell_val {a b : ℕ} (f : Fin a → Fin b → EReal) (i : Fin a) (j : Fin b) : cell f i.val j.val = f i j :=
  dif_pos ⟨i.isLt, j.isLt⟩

theorem cell_at {a b : ℕ} (f : Fin a → Fin b → EReal) (i j : ℕ) (hi : i < a) (hj : j < b) : cell f i j = f ⟨i, hi⟩ ⟨j, hj⟩ :=
  dif_pos ⟨hi, hj⟩

/-- A sum by `n` blocks of `b`. -/
theorem sum_blocks (b : ℕ) (f : ℕ → EReal) (n : ℕ) :
    ∑ j ∈ Finset.range n, ∑ y ∈ Finset.range b, f (b * j + y) = ∑ x ∈ Finset.range (b * n), f x := by
  induction n with
  | zero => simp
  | succ n ih => rw [Finset.sum_range_succ, ih, Nat.mul_succ, Finset.sum_range_add]

/-- A sum that grows by one term a step, and starts anew every `p` steps, where a row of steps is done. -/
theorem sum_run (p : ℕ) (hp : 0 < p) (N : ℕ) (S : (n : ℕ) → n < N → EReal) (T : ℕ → ℕ → EReal)
    (h0 : ∀ n (h : n < N), n % p = 0 → S n h = T (n / p) 0)
    (h1 : ∀ n (h : n + 1 < N), (n + 1) % p ≠ 0 → S (n + 1) h = S n (Nat.lt_of_succ_lt h) + T ((n + 1) / p) ((n + 1) % p)) :
    ∀ n (h : n < N), S n h = ∑ j ∈ Finset.range (n % p + 1), T (n / p) j := by
  intro n
  induction n with
  | zero =>
    intro h
    rw [h0 0 h (Nat.zero_mod _)]
    simp
  | succ n ih =>
    intro h
    by_cases hm : (n + 1) % p = 0
    · rw [h0 _ h hm, hm]; simp
    · obtain ⟨e1, e2⟩ : (n + 1) % p = n % p + 1 ∧ (n + 1) / p = n / p := by
        have a := Nat.div_add_mod n p
        have hlt := Nat.mod_lt n hp
        have hne : n % p + 1 ≠ p := fun e => hm (by
          rw [← Nat.div_add_mod n p, Nat.add_assoc, e]; simp [Nat.add_mod])
        have hl : n % p + 1 < p := by omega
        constructor
        · conv_lhs => rw [← a, Nat.add_assoc, Nat.mul_add_mod, Nat.mod_eq_of_lt hl]
        · conv_lhs => rw [← a, Nat.add_assoc, Nat.mul_add_div hp, Nat.div_eq_of_lt hl, Nat.add_zero]
      rw [h1 n h hm, ih, e1, e2, Finset.sum_range_succ _ (n % p + 1)]

end Cert.Products

end
-- ==== Proof.DxValue.lean ====
/- What the blocked product by the transposed weight leaves: every entry is the whole sum over the columns. -/
module

public import proofs.«01_k».proof.Proof.Gen.DxIdeal.Value
public import proofs.«01_k».proof.Proof.Products
public import Idealize.ShloMosaic.PureOps.Ideal
public import Idealize.ShloMosaic.Lib.Pointwise

@[expose] public section

set_option maxRecDepth 16384

noncomputable section

namespace Cert.Products.Dx

open Cert.DxIdeal Cert.DxIdeal.Gen Idealize.ShloMosaic Idealize.ShloMosaic.TcCoe Idealize.SL.Sem

theorem two_zero : (![0, 0] : Fin 2 → Nat) = fun _ => 0 := funext fun a => by fin_cases a <;> rfl

theorem three_zero : (![0, 0, 0] : Fin 3 → Nat) = fun _ => 0 := funext fun a => by fin_cases a <;> rfl

section
variable {F : FTy → Type} [FloatOps F]

/-- The first point of a row of steps leaves the zero block plus its product in the accumulator. -/
theorem acc_first (c : Dev nD) (i : grid0.Coords) (a3 : Memref sig .tc .vmem S768x1792 .bf16) (h3 : a3.IsWhole) (a4 : Memref sig .tc .vmem S1x2048x1792 .bf16) (h4 : a4.IsWhole) (a5 : Memref sig .tc .vmem S768x2048 .f32) (h5 : a5.IsWhole) (a6 : Memref sig .tc .vmem S768x2048 .f32) (h6 : a6.IsWhole) (hc0 : cond0_0 i) (hc1 : ¬cond0_1 i)
    (x0 : Vec F S768x1792 .bf16) (x1 : Vec F S1x2048x1792 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero two_zero, View.readCov_unit_zero _ two_zero]
  simp only [View.readAt_eq_ld, h3.read_unread, h4.read_unread, View.ld_unit_zero (S := S768x2048) two_zero, View.ld_unit_zero (S := S768x1792) two_zero, View.ld_unit_zero (S := S1x2048x1792) three_zero]

/-- A point between adds its product to the accumulator. -/
theorem acc_next (c : Dev nD) (i : grid0.Coords) (a3 : Memref sig .tc .vmem S768x1792 .bf16) (h3 : a3.IsWhole) (a4 : Memref sig .tc .vmem S1x2048x1792 .bf16) (h4 : a4.IsWhole) (a5 : Memref sig .tc .vmem S768x2048 .f32) (h5 : a5.IsWhole) (a6 : Memref sig .tc .vmem S768x2048 .f32) (h6 : a6.IsWhole) (hc0 : ¬cond0_0 i) (hc1 : ¬cond0_1 i)
    (x0 : Vec F S768x1792 .bf16) (x1 : Vec F S1x2048x1792 .bf16) (s : Vec F S768x2048 .f32) :
    sout0_B_0 c i a3 h3 a4 h4 a5 h5 a6 h6 hc0 hc1 x0 x1 s = k0_pay2 s x0 x1 := by
  unfold sout0_B_0
  rw [View.read_writes_eq_canon _ _ _ (scover0_B_0 c i a3 h3 a4 h4 a5 h5 a6 h6 hc0 hc1 x0 x1 s)]
  unfold kernelRun0_B
  dsimp only
  rw [View.canon_unit_zero two_zero]
  simp only [View.readAt_eq_ld, h3.read_unread, h4.read_unread, h6.read_unread, View.ld_unit_zero (S := S768x2048) two_zero, View.ld_unit_zero (S := S768x1792) two_zero, View.ld_unit_zero (S := S1x2048x1792) three_zero]

/-- The last point adds its product to the accumulator too. -/
theorem acc_last (c : Dev nD) (i : grid0.Coords) (a3 : Memref sig .tc .vmem S768x1792 .bf16) (h3 : a3.IsWhole) (a4 : Memref sig .tc .vmem S1x2048x1792 .bf16) (h4 : a4.IsWhole) (a5 : Memref sig .tc .vmem S768x2048 .f32) (h5 : a5.IsWhole) (a6 : Memref sig .tc .vmem S768x2048 .f32) (h6 : a6.IsWhole) (hc0 : ¬cond0_0 i) (hc1 : cond0_1 i)
    (x0 : Vec F S768x1792 .bf16) (x1 : Vec F S1x2048x1792 .bf16) (s : Vec F S768x2048 .f32) :
    sout0_C_0 c i a3 h3 a4 h4 a5 h5 a6 h6 hc0 hc1 x0 x1 s = k0_pay2 s x0 x1 := by
  unfold sout0_C_0
  rw [View.read_writes_eq_canon _ _ _ (scover0_C_0 c i a3 h3 a4 h4 a5 h5 a6 h6 hc0 hc1 x0 x1 s)]
  unfold kernelRun0_C
  dsimp only
  sl_unfold_words
  rw [View.canon_unit_zero two_zero]
  simp only [View.readAt_eq_ld, h3.read_unread, h4.read_unread, h6.read_unread, View.ld_unit_zero (S := S768x2048) two_zero, View.ld_unit_zero (S := S768x1792) two_zero, View.ld_unit_zero (S := S1x2048x1792) three_zero]

/-- … and leaves what it then holds in the result's buffer. -/
theorem out_last (c : Dev nD) (i : grid0.Coords) (a3 : Memref sig .tc .vmem S768x1792 .bf16) (h3 : a3.IsWhole) (a4 : Memref sig .tc .vmem S1x2048x1792 .bf16) (h4 : a4.IsWhole) (a5 : Memref sig .tc .vmem S768x2048 .f32) (h5 : a5.IsWhole) (a6 : Memref sig .tc .vmem S768x2048 .f32) (h6 : a6.IsWhole) (hc0 : ¬cond0_0 i) (hc1 : cond0_1 i)
    (x0 : Vec F S768x1792 .bf16) (x1 : Vec F S1x2048x1792 .bf16) (s : Vec F S768x2048 .f32) :
    out0_C_2 c i a3 h3 a4 h4 a5 h5 a6 h6 hc0 hc1 x0 x1 s = k0_pay2 s x0 x1 := by
  unfold out0_C_2
  rw [View.read_writes_eq_canon _ _ _ (cover0_C_2 c i a3 h3 a4 h4 a5 h5 a6 h6 hc0 hc1 x0 x1 s)]
  unfold kernelRun0_C
  dsimp only
  sl_unfold_words
  rw [View.canon_unit_zero two_zero, View.readCov_unit_zero _ two_zero]
  simp only [View.readAt_eq_ld, h3.read_unread, h4.read_unread, h6.read_unread, View.ld_unit_zero (S := S768x2048) two_zero, View.ld_unit_zero (S := S768x1792) two_zero, View.ld_unit_zero (S := S1x2048x1792) three_zero]

end

/-- A step at one entry: the accumulator plus the sum over the block's columns. -/
theorem step_at (s : Vec Ideal S768x2048 .f32) (x0 : Vec Ideal S768x1792 .bf16) (x1 : Vec Ideal S1x2048x1792 .bf16) (r : Fin 768) (k : Fin 2048) :
    k0_pay2 s x0 x1 (ix2 r k) = s (ix2 r k) + ∑ y : Fin 1792, x0 (ix2 r y) * x1 (ix3 0 k y) := by
  pointwise [k0_pay2]

theorem zero_at (r : Fin 768) (k : Fin 2048) : k0_pay1 (F := Ideal) (ix2 r k) = 0 := by
  pointwise [k0_pay1]

/-! ## The arrays and their blocks -/

variable (m : (ℓ : Loc nD τ sig) → Buf (Elt Ideal) ℓ) (c : Dev nD)

/-- The gradient of the product, by row and column. -/
def ct : Fin 8448 → Fin 14336 → EReal := fun R x => (m ((c : Thread nD τ).loc main_arg1) : FVec Ideal S8448x14336 .bf16) (ix2 R x)

/-- The weight, by row and column: the shards' columns one after the other. -/
def wt : Fin 2048 → Fin 14336 → EReal := fun k x =>
  (m ((c : Thread nD τ).loc main_arg0) : FVec Ideal S4x2048x3584 .bf16) (ix3 ⟨x.val / 3584, by omega⟩ k ⟨x.val % 3584, Nat.mod_lt _ (by decide)⟩)

/-- The part of an entry that step `j` of the row block `i` adds. -/
def part (i j : ℕ) (r : Fin 768) (k : Fin 2048) : EReal :=
  ∑ y ∈ Finset.range 1792, cell (ct m c) (768 * i + r.val) (1792 * j + y) * cell (wt m c) k.val (1792 * j + y)

theorem idx0 : ∀ t : Fin cfg0.N, win0_0.index t 0 = t.val / 8 ∧ win0_0.index t 1 = t.val % 8 :=
  (by decide +kernel : ∀ t : Fin grid0.N, _)

theorem idx1 : ∀ t : Fin cfg0.N, win0_1.index t 0 = t.val % 8 / 2 ∧ win0_1.index t 1 = 0 ∧ win0_1.index t 2 = t.val % 8 % 2 :=
  (by decide +kernel : ∀ t : Fin grid0.N, _)

theorem blk0_at (t : Fin cfg0.N) (r : Fin 768) (y : Fin 1792) :
    (iblk m c 0 t : Vec Ideal S768x1792 .bf16) (ix2 r y) = cell (ct m c) (768 * (t.val / 8) + r.val) (1792 * (t.val % 8) + y.val) := by
  have hN : t.val < 88 := lt_of_lt_of_eq t.isLt N_0
  obtain ⟨e0, e1⟩ := idx0 t
  rw [cell_at _ _ _ (by omega) (by omega)]
  unfold iblk ct
  rw [View.read_apply]
  show V m c main_arg1 _ = m (c.tc.loc main_arg1) _
  unfold V
  congr 1
  funext a
  apply Fin.ext
  match a with
  | ⟨0, _⟩ => show win0_0.index t 0 * 768 + 1 * r.val = 768 * (t.val / 8) + r.val; rw [e0]; omega
  | ⟨1, _⟩ => show win0_0.index t 1 * 1792 + 1 * y.val = 1792 * (t.val % 8) + y.val; rw [e1]; omega

theorem blk1_at (t : Fin cfg0.N) (k : Fin 2048) (y : Fin 1792) :
    (iblk m c 1 t : Vec Ideal S1x2048x1792 .bf16) (ix3 0 k y) = cell (wt m c) k.val (1792 * (t.val % 8) + y.val) := by
  have hN : t.val < 88 := lt_of_lt_of_eq t.isLt N_0
  obtain ⟨e0, e1, e2⟩ := idx1 t
  rw [cell_at _ _ _ k.isLt (by omega)]
  unfold iblk wt
  rw [View.read_apply]
  show V m c main_arg0 _ = m (c.tc.loc main_arg0) _
  unfold V
  congr 1
  funext a
  apply Fin.ext
  match a with
  | ⟨0, _⟩ => show win0_1.index t 0 * 1 + 1 * 0 = (1792 * (t.val % 8) + y.val) / 3584; rw [e0]; omega
  | ⟨1, _⟩ => show win0_1.index t 1 * 2048 + 1 * k.val = k.val; rw [e1]; omega
  | ⟨2, _⟩ => show win0_1.index t 2 * 1792 + 1 * y.val = (1792 * (t.val % 8) + y.val) % 3584; rw [e2]; omega

/-- A step adds its part. -/
theorem step_part (s : Vec Ideal S768x2048 .f32) (t : Fin cfg0.N) (r : Fin 768) (k : Fin 2048) :
    k0_pay2 s (iblk m c 0 t) (iblk m c 1 t) (ix2 r k) = s (ix2 r k) + part m c (t.val / 8) (t.val % 8) r k := by
  rw [step_at, part, Finset.sum_range]
  simp only [blk0_at, blk1_at]

/-- The accumulator after a point: the parts of the steps since the row block's first. -/
theorem acc_at (r : Fin 768) (k : Fin 2048) (n : ℕ) (h : n < cfg0.N) :
    (outsAt0 m c n h).2 (ix2 r k) = ∑ j ∈ Finset.range (n % 8 + 1), part m c (n / 8) j r k := by
  refine sum_run 8 (by decide) cfg0.N (fun n h => (outsAt0 m c n h).2 (ix2 r k)) (fun i j => part m c i j r k) (fun n h h0 => ?_) (fun n h h0 => ?_) n h
  · have h1 : ¬n % 8 = 7 := by omega
    show (outsAt0 m c (⟨n, h⟩ : Fin cfg0.N).val _).2 _ = _
    rw [outsAt0_A m c ⟨n, h⟩ h0 h1]
    dsimp only
    rw [acc_first, step_part, zero_at, zero_add]
    show part m c (n / 8) (n % 8) r k = _
    rw [h0]
  · show (outsAt0 m c (⟨n + 1, h⟩ : Fin cfg0.N).val _).2 _ = _
    by_cases h1 : (n + 1) % 8 = 7
    · rw [outsAt0_C m c ⟨n + 1, h⟩ h0 h1]
      dsimp only
      rw [acc_last, step_part]
      rfl
    · rw [outsAt0_B m c ⟨n + 1, h⟩ h0 h1]
      dsimp only
      rw [acc_next, step_part]
      rfl

/-- What the last step of a row block leaves in the result's buffer. -/
theorem out_at (t : Fin cfg0.N) (h1 : t.val % 8 = 7) (r : Fin 768) (k : Fin 2048) :
    (outsAt0 m c t.val t.isLt).1 (ix2 r k) = ∑ j ∈ Finset.range 8, part m c (t.val / 8) j r k := by
  have h0 : ¬t.val % 8 = 0 := by omega
  have e : (outsAt0 m c t.val t.isLt).1 = (outsAt0 m c t.val t.isLt).2 := by
    rw [outsAt0_C m c t h0 h1]
    dsimp only
    rw [out_last, acc_last]
  rw [e, acc_at, h1]

/-- The result array. -/
def result : FVec Ideal S8448x2048 .f32 := fun i => ∑ x : Fin 14336, ct m c (i 0) x * wt m c (i 1) x

theorem parts_sum (R : Fin 8448) (k : Fin 2048) (i : ℕ) (r : Fin 768) (hR : R.val = 768 * i + r.val) :
    ∑ j ∈ Finset.range 8, part m c i j r k = ∑ x : Fin 14336, ct m c R x * wt m c k x := by
  unfold part
  rw [← hR, sum_blocks 1792 (fun x => cell (ct m c) R.val x * cell (wt m c) k.val x) 8, Finset.sum_range]
  simp only [cell_val]

theorem idx2 : ∀ t : Fin cfg0.N, win0_2.index t 0 = t.val / 8 ∧ win0_2.index t 1 = 0 :=
  (by decide +kernel : ∀ t : Fin grid0.N, _)

/-- The result array after the run: the product by the transposed weight. -/
theorem array : (dats m 0 c).arrAt 2 cfg0.N = result m c := by
  have hN : cfg0.N = 88 := N_0
  refine (dats m 0 c).arrAt_eq_of_cover 2 (result m c) (fun t hf => ?_) (fun i => (Value.covered_iff2 i).2 ?_)
  · have h1 : t.val % 8 = 7 := (flush0_2 t).mp hf
    obtain ⟨e0, e1⟩ := idx2 t
    rw [Value.flushed2]
    funext y
    rw [View.read_apply]
    show (outsAt0 m c t.val t.isLt).1 y = result m c _
    have hy : (y : S768x2048.Idx) = ix2 (y 0) (y 1) := eq_ix2 y
    refine (congrArg ((outsAt0 m c t.val t.isLt).1) hy).trans ((out_at m c t h1 (y 0) (y 1)).trans ?_)
    have b0 : (y 0).val < 768 := (y 0).isLt
    refine (parts_sum m c (((cfg0.win 2).blk t).view.emb y 0) (y 1) _ (y 0) ?_).trans ?_
    · show win0_2.index t 0 * 768 + 1 * (y 0).val = _; rw [e0]; omega
    · have e : (((cfg0.win 2).blk t).view.emb y 1 : Fin 2048) = y 1 := Fin.ext (by show win0_2.index t 1 * 2048 + 1 * (y 1).val = _; rw [e1]; omega)
      show _ = ∑ x : Fin 14336, ct m c (((cfg0.win 2).blk t).view.emb y 0) x * wt m c (((cfg0.win 2).blk t).view.emb y 1) x
      rw [e]
  · have h0 : (i 0).val < 8448 := (i 0).isLt
    have h1 : (i 1).val < 2048 := (i 1).isLt
    omega

end Cert.Products.Dx

end
-- ==== Proof.DxAlgebraic.lean ====
/- The gradient of a product's rows: the kernel's program and the derivative leave the same array. -/
module

public import proofs.«01_k».proof.Proof.DxValue
public import proofs.«01_k».proof.Proof.Gen.Dx.Frame
public import proofs.«01_k».proof.Proof.Gen.DxReferenceIdeal.Run
public import proofs.«01_k».proof.Defs

@[expose] public section

set_option maxRecDepth 16384

noncomputable section

namespace Cert.Products.Dx

open Idealize.ShloMosaic Idealize.ShloMosaic.TcCoe Idealize.SL.Sem

section
open Cert.DxReferenceIdeal Cert.DxReferenceIdeal.Gen

/-- The weight's columns, one shard's after the other's. -/
def joined (W : FVec Ideal S4x2048x3584 .bf16) : FVec Ideal S2048x14336 .f32 :=
  concatenate S2048x14336 1 [⟨S2048x3584, shapeCast S2048x3584 (extractStridedSlice S1x2048x3584 ![0, 0, 0] (extf .f32 W bitsLt_bf16_f32) slices_S4x2048x3584_S1x2048x3584_0_0_0) shapeCasts_S1x2048x3584_S2048x3584⟩,
    ⟨S2048x3584, shapeCast S2048x3584 (extractStridedSlice S1x2048x3584 ![1, 0, 0] (extf .f32 W bitsLt_bf16_f32) slices_S4x2048x3584_S1x2048x3584_1_0_0) shapeCasts_S1x2048x3584_S2048x3584⟩,
    ⟨S2048x3584, shapeCast S2048x3584 (extractStridedSlice S1x2048x3584 ![2, 0, 0] (extf .f32 W bitsLt_bf16_f32) slices_S4x2048x3584_S1x2048x3584_2_0_0) shapeCasts_S1x2048x3584_S2048x3584⟩,
    ⟨S2048x3584, shapeCast S2048x3584 (extractStridedSlice S1x2048x3584 ![3, 0, 0] (extf .f32 W bitsLt_bf16_f32) slices_S4x2048x3584_S1x2048x3584_3_0_0) shapeCasts_S1x2048x3584_S2048x3584⟩]
    concatenates_S2048x3584_S2048x3584_S2048x3584_S2048x3584_S2048x14336_d1

theorem entry_eq (W : FVec Ideal S4x2048x3584 .bf16) {s s' : Fin 4} {k : Fin 2048} {y y' : Fin 3584} (h : s.val = s'.val) (h' : y.val = y'.val) :
    W (ix3 s k y) = W (ix3 s' k y') := by
  rw [Fin.ext h, Fin.ext h']

theorem joined_at (W : FVec Ideal S4x2048x3584 .bf16) (k : Fin 2048) (x : Fin 14336) :
    joined W (ix2 k x) = W (ix3 ⟨x.val / 3584, by omega⟩ k ⟨x.val % 3584, Nat.mod_lt _ (by decide)⟩) := by
  pointwise [joined]
  have hx := x.isLt
  by_cases h0 : x.val < 3584
  · rw [dif_pos h0]
    exact entry_eq W (by show 0 = x.val / 3584; omega) (by show x.val = x.val % 3584; omega)
  rw [dif_neg h0]
  by_cases h1 : x.val - 3584 < 3584
  · rw [dif_pos h1]
    exact entry_eq W (by show 1 = x.val / 3584; omega) (by show x.val - 3584 = x.val % 3584; omega)
  rw [dif_neg h1]
  by_cases h2 : x.val - 3584 - 3584 < 3584
  · rw [dif_pos h2]
    exact entry_eq W (by show 2 = x.val / 3584; omega) (by show x.val - 3584 - 3584 = x.val % 3584; omega)
  rw [dif_neg h2]
  exact entry_eq W (by show 3 = x.val / 3584; omega) (by show x.val - 3584 - 3584 - 3584 = x.val % 3584; omega)

theorem back_at (X : FVec Ideal S8448x14336 .bf16) (J : FVec Ideal S2048x14336 .f32) (R : Fin 8448) (k : Fin 2048) :
    (Host.dotGeneral dot_S8448x14336_S2048x14336_S8448x2048_1_1_0_0_n_n none (extf .f32 X bitsLt_bf16_f32) J : FVec Ideal S8448x2048 .f32) (ix2 R k)
      = ∑ x : Fin 14336, X (ix2 R x) * J (ix2 k x) := by
  pointwise

/-- The derivative at every entry. -/
theorem reference_eq (X : FVec Ideal S8448x14336 .bf16) (W : FVec Ideal S4x2048x3584 .bf16) :
    (Host.dotGeneral dot_S8448x14336_S2048x14336_S8448x2048_1_1_0_0_n_n none (extf .f32 X bitsLt_bf16_f32) (joined W) : FVec Ideal S8448x2048 .f32)
      = fun i => ∑ x : Fin 14336, X (ix2 (i 0) x) * W (ix3 ⟨x.val / 3584, by omega⟩ (i 1) ⟨x.val % 3584, Nat.mod_lt _ (by decide)⟩) := by
  funext i
  have hi : i = ix2 (i 0) (i 1) := eq_ix2 i
  refine (congrArg _ hi).trans ((back_at X (joined W) (i 0) (i 1)).trans ?_)
  exact Finset.sum_congr rfl fun x _ => congrArg (X (ix2 (i 0) x) * ·) (joined_at W (i 1) x)

end

theorem algebraic : Cert.algebraic_DxIdeal_DxReferenceIdeal := by
  intro m g m' g' hp hagree
  refine ⟨_, Cert.DxIdeal.Value.run_blocks m g, ?_⟩
  refine (θ_run _ _ _).mono (fun _ h c => ?_) (Cert.DxReferenceIdeal.Value.run (F := Ideal) m' g')
  obtain ⟨r0, ha⟩ := h c
  obtain ⟨a0, a1⟩ := hagree c
  refine ⟨r0.trans (Eq.trans ?_ (array m c).symm), ha⟩
  rw [a0, a1]
  exact reference_eq _ _

theorem frame_kernel : Cert.quiescent_Dx := fun m ρ _ => Cert.Dx.Gen.frame m ρ

theorem frame_ideal : Cert.quiescent_DxIdeal := fun m ρ _ => Cert.DxIdeal.Gen.frame m ρ

theorem frame_reference : Cert.quiescent_DxReferenceIdeal := fun m ρ _ =>
  (θ_run Cert.DxReferenceIdeal.defs _ _).mono (fun r h => ⟨fun c => (h c).2,
      Idealize.ShloMosaic.sem_eq_zero_of_no_sems (by decide) r.2⟩)
    (Cert.DxReferenceIdeal.Value.run (F := Ideal) m ρ)

end Cert.Products.Dx

end
-- ==== Proof.DwValue.lean ====
/- What the blocked product of the transposed rows leaves: every entry is the whole sum over the rows. -/
module

public import proofs.«01_k».proof.Proof.DxAlgebraic
public import proofs.«01_k».proof.Proof.Gen.DwIdeal.Value

@[expose] public section

set_option maxRecDepth 16384

noncomputable section

namespace Cert.Products.Dw

open Cert.DwIdeal Cert.DwIdeal.Gen Idealize.ShloMosaic Idealize.ShloMosaic.TcCoe Idealize.SL.Sem Cert.Products.Dx

section
variable {F : FTy → Type} [FloatOps F]

/-- The first point of a row of steps leaves the zero block plus its product in the result's buffer. -/
theorem out_first (c : Dev nD) (i : grid0.Coords) (a3 : Memref sig .tc .vmem S1408x1024 .bf16) (h3 : a3.IsWhole) (a4 : Memref sig .tc .vmem S1408x1792 .bf16) (h4 : a4.IsWhole) (a5 : Memref sig .tc .vmem S1x1024x1792 .f32) (h5 : a5.IsWhole) (a6 : Memref sig .tc .vmem S1x1024x1792 .bf16) (h6 : a6.IsWhole) (hc0 : cond0_0 i) (hc1 : ¬cond0_1 i)
    (x0 : Vec F S1408x1024 .bf16) (x1 : Vec F S1408x1792 .bf16) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_cons_unit_zero three_zero, View.readCov_unit_zero _ three_zero]
  simp only [View.readAt_eq_ld, h3.read_unread, h4.read_unread, View.ld_unit_zero (S := S1408x1024) two_zero, View.ld_unit_zero (S := S1408x1792) two_zero, View.ld_unit_zero (S := S1x1024x1792) three_zero]

/-- A point between adds its product to the buffer. -/
theorem out_next (c : Dev nD) (i : grid0.Coords) (a3 : Memref sig .tc .vmem S1408x1024 .bf16) (h3 : a3.IsWhole) (a4 : Memref sig .tc .vmem S1408x1792 .bf16) (h4 : a4.IsWhole) (a5 : Memref sig .tc .vmem S1x1024x1792 .f32) (h5 : a5.IsWhole) (a6 : Memref sig .tc .vmem S1x1024x1792 .bf16) (h6 : a6.IsWhole) (hc0 : ¬cond0_0 i) (hc1 : ¬cond0_1 i)
    (x0 : Vec F S1408x1024 .bf16) (x1 : Vec F S1408x1792 .bf16) (s : Vec F S1x1024x1792 .f32) :
    out0_B_2 c i a3 h3 a4 h4 a5 h5 a6 h6 hc0 hc1 x0 x1 s = k0_pay2 s x0 x1 := by
  unfold out0_B_2
  rw [View.read_writes_eq_canon _ _ _ (cover0_B_2 c i a3 h3 a4 h4 a5 h5 a6 h6 hc0 hc1 x0 x1 s)]
  unfold kernelRun0_B
  dsimp only
  rw [View.canon_unit_zero three_zero]
  simp only [View.readAt_eq_ld, h3.read_unread, h4.read_unread, h5.read_unread, View.ld_unit_zero (S := S1408x1024) two_zero, View.ld_unit_zero (S := S1408x1792) two_zero, View.ld_unit_zero (S := S1x1024x1792) three_zero]

/-- The last point adds its product too. -/
theorem out_last (c : Dev nD) (i : grid0.Coords) (a3 : Memref sig .tc .vmem S1408x1024 .bf16) (h3 : a3.IsWhole) (a4 : Memref sig .tc .vmem S1408x1792 .bf16) (h4 : a4.IsWhole) (a5 : Memref sig .tc .vmem S1x1024x1792 .f32) (h5 : a5.IsWhole) (a6 : Memref sig .tc .vmem S1x1024x1792 .bf16) (h6 : a6.IsWhole) (hc0 : ¬cond0_0 i) (hc1 : cond0_1 i)
    (x0 : Vec F S1408x1024 .bf16) (x1 : Vec F S1408x1792 .bf16) (s : Vec F S1x1024x1792 .f32) :
    out0_C_2 c i a3 h3 a4 h4 a5 h5 a6 h6 hc0 hc1 x0 x1 s = k0_pay2 s x0 x1 := by
  unfold out0_C_2
  rw [View.read_writes_eq_canon _ _ _ (cover0_C_2 c i a3 h3 a4 h4 a5 h5 a6 h6 hc0 hc1 x0 x1 s)]
  unfold kernelRun0_C
  dsimp only
  sl_unfold_words
  rw [View.canon_unit_zero three_zero]
  simp only [View.readAt_eq_ld, h3.read_unread, h4.read_unread, h5.read_unread, View.ld_unit_zero (S := S1408x1024) two_zero, View.ld_unit_zero (S := S1408x1792) two_zero, View.ld_unit_zero (S := S1x1024x1792) three_zero]

/-- … and leaves the cast of what the buffer then holds in the second result's buffer. -/
theorem cast_last (c : Dev nD) (i : grid0.Coords) (a3 : Memref sig .tc .vmem S1408x1024 .bf16) (h3 : a3.IsWhole) (a4 : Memref sig .tc .vmem S1408x1792 .bf16) (h4 : a4.IsWhole) (a5 : Memref sig .tc .vmem S1x1024x1792 .f32) (h5 : a5.IsWhole) (a6 : Memref sig .tc .vmem S1x1024x1792 .bf16) (h6 : a6.IsWhole) (hc0 : ¬cond0_0 i) (hc1 : cond0_1 i)
    (x0 : Vec F S1408x1024 .bf16) (x1 : Vec F S1408x1792 .bf16) (s : Vec F S1x1024x1792 .f32) :
    out0_C_3 c i a3 h3 a4 h4 a5 h5 a6 h6 hc0 hc1 x0 x1 s = k0_pay3 (k0_pay2 s x0 x1) := by
  unfold out0_C_3
  rw [View.read_writes_eq_canon _ _ _ (cover0_C_3 c i a3 h3 a4 h4 a5 h5 a6 h6 hc0 hc1 x0 x1 s)]
  unfold kernelRun0_C
  dsimp only
  sl_unfold_words
  rw [View.canon_unit_zero three_zero, View.readCov_unit_zero _ three_zero]
  simp only [View.readAt_eq_ld, h3.read_unread, h4.read_unread, h5.read_unread, View.ld_unit_zero (S := S1408x1024) two_zero, View.ld_unit_zero (S := S1408x1792) two_zero, View.ld_unit_zero (S := S1x1024x1792) three_zero]

end

/-- A step at one entry: the buffer plus the sum over the block's rows. -/
theorem step_at (s : Vec Ideal S1x1024x1792 .f32) (x0 : Vec Ideal S1408x1024 .bf16) (x1 : Vec Ideal S1408x1792 .bf16) (p : Fin 1024) (y : Fin 1792) :
    k0_pay2 s x0 x1 (ix3 0 p y) = s (ix3 0 p y) + ∑ x : Fin 1408, x0 (ix2 x p) * x1 (ix2 x y) := by
  pointwise [k0_pay2]

theorem zero_at (p : Fin 1024) (y : Fin 1792) : k0_pay1 (F := Ideal) (ix3 0 p y) = 0 := by
  pointwise [k0_pay1]

theorem cast_at (s : Vec Ideal S1x1024x1792 .f32) (p : Fin 1024) (y : Fin 1792) : k0_pay3 s (ix3 0 p y) = s (ix3 0 p y) := by
  pointwise [k0_pay3]

/-! ## The arrays and their blocks -/

variable (m : (ℓ : Loc nD τ sig) → Buf (Elt Ideal) ℓ) (c : Dev nD)

/-- The rows, by row and column. -/
def rows : Fin 8448 → Fin 2048 → EReal := fun R k => (m ((c : Thread nD τ).loc main_arg0) : FVec Ideal S8448x2048 .bf16) (ix2 R k)

/-- The gradient of the product, by row and column. -/
def ct : Fin 8448 → Fin 14336 → EReal := fun R x => (m ((c : Thread nD τ).loc main_arg1) : FVec Ideal S8448x14336 .bf16) (ix2 R x)

/-- The part of an entry that step `j` adds at block `q`. -/
def part (q j : ℕ) (p : Fin 1024) (y : Fin 1792) : EReal :=
  ∑ x ∈ Finset.range 1408, cell (rows m c) (1408 * j + x) (1024 * (q / 8) + p.val) * cell (ct m c) (1408 * j + x) (1792 * (q % 8) + y.val)

theorem idx0 : ∀ t : Fin cfg0.N, win0_0.index t 0 = t.val % 6 ∧ win0_0.index t 1 = t.val / 6 / 8 :=
  (by decide +kernel : ∀ t : Fin grid0.N, _)

theorem idx1 : ∀ t : Fin cfg0.N, win0_1.index t 0 = t.val % 6 ∧ win0_1.index t 1 = t.val / 6 % 8 :=
  (by decide +kernel : ∀ t : Fin grid0.N, _)

theorem blk0_at (t : Fin cfg0.N) (x : Fin 1408) (p : Fin 1024) :
    (iblk m c 0 t : Vec Ideal S1408x1024 .bf16) (ix2 x p) = cell (rows m c) (1408 * (t.val % 6) + x.val) (1024 * (t.val / 6 / 8) + p.val) := by
  have hN : t.val < 96 := lt_of_lt_of_eq t.isLt N_0
  obtain ⟨e0, e1⟩ := idx0 t
  rw [cell_at _ _ _ (by omega) (by omega)]
  unfold iblk rows
  rw [View.read_apply]
  show V m c main_arg0 _ = m (c.tc.loc main_arg0) _
  unfold V
  congr 1
  funext a
  apply Fin.ext
  match a with
  | ⟨0, _⟩ => show win0_0.index t 0 * 1408 + 1 * x.val = 1408 * (t.val % 6) + x.val; rw [e0]; omega
  | ⟨1, _⟩ => show win0_0.index t 1 * 1024 + 1 * p.val = 1024 * (t.val / 6 / 8) + p.val; rw [e1]; omega

theorem blk1_at (t : Fin cfg0.N) (x : Fin 1408) (y : Fin 1792) :
    (iblk m c 1 t : Vec Ideal S1408x1792 .bf16) (ix2 x y) = cell (ct m c) (1408 * (t.val % 6) + x.val) (1792 * (t.val / 6 % 8) + y.val) := by
  have hN : t.val < 96 := lt_of_lt_of_eq t.isLt N_0
  obtain ⟨e0, e1⟩ := idx1 t
  rw [cell_at _ _ _ (by omega) (by omega)]
  unfold iblk ct
  rw [View.read_apply]
  show V m c main_arg1 _ = m (c.tc.loc main_arg1) _
  unfold V
  congr 1
  funext a
  apply Fin.ext
  match a with
  | ⟨0, _⟩ => show win0_1.index t 0 * 1408 + 1 * x.val = 1408 * (t.val % 6) + x.val; rw [e0]; omega
  | ⟨1, _⟩ => show win0_1.index t 1 * 1792 + 1 * y.val = 1792 * (t.val / 6 % 8) + y.val; rw [e1]; omega

/-- A step adds its part. -/
theorem step_part (s : Vec Ideal S1x1024x1792 .f32) (t : Fin cfg0.N) (p : Fin 1024) (y : Fin 1792) :
    k0_pay2 s (iblk m c 0 t) (iblk m c 1 t) (ix3 0 p y) = s (ix3 0 p y) + part m c (t.val / 6) (t.val % 6) p y := by
  rw [step_at, part, Finset.sum_range]
  simp only [blk0_at, blk1_at]

/-- The buffer after a point: the parts of the steps since the block's first. -/
theorem acc_at (p : Fin 1024) (y : Fin 1792) (n : ℕ) (h : n < cfg0.N) :
    (outsAt0 m c n h).1 (ix3 0 p y) = ∑ j ∈ Finset.range (n % 6 + 1), part m c (n / 6) j p y := by
  refine sum_run 6 (by decide) cfg0.N (fun n h => (outsAt0 m c n h).1 (ix3 0 p y)) (fun i j => part m c i j p y) (fun n h h0 => ?_) (fun n h h0 => ?_) n h
  · have h1 : ¬n % 6 = 5 := by omega
    show (outsAt0 m c (⟨n, h⟩ : Fin cfg0.N).val _).1 _ = _
    rw [outsAt0_A m c ⟨n, h⟩ h0 h1]
    dsimp only
    rw [out_first, step_part, zero_at, zero_add]
    show part m c (n / 6) (n % 6) p y = _
    rw [h0]
  · show (outsAt0 m c (⟨n + 1, h⟩ : Fin cfg0.N).val _).1 _ = _
    by_cases h1 : (n + 1) % 6 = 5
    · rw [outsAt0_C m c ⟨n + 1, h⟩ h0 h1]
      dsimp only
      rw [out_last, step_part]
      rfl
    · rw [outsAt0_B m c ⟨n + 1, h⟩ h0 h1]
      dsimp only
      rw [out_next, step_part]
      rfl

/-- What the last step of a block leaves in the second result's buffer is what it leaves in the first's. -/
theorem cast_eq (t : Fin cfg0.N) (h1 : t.val % 6 = 5) (p : Fin 1024) (y : Fin 1792) :
    (outsAt0 m c t.val t.isLt).2 (ix3 0 p y) = (outsAt0 m c t.val t.isLt).1 (ix3 0 p y) := by
  have h0 : ¬t.val % 6 = 0 := by omega
  rw [outsAt0_C m c t h0 h1]
  dsimp only
  rw [cast_last, out_last, cast_at]

/-- The entry of the result of a shard, a row and a column of the shard. -/
def entry (s : Fin 4) (k : Fin 2048) (y : Fin 3584) : EReal := ∑ R : Fin 8448, rows m c R k * ct m c R ⟨3584 * s.val + y.val, by omega⟩

theorem parts_sum (q : ℕ) (p : Fin 1024) (y : Fin 1792) (s : Fin 4) (k : Fin 2048) (x : Fin 3584)
    (hs : s.val = q % 8 / 2) (hk : k.val = 1024 * (q / 8) + p.val) (hx : x.val = 1792 * (q % 8 % 2) + y.val) :
    ∑ j ∈ Finset.range 6, part m c q j p y = entry m c s k x := by
  have e : 1792 * (q % 8) + y.val = 3584 * s.val + x.val := by omega
  unfold part entry
  rw [← hk, e, sum_blocks 1408 (fun R => cell (rows m c) R k.val * cell (ct m c) R (3584 * s.val + x.val)) 6, Finset.sum_range]
  exact Finset.sum_congr rfl fun R _ => by rw [cell_val, cell_at _ _ _ R.isLt (by omega)]

/-- What the last step of a block leaves in the result's buffer. -/
theorem out_at (t : Fin cfg0.N) (h1 : t.val % 6 = 5) (p : Fin 1024) (y : Fin 1792) (s : Fin 4) (k : Fin 2048) (x : Fin 3584)
    (hs : s.val = t.val / 6 % 8 / 2) (hk : k.val = 1024 * (t.val / 6 / 8) + p.val) (hx : x.val = 1792 * (t.val / 6 % 8 % 2) + y.val) :
    (outsAt0 m c t.val t.isLt).1 (ix3 0 p y) = entry m c s k x := by
  rw [acc_at, h1]
  exact parts_sum m c _ p y s k x hs hk hx

/-- The result array. -/
def result : FVec Ideal S4x2048x3584 .f32 := fun i => entry m c (i 0) (i 1) (i 2)

theorem idx2 : ∀ t : Fin cfg0.N, win0_2.index t 0 = t.val / 6 % 8 / 2 ∧ win0_2.index t 1 = t.val / 6 / 8 ∧ win0_2.index t 2 = t.val / 6 % 8 % 2 :=
  (by decide +kernel : ∀ t : Fin grid0.N, _)

theorem idx3 : ∀ t : Fin cfg0.N, win0_3.index t 0 = t.val / 6 % 8 / 2 ∧ win0_3.index t 1 = t.val / 6 / 8 ∧ win0_3.index t 2 = t.val / 6 % 8 % 2 :=
  (by decide +kernel : ∀ t : Fin grid0.N, _)

theorem eq_zero3 (y : S1x1024x1792.Idx) : y = ix3 0 (y 1) (y 2) := by
  refine (eq_ix3 y).trans ?_
  have e : y 0 = (⟨0, Nat.zero_lt_one⟩ : Fin 1) := Fin.ext (by have h : (y 0).val < 1 := (y 0).isLt; show (y 0).val = 0; omega)
  exact congrArg (fun z : Fin 1 => (ix3 z (y 1) (y 2) : S1x1024x1792.Idx)) e

/-- The last step of the block that holds an entry. -/
theorem point_of (i : S4x2048x3584.Idx) : ∃ t : Fin cfg0.N, t.val % 6 = 5 ∧ t.val / 6 % 8 = 2 * (i 0).val + (i 2).val / 1792 ∧ t.val / 6 / 8 = (i 1).val / 1024 := by
  have b0 : (i 0).val < 4 := (i 0).isLt
  have b1 : (i 1).val < 2048 := (i 1).isLt
  have b2 : (i 2).val < 3584 := (i 2).isLt
  refine ⟨⟨6 * (8 * ((i 1).val / 1024) + (2 * (i 0).val + (i 2).val / 1792)) + 5, by rw [show cfg0.N = 96 from N_0]; omega⟩, ?_, ?_, ?_⟩ <;> dsimp only <;> omega

/-- The first result array after the run. -/
theorem array : (dats m 0 c).arrAt 2 cfg0.N = result m c := by
  refine (dats m 0 c).arrAt_eq_of_cover 2 (result m c) (fun t hf => ?_) (fun i => ?_)
  · have h1 : t.val % 6 = 5 := (flush0_2 t).mp hf
    obtain ⟨e0, e1, e2⟩ := idx2 t
    rw [Value.flushed2]
    funext y
    rw [View.read_apply]
    show (outsAt0 m c t.val t.isLt).1 y = entry m c (((cfg0.win 2).blk t).view.emb y 0) (((cfg0.win 2).blk t).view.emb y 1) (((cfg0.win 2).blk t).view.emb y 2)
    refine (congrArg ((outsAt0 m c t.val t.isLt).1) (eq_zero3 y)).trans (out_at m c t h1 (y 1) (y 2) _ _ _ ?_ ?_ ?_)
    · have z : (y 0).val < 1 := (y 0).isLt
      show win0_2.index t 0 * 1 + 1 * (y 0).val = _; rw [e0]; omega
    · show win0_2.index t 1 * 1024 + 1 * (y 1).val = _; rw [e1]; omega
    · show win0_2.index t 2 * 1792 + 1 * (y 2).val = _; rw [e2]; omega
  · obtain ⟨t, p0, p1, p2⟩ := point_of i
    obtain ⟨e0, e1, e2⟩ := idx2 t
    have b2 : (i 2).val < 3584 := (i 2).isLt
    refine ⟨t, (flush0_2 t).mpr p0, ?_⟩
    show i ∈ ((View.whole main_v0_0).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [e0]; omega
    | ⟨1, _⟩ => show win0_2.index t 1 * 1024 ≤ (i 1 : Nat) ∧ (i 1 : Nat) < win0_2.index t 1 * 1024 + 1024; rw [e1]; omega
    | ⟨2, _⟩ => show win0_2.index t 2 * 1792 ≤ (i 2 : Nat) ∧ (i 2 : Nat) < win0_2.index t 2 * 1792 + 1792; rw [e2]; omega

/-- The second result array after the run. -/
theorem array_cast : (dats m 0 c).arrAt 3 cfg0.N = result m c := by
  refine (dats m 0 c).arrAt_eq_of_cover 3 (result m c) (fun t hf => ?_) (fun i => ?_)
  · have h1 : t.val % 6 = 5 := (flush0_3 t).mp hf
    obtain ⟨e0, e1, e2⟩ := idx3 t
    rw [Value.flushed3]
    funext y
    rw [View.read_apply]
    show (outsAt0 m c t.val t.isLt).2 y = entry m c (((cfg0.win 3).blk t).view.emb y 0) (((cfg0.win 3).blk t).view.emb y 1) (((cfg0.win 3).blk t).view.emb y 2)
    refine (congrArg ((outsAt0 m c t.val t.isLt).2) (eq_zero3 y)).trans ((cast_eq m c t h1 (y 1) (y 2)).trans (out_at m c t h1 (y 1) (y 2) _ _ _ ?_ ?_ ?_))
    · have z : (y 0).val < 1 := (y 0).isLt
      show win0_3.index t 0 * 1 + 1 * (y 0).val = _; rw [e0]; omega
    · show win0_3.index t 1 * 1024 + 1 * (y 1).val = _; rw [e1]; omega
    · show win0_3.index t 2 * 1792 + 1 * (y 2).val = _; rw [e2]; omega
  · obtain ⟨t, p0, p1, p2⟩ := point_of i
    obtain ⟨e0, e1, e2⟩ := idx3 t
    have b2 : (i 2).val < 3584 := (i 2).isLt
    refine ⟨t, (flush0_3 t).mpr p0, ?_⟩
    show i ∈ ((View.whole main_v0_1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [e0]; omega
    | ⟨1, _⟩ => show win0_3.index t 1 * 1024 ≤ (i 1 : Nat) ∧ (i 1 : Nat) < win0_3.index t 1 * 1024 + 1024; rw [e1]; omega
    | ⟨2, _⟩ => show win0_3.index t 2 * 1792 ≤ (i 2 : Nat) ∧ (i 2 : Nat) < win0_3.index t 2 * 1792 + 1792; rw [e2]; omega

end Cert.Products.Dw

end
-- ==== Proof.DwAlgebraic.lean ====
/- The gradient of a product's weight: the kernel's program and the derivative leave the same two arrays. -/
module

public import proofs.«01_k».proof.Proof.DwValue
public import proofs.«01_k».proof.Proof.Gen.Dw.Frame
public import proofs.«01_k».proof.Proof.Gen.DwReferenceIdeal.Run

@[expose] public section

set_option maxRecDepth 16384

noncomputable section

namespace Cert.Products.Dw

open Idealize.ShloMosaic Idealize.ShloMosaic.TcCoe Idealize.SL.Sem

section
open Cert.DwReferenceIdeal Cert.DwReferenceIdeal.Gen

/-- The gradient cut into the shards' columns. -/
def shards (G : FVec Ideal S14336x2048 .f32) : FVec Ideal S4x2048x3584 .f32 :=
  concatenate S4x2048x3584 0 [⟨S1x2048x3584, broadcastInDim S1x2048x3584 ![1, 2] bcast_S2048x3584_S1x2048x3584_1_2 (extractStridedSlice S2048x3584 ![0, 0] (transpose S2048x14336 [1, 0] G transposes_S14336x2048_S2048x14336_1_0) slices_S2048x14336_S2048x3584_0_0)⟩,
    ⟨S1x2048x3584, broadcastInDim S1x2048x3584 ![1, 2] bcast_S2048x3584_S1x2048x3584_1_2 (extractStridedSlice S2048x3584 ![0, 3584] (transpose S2048x14336 [1, 0] G transposes_S14336x2048_S2048x14336_1_0) slices_S2048x14336_S2048x3584_0_3584)⟩,
    ⟨S1x2048x3584, broadcastInDim S1x2048x3584 ![1, 2] bcast_S2048x3584_S1x2048x3584_1_2 (extractStridedSlice S2048x3584 ![0, 7168] (transpose S2048x14336 [1, 0] G transposes_S14336x2048_S2048x14336_1_0) slices_S2048x14336_S2048x3584_0_7168)⟩,
    ⟨S1x2048x3584, broadcastInDim S1x2048x3584 ![1, 2] bcast_S2048x3584_S1x2048x3584_1_2 (extractStridedSlice S2048x3584 ![0, 10752] (transpose S2048x14336 [1, 0] G transposes_S14336x2048_S2048x14336_1_0) slices_S2048x14336_S2048x3584_0_10752)⟩]
    concatenates_S1x2048x3584_S1x2048x3584_S1x2048x3584_S1x2048x3584_S4x2048x3584_d0

theorem shards_at (G : FVec Ideal S14336x2048 .f32) (s : Fin 4) (k : Fin 2048) (y : Fin 3584) :
    shards G (ix3 s k y) = G (ix2 ⟨3584 * s.val + y.val, by omega⟩ k) := by
  pointwise [shards]
  have e : ∀ (a b : ℕ) (ha : a < 14336) (hb : b < 14336), a = b → G (ix2 ⟨a, ha⟩ k) = G (ix2 ⟨b, hb⟩ k) :=
    fun a b ha hb h => by subst h; rfl
  by_cases h0 : s.val < 1
  · rw [dif_pos h0]; exact e _ _ _ _ (by omega)
  rw [dif_neg h0]
  by_cases h1 : s.val - 1 < 1
  · rw [dif_pos h1]; exact e _ _ _ _ (by omega)
  rw [dif_neg h1]
  by_cases h2 : s.val - 1 - 1 < 1
  · rw [dif_pos h2]; exact e _ _ _ _ (by omega)
  rw [dif_neg h2]; exact e _ _ _ _ (by omega)

theorem outer_at (X : FVec Ideal S8448x14336 .bf16) (H : FVec Ideal S8448x2048 .bf16) (x : Fin 14336) (k : Fin 2048) :
    (Host.dotGeneral dot_S8448x14336_S8448x2048_S14336x2048_0_0_1_1_n_n none (extf .f32 X bitsLt_bf16_f32) (extf .f32 H bitsLt_bf16_f32) : FVec Ideal S14336x2048 .f32) (ix2 x k)
      = ∑ R : Fin 8448, X (ix2 R x) * H (ix2 R k) := by
  pointwise

/-- The derivative at every entry. -/
theorem reference_eq (H : FVec Ideal S8448x2048 .bf16) (X : FVec Ideal S8448x14336 .bf16) :
    shards (Host.dotGeneral dot_S8448x14336_S8448x2048_S14336x2048_0_0_1_1_n_n none (extf .f32 X bitsLt_bf16_f32) (extf .f32 H bitsLt_bf16_f32))
      = fun i => ∑ R : Fin 8448, H (ix2 R (i 1)) * X (ix2 R ⟨3584 * (i 0).val + (i 2).val, by have h0 : (i 0).val < 4 := (i 0).isLt; have h2 : (i 2).val < 3584 := (i 2).isLt; omega⟩) := by
  funext i
  have hi : i = ix3 (i 0) (i 1) (i 2) := eq_ix3 i
  refine (congrArg _ hi).trans ((shards_at _ (i 0) (i 1) (i 2)).trans ((outer_at X H _ (i 1)).trans ?_))
  exact Finset.sum_congr rfl fun R _ => mul_comm _ _

end

theorem algebraic : Cert.algebraic_DwIdeal_DwReferenceIdeal := by
  intro m g m' g' hp hagree
  refine ⟨_, _, Cert.DwIdeal.Value.run_blocks m g, ?_⟩
  refine (θ_run _ _ _).mono (fun _ h c => ?_) (Cert.DwReferenceIdeal.Value.run (F := Ideal) m' g')
  obtain ⟨r0, r1, ha⟩ := h c
  obtain ⟨a0, a1⟩ := hagree c
  refine ⟨r0.trans (Eq.trans ?_ (array m c).symm), r1.trans (Eq.trans ?_ (array_cast m c).symm), ha⟩
  · rw [a0, a1]
    exact reference_eq _ _
  · rw [a0, a1]
    exact reference_eq _ _

theorem frame_kernel : Cert.quiescent_Dw := fun m ρ _ => Cert.Dw.Gen.frame m ρ

theorem frame_ideal : Cert.quiescent_DwIdeal := fun m ρ _ => Cert.DwIdeal.Gen.frame m ρ

theorem frame_reference : Cert.quiescent_DwReferenceIdeal := fun m ρ _ =>
  (θ_run Cert.DwReferenceIdeal.defs _ _).mono (fun r h => ⟨fun c => (h c).2.2,
      Idealize.ShloMosaic.sem_eq_zero_of_no_sems (by decide) r.2⟩)
    (Cert.DwReferenceIdeal.Value.run (F := Ideal) m ρ)

end Cert.Products.Dw

end
-- ==== Proof.Forward.lean ====
/- The forward product: what the blocked kernel leaves, and that it is the whole product. -/
module

public import proofs.«01_k».proof.Proof.DwAlgebraic
public import proofs.«01_k».proof.Proof.Gen.Fwd.Frame
public import proofs.«01_k».proof.Proof.Gen.FwdIdeal.Value
public import proofs.«01_k».proof.Proof.Gen.FwdReferenceIdeal.Run

@[expose] public section

set_option maxRecDepth 16384

noncomputable section

namespace Cert.Products.Fwd

open Idealize.ShloMosaic Idealize.ShloMosaic.TcCoe Idealize.SL.Sem

section
open Cert.FwdIdeal Cert.FwdIdeal.Gen

/-- What a point computes of its two blocks, at one entry. -/
theorem block_at (x0 : Vec Ideal S768x2048 .bf16) (x1 : Vec Ideal S1x2048x512 .bf16) (r : Fin 768) (y : Fin 512) :
    k0_pay1 x0 x1 (ix2 r y) = ∑ k : Fin 2048, x0 (ix2 r k) * x1 (ix3 0 k y) := by
  pointwise [k0_pay1]

variable (m : (ℓ : Loc nD τ sig) → Buf (Elt Ideal) ℓ) (c : Dev nD)

/-- The rows. -/
def rows : Fin 8448 → Fin 2048 → EReal := fun R k => (m ((c : Thread nD τ).loc main_arg0) : FVec Ideal S8448x2048 .bf16) (ix2 R k)

/-- The weight, by row and column: the shards' columns one after the other. -/
def wt : Fin 2048 → Fin 14336 → EReal := fun k x =>
  (m ((c : Thread nD τ).loc main_arg1) : FVec Ideal S4x2048x3584 .bf16) (ix3 ⟨x.val / 3584, by omega⟩ k ⟨x.val % 3584, Nat.mod_lt _ (by decide)⟩)

theorem idx0 : ∀ t : Fin cfg0.N, win0_0.index t 0 = t.val / 28 ∧ win0_0.index t 1 = 0 :=
  (by decide +kernel : ∀ t : Fin grid0.N, _)

theorem idx1 : ∀ t : Fin cfg0.N, win0_1.index t 0 = t.val % 28 / 7 ∧ win0_1.index t 1 = 0 ∧ win0_1.index t 2 = t.val % 28 % 7 :=
  (by decide +kernel : ∀ t : Fin grid0.N, _)

theorem idx2 : ∀ t : Fin cfg0.N, win0_2.index t 0 = t.val / 28 ∧ win0_2.index t 1 = t.val % 28 :=
  (by decide +kernel : ∀ t : Fin grid0.N, _)

theorem blk0_at (t : Fin cfg0.N) (r : Fin 768) (k : Fin 2048) :
    (iblk m c 0 t : Vec Ideal S768x2048 .bf16) (ix2 r k) = cell (rows m c) (768 * (t.val / 28) + r.val) k.val := by
  have hN : t.val < 308 := lt_of_lt_of_eq t.isLt N_0
  obtain ⟨e0, e1⟩ := idx0 t
  rw [cell_at _ _ _ (by omega) k.isLt]
  unfold iblk rows
  rw [View.read_apply]
  show V m c main_arg0 _ = m (c.tc.loc main_arg0) _
  unfold V
  congr 1
  funext a
  apply Fin.ext
  match a with
  | ⟨0, _⟩ => show win0_0.index t 0 * 768 + 1 * r.val = 768 * (t.val / 28) + r.val; rw [e0]; omega
  | ⟨1, _⟩ => show win0_0.index t 1 * 2048 + 1 * k.val = k.val; rw [e1]; omega

theorem blk1_at (t : Fin cfg0.N) (k : Fin 2048) (y : Fin 512) :
    (iblk m c 1 t : Vec Ideal S1x2048x512 .bf16) (ix3 0 k y) = cell (wt m c) k.val (512 * (t.val % 28) + y.val) := by
  have hN : t.val < 308 := lt_of_lt_of_eq t.isLt N_0
  obtain ⟨e0, e1, e2⟩ := idx1 t
  rw [cell_at _ _ _ k.isLt (by omega)]
  unfold iblk wt
  rw [View.read_apply]
  show V m c main_arg1 _ = m (c.tc.loc main_arg1) _
  unfold V
  congr 1
  funext a
  apply Fin.ext
  match a with
  | ⟨0, _⟩ => show win0_1.index t 0 * 1 + 1 * 0 = (512 * (t.val % 28) + y.val) / 3584; rw [e0]; omega
  | ⟨1, _⟩ => show win0_1.index t 1 * 2048 + 1 * k.val = k.val; rw [e1]; omega
  | ⟨2, _⟩ => show win0_1.index t 2 * 512 + 1 * y.val = (512 * (t.val % 28) + y.val) % 3584; rw [e2]; omega

/-- The product at one entry. -/
def entry (R : Fin 8448) (x : Fin 14336) : EReal := ∑ k : Fin 2048, rows m c R k * wt m c k x

/-- What a point leaves in the result's buffer, at one entry. -/
theorem out_at (t : Fin cfg0.N) (r : Fin 768) (y : Fin 512) (R : Fin 8448) (x : Fin 14336)
    (hR : R.val = 768 * (t.val / 28) + r.val) (hx : x.val = 512 * (t.val % 28) + y.val) :
    out0_2 (iblk m c 0 t) (iblk m c 1 t) (ix2 r y) = entry m c R x := by
  have e : out0_2 (iblk m c 0 t) (iblk m c 1 t) = k0_pay1 (iblk m c 0 t) (iblk m c 1 t) := by
    unfold out0_2
    rw [View.canon_unit_zero Dx.two_zero, View.ld_unit_zero (S := S768x2048) Dx.two_zero, View.ld_unit_zero (S := S1x2048x512) Dx.three_zero]
  rw [e, block_at, entry]
  simp only [blk0_at, blk1_at, ← hR, ← hx, cell_val]

/-- The result array. -/
def result : FVec Ideal S8448x14336 .bf16 := fun i => entry m c (i 0) (i 1)

/-- The result array after the run: the whole product. -/
theorem array : (dats m 0 c).arrAt 2 cfg0.N = result m c := by
  have hN : cfg0.N = 308 := N_0
  refine (dats m 0 c).arrAt_eq_of_cover 2 (result m c) (fun t hf => ?_) (fun i => ?_)
  · obtain ⟨e0, e1⟩ := idx2 t
    rw [Value.flushed2]
    funext y
    rw [View.read_apply]
    show out0_2 (iblk m c 0 t) (iblk m c 1 t) y = result m c _
    have hy : (y : S768x512.Idx) = ix2 (y 0) (y 1) := eq_ix2 y
    refine (congrArg (out0_2 (iblk m c 0 t) (iblk m c 1 t)) hy).trans (out_at m c t (y 0) (y 1) _ _ ?_ ?_)
    · show win0_2.index t 0 * 768 + 1 * (y 0).val = _; rw [e0]; omega
    · show win0_2.index t 1 * 512 + 1 * (y 1).val = _; rw [e1]; omega
  · have b0 : (i 0).val < 8448 := (i 0).isLt
    have b1 : (i 1).val < 14336 := (i 1).isLt
    obtain ⟨t, ht⟩ : ∃ t : Fin cfg0.N, t.val = 28 * ((i 0).val / 768) + (i 1).val / 512 := ⟨⟨28 * ((i 0).val / 768) + (i 1).val / 512, by rw [hN]; omega⟩, rfl⟩
    refine ⟨t, flush0_2 t, ?_⟩
    obtain ⟨e0, e1⟩ := idx2 t
    show i ∈ ((View.whole main_v0).slice (win0_2.rect t)).set
    rw [View.set_slice_whole, Rect.mem_set_unit]
    intro a
    match a with
    | ⟨0, _⟩ => show win0_2.index t 0 * 768 ≤ (i 0).val ∧ (i 0).val < win0_2.index t 0 * 768 + 768; omega
    | ⟨1, _⟩ => show win0_2.index t 1 * 512 ≤ (i 1).val ∧ (i 1).val < win0_2.index t 1 * 512 + 512; omega

end

section
open Cert.FwdReferenceIdeal Cert.FwdReferenceIdeal.Gen

theorem product_at (H : FVec Ideal S8448x2048 .bf16) (J : FVec Ideal S2048x14336 .f32) (R : Fin 8448) (x : Fin 14336) :
    (truncf .bf16 (Host.dotGeneral dot_S8448x2048_S2048x14336_S8448x14336_1_0_0_1_n_n none (extf .f32 H bitsLt_bf16_f32) J) bitsLt_bf16_f32 : FVec Ideal S8448x14336 .bf16) (ix2 R x)
      = ∑ k : Fin 2048, H (ix2 R k) * J (ix2 k x) := by
  pointwise

/-- The reference at every entry. -/
theorem reference_eq (H : FVec Ideal S8448x2048 .bf16) (W : FVec Ideal S4x2048x3584 .bf16) :
    (truncf .bf16 (Host.dotGeneral dot_S8448x2048_S2048x14336_S8448x14336_1_0_0_1_n_n none (extf .f32 H bitsLt_bf16_f32) (Dx.joined W)) bitsLt_bf16_f32 : FVec Ideal S8448x14336 .bf16)
      = fun i => ∑ k : Fin 2048, H (ix2 (i 0) k) * W (ix3 ⟨(i 1).val / 3584, by have h : (i 1).val < 14336 := (i 1).isLt; omega⟩ k ⟨(i 1).val % 3584, Nat.mod_lt _ (by decide)⟩) := by
  funext i
  have hi : i = ix2 (i 0) (i 1) := eq_ix2 i
  refine (congrArg _ hi).trans ((product_at H (Dx.joined W) (i 0) (i 1)).trans ?_)
  exact Finset.sum_congr rfl fun k _ => congrArg (H (ix2 (i 0) k) * ·) (Dx.joined_at W k (i 1))

end

theorem algebraic : Cert.algebraic_FwdIdeal_FwdReferenceIdeal := by
  intro m g m' g' hp hagree
  refine ⟨_, Cert.FwdIdeal.Value.run_blocks m g, ?_⟩
  refine (θ_run _ _ _).mono (fun _ h c => ?_) (Cert.FwdReferenceIdeal.Value.run (F := Ideal) m' g')
  obtain ⟨r0, ha⟩ := h c
  obtain ⟨a0, a1⟩ := hagree c
  refine ⟨r0.trans (Eq.trans ?_ (array m c).symm), ha⟩
  rw [a0, a1]
  exact reference_eq _ _

theorem frame_kernel : Cert.quiescent_Fwd := fun m ρ _ => Cert.Fwd.Gen.frame m ρ

theorem frame_ideal : Cert.quiescent_FwdIdeal := fun m ρ _ => Cert.FwdIdeal.Gen.frame m ρ

theorem frame_reference : Cert.quiescent_FwdReferenceIdeal := fun m ρ _ =>
  (θ_run Cert.FwdReferenceIdeal.defs _ _).mono (fun r h => ⟨fun c => (h c).2,
      Idealize.ShloMosaic.sem_eq_zero_of_no_sems (by decide) r.2⟩)
    (Cert.FwdReferenceIdeal.Value.run (F := Ideal) m ρ)

end Cert.Products.Fwd

end
-- ==== Proof.GateValue.lean ====
/- The gradient of the gate: what one block of rows leaves. -/
module

public import proofs.«01_k».proof.Proof.Gen.GateIdeal.Value
public import proofs.«01_k».proof.Proof.Forward
public import Idealize.ShloMosaic.Lib.Pipeline.ReadBack
public import Idealize.ShloMosaic.PureOps.Ideal
public import Idealize.ShloMosaic.Lib.Pointwise

@[expose] public section

set_option maxRecDepth 16384

noncomputable section

namespace Cert.Gate

open Cert.GateIdeal Cert.GateIdeal.Gen Idealize.ShloMosaic Idealize.ShloMosaic.TcCoe Idealize.SL.Sem

/-- The logistic function as the program computes it. -/
def logistic (x : EReal) : EReal := Ideal.div 1 (1 + Ideal.exp (0 - x))

/-- The gradient of the gated output by the output, at one entry. -/
def byOutput (d g : EReal) : EReal := d * (g * logistic g)

/-- The gradient by the gate, at one entry. -/
def byGate (d o g : EReal) : EReal := d * o * (logistic g * (1 + g * (1 - logistic g)))

theorem head_at (d g : Vec Ideal S256x128 .bf16) (r : Fin 256) (y : Fin 128) :
    k0_pay7 d g (ix2 r y) = byOutput (d (ix2 r y)) (g (ix2 r y)) := by
  unfold byOutput logistic
  pointwise [k0_pay7, k0_pay6, k0_pay4]

theorem cast_at (d g : Vec Ideal S256x128 .bf16) (r : Fin 256) (y : Fin 128) :
    k0_pay8 d g (ix2 r y) = byOutput (d (ix2 r y)) (g (ix2 r y)) := by
  unfold byOutput logistic
  pointwise [k0_pay8, k0_pay7, k0_pay6, k0_pay4]

theorem grad_at (d o g : Vec Ideal S256x128 .bf16) (r : Fin 256) (y : Fin 128) :
    k0_pay9 d o g (ix2 r y) = byGate (d (ix2 r y)) (o (ix2 r y)) (g (ix2 r y)) := by
  unfold byGate logistic
  pointwise [k0_pay9, k0_pay6, k0_pay5, k0_pay4]

/-- One head's sums written into one lane of a block. -/
def lane (n : BitVec 32) (w : FVec Ideal S256x128 .f32) (d o : FVec Ideal S256x128 .f32) : FVec Ideal S256x128 .f32 :=
  select (cmpi .eq (iota Kind.tc S256x128 32 [1] iota_S256x128_d1_w32) (broadcast S256x128 n))
    (broadcastTo S256x128 (shapeCast S256x1 (shapeCast S256x1 (multiReduction .add [1] S256 (mulf d o) 0x00000000#32 reduces_S256x128_S256 (.inl rfl) rfl) shapeCasts_S256_S256x1) shapeCasts_S256x1_S256x1) broadcasts_S256x1_S256x128) w

theorem lane_at (n : BitVec 32) (w d o : FVec Ideal S256x128 .f32) (r : Fin 256) (y : Fin 128) :
    lane n w d o (ix2 r y) = if BitVec.ofNat 32 y.val = n then ∑ z : Fin 128, d (ix2 r z) * o (ix2 r z) else w (ix2 r y) := by
  pointwise [lane]
  by_cases h : BitVec.ofNat 32 y.val = n
  · simp [Scalar.select, IntOp.cmpi, h]
  · have h' : (BitVec.ofNat 32 y.val == n) = false := beq_false_of_ne h
    simp [Scalar.select, IntOp.cmpi, h, h']

/-- A block of 128 columns of the whole block of rows. -/
theorem ld_at (x : Vec Ideal S256x2048 .bf16) (n : ℕ) (inb : ∀ a, (![0, n] : Fin 2 → ℕ) a + (![256, 128] : Fin 2 → ℕ) a ≤ S256x2048.size a) (r : Fin 256) (y : Fin 128) (hn : n + y.val < 2048) :
    (View.ld x (Rect.unit ![0, n] ![256, 128] inb) : Vec Ideal S256x128 .bf16) (ix2 r y) = x (ix2 r ⟨n + y.val, hn⟩) := by
  show x _ = x _
  congr 1
  funext a
  apply Fin.ext
  match a with
  | ⟨0, _⟩ => show 0 + 1 * r.val = r.val; omega
  | ⟨1, _⟩ => show n + 1 * y.val = n + y.val; omega

/-- What the block of rows leaves of the gradient by the output. -/
def blockOut (x0 x2 : Vec Ideal S256x2048 .bf16) : Vec Ideal S256x2048 .bf16 := fun y => byOutput (x0 y) (x2 y)

/-- What it leaves of the gradient by the gate. -/
def blockGate (x0 x1 x2 : Vec Ideal S256x2048 .bf16) : Vec Ideal S256x2048 .bf16 := fun y => byGate (x0 y) (x1 y) (x2 y)

/-- The sum over one head of the output times its gradient. -/
def headSum (x0 x1 x2 : Vec Ideal S256x2048 .bf16) (r : Fin 256) (h : Fin 16) : EReal :=
  ∑ z : Fin 128, byOutput (x0 (ix2 r ⟨128 * h.val + z.val, by omega⟩)) (x2 (ix2 r ⟨128 * h.val + z.val, by omega⟩))
    * x1 (ix2 r ⟨128 * h.val + z.val, by omega⟩)

/-- The heads' sums at one group, row and lane. -/
def laneSum (x0 x1 x2 : Vec Ideal S256x2048 .bf16) (g : Fin 4) (r : Fin 256) (l : Fin 128) : EReal :=
  if h : l.val < 4 then headSum x0 x1 x2 r ⟨4 * g.val + l.val, by omega⟩ else 0

/-- What it leaves of the heads' sums: four heads in the first lanes of each of the four groups. -/
def blockSums (x0 x1 x2 : Vec Ideal S256x2048 .bf16) : Vec Ideal S4x256x128 .f32 := fun y =>
  laneSum x0 x1 x2 (y 0) (y 1) (y 2)

theorem emb_at (n : ℕ) (inb : ∀ a, (![0, n] : Fin 2 → ℕ) a + (![256, 128] : Fin 2 → ℕ) a ≤ S256x2048.size a) (r : Fin 256) (y : Fin 128)
    (hn : n + y.val < 2048) :
    (Rect.unit (s := S256x2048) ![0, n] ![256, 128] inb).emb (ix2 r y) = ix2 r ⟨n + y.val, hn⟩ := by
  funext a
  apply Fin.ext
  match a with
  | ⟨0, _⟩ => show 0 + 1 * r.val = r.val; omega
  | ⟨1, _⟩ => show n + 1 * y.val = n + y.val; omega

theorem piece_out (x0 x2 : Vec Ideal S256x2048 .bf16) (n : ℕ)
    (inb : ∀ a, (![0, n] : Fin 2 → ℕ) a + (![256, 128] : Fin 2 → ℕ) a ≤ S256x2048.size a) (x : S256x128.Idx) :
    k0_pay8 (View.ld x0 (Rect.unit ![0, n] ![256, 128] inb)) (View.ld x2 (Rect.unit ![0, n] ![256, 128] inb)) x
      = blockOut x0 x2 ((Rect.unit (s := S256x2048) ![0, n] ![256, 128] inb).emb x) := by
  obtain ⟨r, y, rfl⟩ : ∃ (r : Fin 256) (y : Fin 128), x = ix2 r y := ⟨x 0, x 1, eq_ix2 x⟩
  exact cast_at _ _ r y

theorem piece_gate (x0 x1 x2 : Vec Ideal S256x2048 .bf16) (n : ℕ)
    (inb : ∀ a, (![0, n] : Fin 2 → ℕ) a + (![256, 128] : Fin 2 → ℕ) a ≤ S256x2048.size a) (x : S256x128.Idx) :
    k0_pay9 (View.ld x0 (Rect.unit ![0, n] ![256, 128] inb)) (View.ld x1 (Rect.unit ![0, n] ![256, 128] inb)) (View.ld x2 (Rect.unit ![0, n] ![256, 128] inb)) x
      = blockGate x0 x1 x2 ((Rect.unit (s := S256x2048) ![0, n] ![256, 128] inb).emb x) := by
  obtain ⟨r, y, rfl⟩ : ∃ (r : Fin 256) (y : Fin 128), x = ix2 r y := ⟨x 0, x 1, eq_ix2 x⟩
  exact grad_at _ _ _ r y

theorem out3_eq (c : Dev nD) (i : grid0.Coords) (a1 : Memref sig .tc .vmem S256x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S256x2048 .bf16) (h4 : a4.IsWhole)
    (a5 : Memref sig .tc .vmem S256x2048 .bf16) (h5 : a5.IsWhole) (a6 : Memref sig .tc .vmem S4x256x128 .f32) (h6 : a6.IsWhole)
    (x0 x1 x2 : Vec Ideal S256x2048 .bf16) :
    out0_A_3 c i a1 h1 a2 h2 a3 h3 a4 h4 a5 h5 a6 h6 x0 x1 x2 = blockOut x0 x2 := by
  have hc := cover0_A_3 c i a1 h1 a2 h2 a3 h3 a4 h4 a5 h5 a6 h6 x0 x1 x2
  unfold out0_A_3
  rw [View.read_writes_eq_canon _ _ _ hc]
  funext y
  refine View.canon_apply_of_pieces (blockOut x0 x2) _ (View.PiecesOf.mem ?_) y (hc y)
  unfold kernelRun0_A
  dsimp only
  sl_unfold_words
  simp only [View.readAt_eq_ld, h1.read_unread, h2.read_unread, h3.read_unread]
  exact ⟨piece_out x0 x2 1920 _, piece_out x0 x2 1792 _, piece_out x0 x2 1664 _, piece_out x0 x2 1536 _, piece_out x0 x2 1408 _, piece_out x0 x2 1280 _, piece_out x0 x2 1152 _, piece_out x0 x2 1024 _, piece_out x0 x2 896 _, piece_out x0 x2 768 _, piece_out x0 x2 640 _, piece_out x0 x2 512 _, piece_out x0 x2 384 _, piece_out x0 x2 256 _, piece_out x0 x2 128 _, piece_out x0 x2 0 _, trivial⟩

theorem out4_eq (c : Dev nD) (i : grid0.Coords) (a1 : Memref sig .tc .vmem S256x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S256x2048 .bf16) (h4 : a4.IsWhole)
    (a5 : Memref sig .tc .vmem S256x2048 .bf16) (h5 : a5.IsWhole) (a6 : Memref sig .tc .vmem S4x256x128 .f32) (h6 : a6.IsWhole)
    (x0 x1 x2 : Vec Ideal S256x2048 .bf16) :
    out0_A_4 c i a1 h1 a2 h2 a3 h3 a4 h4 a5 h5 a6 h6 x0 x1 x2 = blockGate x0 x1 x2 := by
  have hc := cover0_A_4 c i a1 h1 a2 h2 a3 h3 a4 h4 a5 h5 a6 h6 x0 x1 x2
  unfold out0_A_4
  rw [View.read_writes_eq_canon _ _ _ hc]
  funext y
  refine View.canon_apply_of_pieces (blockGate x0 x1 x2) _ (View.PiecesOf.mem ?_) y (hc y)
  unfold kernelRun0_A
  dsimp only
  sl_unfold_words
  simp only [View.readAt_eq_ld, h1.read_unread, h2.read_unread, h3.read_unread]
  exact ⟨piece_gate x0 x1 x2 1920 _, piece_gate x0 x1 x2 1792 _, piece_gate x0 x1 x2 1664 _, piece_gate x0 x1 x2 1536 _, piece_gate x0 x1 x2 1408 _, piece_gate x0 x1 x2 1280 _, piece_gate x0 x1 x2 1152 _, piece_gate x0 x1 x2 1024 _, piece_gate x0 x1 x2 896 _, piece_gate x0 x1 x2 768 _, piece_gate x0 x1 x2 640 _, piece_gate x0 x1 x2 512 _, piece_gate x0 x1 x2 384 _, piece_gate x0 x1 x2 256 _, piece_gate x0 x1 x2 128 _, piece_gate x0 x1 x2 0 _, trivial⟩

theorem head_sum (x0 x1 x2 : Vec Ideal S256x2048 .bf16) (n : ℕ) (b : ∀ a, (![0, n] : Fin 2 → ℕ) a + (![256, 128] : Fin 2 → ℕ) a ≤ S256x2048.size a)
    (h : Fin 16) (e : n = 128 * h.val) (r : Fin 256) :
    ∑ z : Fin 128, k0_pay7 (View.ld x0 (Rect.unit ![0, n] ![256, 128] b)) (View.ld x2 (Rect.unit ![0, n] ![256, 128] b)) (ix2 r z)
      * k0_pay5 (View.ld x1 (Rect.unit ![0, n] ![256, 128] b)) (ix2 r z) = headSum x0 x1 x2 r h := by
  subst e
  refine Finset.sum_congr rfl fun z _ => ?_
  have e0 := ld_at x0 _ b r z (by omega)
  have e1 := ld_at x1 _ b r z (by omega)
  have e2 := ld_at x2 _ b r z (by omega)
  have e5 : k0_pay5 (View.ld x1 (Rect.unit ![0, 128 * h.val] ![256, 128] b)) (ix2 r z)
      = (View.ld x1 (Rect.unit ![0, 128 * h.val] ![256, 128] b) : Vec Ideal S256x128 .bf16) (ix2 r z) := rfl
  rw [e5, head_at, e0, e1, e2]

theorem piece_sums (x0 x1 x2 : Vec Ideal S256x2048 .bf16) (g n0 n1 n2 n3 : ℕ) (hg : g < 4)
    (e0 : n0 = 128 * (4 * g)) (e1 : n1 = 128 * (4 * g + 1)) (e2 : n2 = 128 * (4 * g + 2)) (e3 : n3 = 128 * (4 * g + 3))
    (b0 : ∀ a, (![0, n0] : Fin 2 → ℕ) a + (![256, 128] : Fin 2 → ℕ) a ≤ S256x2048.size a)
    (b1 : ∀ a, (![0, n1] : Fin 2 → ℕ) a + (![256, 128] : Fin 2 → ℕ) a ≤ S256x2048.size a)
    (b2 : ∀ a, (![0, n2] : Fin 2 → ℕ) a + (![256, 128] : Fin 2 → ℕ) a ≤ S256x2048.size a)
    (b3 : ∀ a, (![0, n3] : Fin 2 → ℕ) a + (![256, 128] : Fin 2 → ℕ) a ≤ S256x2048.size a)
    (inb : ∀ a, (![g, 0, 0] : Fin 3 → ℕ) a + (![1, 256, 128] : Fin 3 → ℕ) a ≤ S4x256x128.size a) (x : S1x256x128.Idx) :
    shapeCast S1x256x128 (lane 3#32 (lane 2#32 (lane 1#32 (lane 0#32 k0_pay3 (k0_pay7 (View.ld x0 (Rect.unit ![0, n0] ![256, 128] b0)) (View.ld x2 (Rect.unit ![0, n0] ![256, 128] b0))) (k0_pay5 (View.ld x1 (Rect.unit ![0, n0] ![256, 128] b0)))) (k0_pay7 (View.ld x0 (Rect.unit ![0, n1] ![256, 128] b1)) (View.ld x2 (Rect.unit ![0, n1] ![256, 128] b1))) (k0_pay5 (View.ld x1 (Rect.unit ![0, n1] ![256, 128] b1)))) (k0_pay7 (View.ld x0 (Rect.unit ![0, n2] ![256, 128] b2)) (View.ld x2 (Rect.unit ![0, n2] ![256, 128] b2))) (k0_pay5 (View.ld x1 (Rect.unit ![0, n2] ![256, 128] b2)))) (k0_pay7 (View.ld x0 (Rect.unit ![0, n3] ![256, 128] b3)) (View.ld x2 (Rect.unit ![0, n3] ![256, 128] b3))) (k0_pay5 (View.ld x1 (Rect.unit ![0, n3] ![256, 128] b3)))) shapeCasts_S256x128_S1x256x128 x
      = blockSums x0 x1 x2 ((Rect.unit (s := S4x256x128) ![g, 0, 0] ![1, 256, 128] inb).emb x) := by
  obtain ⟨u, r, y, rfl⟩ : ∃ (u : Fin 1) (r : Fin 256) (y : Fin 128), x = ix3 u r y := ⟨x 0, x 1, x 2, eq_ix3 x⟩
  have hc : ∀ w : FVec Ideal S256x128 .f32, shapeCast S1x256x128 w shapeCasts_S256x128_S1x256x128 (ix3 u r y) = w (ix2 r y) := by
    intro w; pointwise []
  have he : (Rect.unit (s := S4x256x128) ![g, 0, 0] ![1, 256, 128] inb).emb (ix3 u r y) = ix3 (⟨g, hg⟩ : Fin 4) r y := by
    funext a
    apply Fin.ext
    match a with
    | ⟨0, _⟩ => show g + 1 * u.val = g; omega
    | ⟨1, _⟩ => show 0 + 1 * r.val = r.val; omega
    | ⟨2, _⟩ => show 0 + 1 * y.val = y.val; omega
  rw [hc, he]
  show _ = laneSum x0 x1 x2 ⟨g, hg⟩ r y
  have hz : (k0_pay3 : FVec Ideal S256x128 .f32) (ix2 r y) = 0 := by pointwise [k0_pay3]
  rw [lane_at, lane_at, lane_at, lane_at, head_sum x0 x1 x2 n0 b0 ⟨4 * g, by omega⟩ e0 r, head_sum x0 x1 x2 n1 b1 ⟨4 * g + 1, by omega⟩ e1 r,
    head_sum x0 x1 x2 n2 b2 ⟨4 * g + 2, by omega⟩ e2 r, head_sum x0 x1 x2 n3 b3 ⟨4 * g + 3, by omega⟩ e3 r, hz]
  have hb : ∀ k : ℕ, k < 4 → (BitVec.ofNat 32 y.val = BitVec.ofNat 32 k ↔ y.val = k) := by
    intro k hk
    rw [← BitVec.toNat_inj, BitVec.toNat_ofNat, BitVec.toNat_ofNat]
    have := y.isLt
    omega
  have t0 := hb 0 (by omega)
  have t1 := hb 1 (by omega)
  have t2 := hb 2 (by omega)
  have t3 := hb 3 (by omega)
  unfold laneSum
  simp only [show (0#32) = BitVec.ofNat 32 0 from rfl, show (1#32) = BitVec.ofNat 32 1 from rfl, show (2#32) = BitVec.ofNat 32 2 from rfl,
    show (3#32) = BitVec.ofNat 32 3 from rfl, t0, t1, t2, t3]
  by_cases h : y.val < 4
  · rw [dif_pos h]
    have hh : y.val = 0 ∨ y.val = 1 ∨ y.val = 2 ∨ y.val = 3 := by omega
    rcases hh with q | q | q | q <;> simp [q]
  · rw [dif_neg h, if_neg (by omega), if_neg (by omega), if_neg (by omega), if_neg (by omega)]

theorem out5_eq (c : Dev nD) (i : grid0.Coords) (a1 : Memref sig .tc .vmem S256x2048 .bf16) (h1 : a1.IsWhole) (a2 : Memref sig .tc .vmem S256x2048 .bf16) (h2 : a2.IsWhole)
    (a3 : Memref sig .tc .vmem S256x2048 .bf16) (h3 : a3.IsWhole) (a4 : Memref sig .tc .vmem S256x2048 .bf16) (h4 : a4.IsWhole)
    (a5 : Memref sig .tc .vmem S256x2048 .bf16) (h5 : a5.IsWhole) (a6 : Memref sig .tc .vmem S4x256x128 .f32) (h6 : a6.IsWhole)
    (x0 x1 x2 : Vec Ideal S256x2048 .bf16) :
    out0_A_5 c i a1 h1 a2 h2 a3 h3 a4 h4 a5 h5 a6 h6 x0 x1 x2 = blockSums x0 x1 x2 := by
  have hc := cover0_A_5 c i a1 h1 a2 h2 a3 h3 a4 h4 a5 h5 a6 h6 x0 x1 x2
  unfold out0_A_5
  rw [View.read_writes_eq_canon _ _ _ hc]
  funext y
  refine View.canon_apply_of_pieces (blockSums x0 x1 x2) _ (View.PiecesOf.mem ?_) y (hc y)
  unfold kernelRun0_A
  dsimp only
  sl_unfold_words
  simp only [View.readAt_eq_ld, h1.read_unread, h2.read_unread, h3.read_unread]
  exact ⟨fun x => piece_sums x0 x1 x2 3 _ _ _ _ (by decide) rfl rfl rfl rfl inb_S256x2048_S256x128_0_1536 inb_S256x2048_S256x128_0_1664 inb_S256x2048_S256x128_0_1792 inb_S256x2048_S256x128_0_1920 inb_S4x256x128_S1x256x128_3_0_0 x, fun x => piece_sums x0 x1 x2 2 _ _ _ _ (by decide) rfl rfl rfl rfl inb_S256x2048_S256x128_0_1024 inb_S256x2048_S256x128_0_1152 inb_S256x2048_S256x128_0_1280 inb_S256x2048_S256x128_0_1408 inb_S4x256x128_S1x256x128_2_0_0 x, fun x => piece_sums x0 x1 x2 1 _ _ _ _ (by decide) rfl rfl rfl rfl inb_S256x2048_S256x128_0_512 inb_S256x2048_S256x128_0_640 inb_S256x2048_S256x128_0_768 inb_S256x2048_S256x128_0_896 inb_S4x256x128_S1x256x128_1_0_0 x, fun x => piece_sums x0 x1 x2 0 _ _ _ _ (by decide) rfl rfl rfl rfl inb_S256x2048_S256x128_0_0 inb_S256x2048_S256x128_0_128 inb_S256x2048_S256x128_0_256 inb_S256x2048_S256x128_0_384 inb_S4x256x128_S1x256x128_0_0_0 x, trivial⟩

end Cert.Gate
-- ==== Proof.GateAlgebraic.lean ====
/- The gradient of the gate: the whole arrays, the reference at an entry, and the equation. -/
module

public import proofs.«01_k».proof.Defs
public import proofs.«01_k».proof.Proof.GateValue
public import proofs.«01_k».proof.Proof.Gen.Gate.Frame
public import proofs.«01_k».proof.Proof.Gen.GateReferenceIdeal.Run

@[expose] public section

set_option maxRecDepth 16384

noncomputable section

namespace Cert.Gate

open Idealize.ShloMosaic Idealize.ShloMosaic.TcCoe Idealize.SL.Sem

section
open Cert.GateIdeal Cert.GateIdeal.Gen

variable (m : (ℓ : Loc nD τ sig) → Buf (Elt Ideal) ℓ) (c : Dev nD)

/-- The cotangents, the output and the gate's columns, by row and column. -/
def cot : Fin 8448 → Fin 2048 → EReal := fun R x => (m ((c : Thread nD τ).loc main_arg0) : FVec Ideal S8448x2048 .bf16) (ix2 R x)

def att : Fin 8448 → Fin 2048 → EReal := fun R x => (m ((c : Thread nD τ).loc main_arg1) : FVec Ideal S8448x2048 .bf16) (ix2 R x)

def gate : Fin 8448 → Fin 2048 → EReal := fun R x => (m ((c : Thread nD τ).loc main_arg2) : FVec Ideal S8448x5120 .bf16) (ix2 R ⟨2048 + x.val, by omega⟩)

theorem idx0 : ∀ t : Fin cfg0.N, win0_0.index t 0 = t.val ∧ win0_0.index t 1 = 0 := (by decide +kernel : ∀ t : Fin grid0.N, _)

theorem idx1 : ∀ t : Fin cfg0.N, win0_1.index t 0 = t.val ∧ win0_1.index t 1 = 0 := (by decide +kernel : ∀ t : Fin grid0.N, _)

theorem idx2 : ∀ t : Fin cfg0.N, win0_2.index t 0 = t.val ∧ win0_2.index t 1 = 1 := (by decide +kernel : ∀ t : Fin grid0.N, _)

theorem idx3 : ∀ t : Fin cfg0.N, win0_3.index t 0 = t.val ∧ win0_3.index t 1 = 0 := (by decide +kernel : ∀ t : Fin grid0.N, _)

theorem idx4 : ∀ t : Fin cfg0.N, win0_4.index t 0 = t.val ∧ win0_4.index t 1 = 0 := (by decide +kernel : ∀ t : Fin grid0.N, _)

theorem idx5 : ∀ t : Fin cfg0.N, win0_5.index t 0 = 0 ∧ win0_5.index t 1 = t.val ∧ win0_5.index t 2 = 0 := (by decide +kernel : ∀ t : Fin grid0.N, _)

theorem blk0_at (t : Fin cfg0.N) (r : Fin 256) (x : Fin 2048) (R : Fin 8448) (hR : R.val = 256 * t.val + r.val) :
    (iblk m c 0 t : Vec Ideal S256x2048 .bf16) (ix2 r x) = cot m c R x := by
  obtain ⟨e0, e1⟩ := idx0 t
  unfold iblk cot
  rw [View.read_apply]
  show V m c main_arg0 _ = m (c.tc.loc main_arg0) _
  unfold V
  congr 1
  funext a
  apply Fin.ext
  match a with
  | ⟨0, _⟩ => show win0_0.index t 0 * 256 + 1 * r.val = R.val; rw [e0]; omega
  | ⟨1, _⟩ => show win0_0.index t 1 * 2048 + 1 * x.val = x.val; rw [e1]; omega

theorem blk1_at (t : Fin cfg0.N) (r : Fin 256) (x : Fin 2048) (R : Fin 8448) (hR : R.val = 256 * t.val + r.val) :
    (iblk m c 1 t : Vec Ideal S256x2048 .bf16) (ix2 r x) = att m c R x := by
  obtain ⟨e0, e1⟩ := idx1 t
  unfold iblk att
  rw [View.read_apply]
  show V m c main_arg1 _ = m (c.tc.loc main_arg1) _
  unfold V
  congr 1
  funext a
  apply Fin.ext
  match a with
  | ⟨0, _⟩ => show win0_1.index t 0 * 256 + 1 * r.val = R.val; rw [e0]; omega
  | ⟨1, _⟩ => show win0_1.index t 1 * 2048 + 1 * x.val = x.val; rw [e1]; omega

theorem blk2_at (t : Fin cfg0.N) (r : Fin 256) (x : Fin 2048) (R : Fin 8448) (hR : R.val = 256 * t.val + r.val) :
    (X0_2 m c t : Vec Ideal S256x2048 .bf16) (ix2 r x) = gate m c R x := by
  obtain ⟨e0, e1⟩ := idx2 t
  unfold X0_2 Pipeline.Window.fill gate
  rw [dif_pos (moved0_2 t _)]
  unfold iblk
  rw [View.read_apply]
  show V m c main_arg2 _ = m (c.tc.loc main_arg2) _
  unfold V
  congr 1
  funext a
  apply Fin.ext
  match a with
  | ⟨0, _⟩ => show win0_2.index t 0 * 256 + 1 * r.val = R.val; rw [e0]; omega
  | ⟨1, _⟩ => show win0_2.index t 1 * 2048 + 1 * x.val = 2048 + x.val; rw [e1]; omega

/-- The three result arrays. -/
def byOutputs : FVec Ideal S8448x2048 .bf16 := fun i => byOutput (cot m c (i 0) (i 1)) (gate m c (i 0) (i 1))

def byGates : FVec Ideal S8448x2048 .bf16 := fun i => byGate (cot m c (i 0) (i 1)) (att m c (i 0) (i 1)) (gate m c (i 0) (i 1))

/-- One group, row and lane of the sums. -/
def sumAt (g : Fin 4) (R : Fin 8448) (l : Fin 128) : EReal :=
  if h : l.val < 4 then
    ∑ z : Fin 128, byOutput (cot m c R ⟨128 * (4 * g.val + l.val) + z.val, by omega⟩) (gate m c R ⟨128 * (4 * g.val + l.val) + z.val, by omega⟩)
      * att m c R ⟨128 * (4 * g.val + l.val) + z.val, by omega⟩
  else 0

def sums : FVec Ideal S4x8448x128 .f32 := fun i => sumAt m c (i 0) (i 1) (i 2)

theorem blockOut_at (t : Fin cfg0.N) (r : Fin 256) (x x' : Fin 2048) (R : Fin 8448) (hR : R.val = 256 * t.val + r.val) (hx : x' = x) :
    blockOut (iblk m c 0 t) (X0_2 m c t) (ix2 r x) = byOutput (cot m c R x') (gate m c R x') := by
  subst hx
  unfold blockOut
  rw [blk0_at m c t r x' R hR, blk2_at m c t r x' R hR]

theorem blockGate_at (t : Fin cfg0.N) (r : Fin 256) (x x' : Fin 2048) (R : Fin 8448) (hR : R.val = 256 * t.val + r.val) (hx : x' = x) :
    blockGate (iblk m c 0 t) (iblk m c 1 t) (X0_2 m c t) (ix2 r x) = byGate (cot m c R x') (att m c R x') (gate m c R x') := by
  subst hx
  unfold blockGate
  rw [blk0_at m c t r x' R hR, blk1_at m c t r x' R hR, blk2_at m c t r x' R hR]

theorem blockSums_at (t : Fin cfg0.N) (g g' : Fin 4) (r : Fin 256) (l l' : Fin 128) (R : Fin 8448) (hR : R.val = 256 * t.val + r.val) (hg : g' = g) (hl : l' = l) :
    blockSums (iblk m c 0 t) (iblk m c 1 t) (X0_2 m c t) (ix3 g r l) = sumAt m c g' R l' := by
  subst hg hl
  show laneSum _ _ _ g' r l' = _
  unfold laneSum sumAt headSum
  simp only [blk0_at m c t r _ R hR, blk1_at m c t r _ R hR, blk2_at m c t r _ R hR]

/-- The point whose blocks hold a row. -/
theorem point (n : ℕ) (h : n < 8448) : ∃ t : Fin cfg0.N, t.val = n / 256 := ⟨⟨n / 256, lt_of_lt_of_eq (by omega) N_0.symm⟩, rfl⟩

theorem array3 : (dats m 0 c).arrAt 3 cfg0.N = byOutputs m c := by
  refine (dats m 0 c).arrAt_eq_of_cover 3 (byOutputs m c) (fun t hf => ?_) (fun i => ?_)
  · obtain ⟨e0, e1⟩ := idx3 t
    rw [Value.flushed3_A, out3_eq]
    funext y
    rw [View.read_apply]
    show blockOut (iblk m c 0 t) (X0_2 m c t) y = byOutputs m c _
    have hy : (y : S256x2048.Idx) = ix2 (y 0) (y 1) := eq_ix2 y
    refine (congrArg (blockOut (iblk m c 0 t) (X0_2 m c t)) hy).trans (blockOut_at m c t (y 0) (y 1) _ _ ?_ ?_)
    · show win0_3.index t 0 * 256 + 1 * (y 0).val = _; rw [e0]; omega
    · apply Fin.ext; show win0_3.index t 1 * 2048 + 1 * (y 1).val = _; rw [e1]; omega
  · have b0 : (i 0).val < 8448 := (i 0).isLt
    have b1 : (i 1).val < 2048 := (i 1).isLt
    obtain ⟨t, ht⟩ := point _ b0
    refine ⟨t, flush0_3 t, ?_⟩
    obtain ⟨e0, e1⟩ := idx3 t
    show i ∈ ((View.whole main_v0_0).slice (win0_3.rect t)).set
    rw [View.set_slice_whole, Rect.mem_set_unit]
    intro a
    match a with
    | ⟨0, _⟩ => show win0_3.index t 0 * 256 ≤ (i 0).val ∧ (i 0).val < win0_3.index t 0 * 256 + 256; omega
    | ⟨1, _⟩ => show win0_3.index t 1 * 2048 ≤ (i 1).val ∧ (i 1).val < win0_3.index t 1 * 2048 + 2048; omega

theorem array4 : (dats m 0 c).arrAt 4 cfg0.N = byGates m c := by
  refine (dats m 0 c).arrAt_eq_of_cover 4 (byGates m c) (fun t hf => ?_) (fun i => ?_)
  · obtain ⟨e0, e1⟩ := idx4 t
    rw [Value.flushed4_A, out4_eq]
    funext y
    rw [View.read_apply]
    show blockGate (iblk m c 0 t) (iblk m c 1 t) (X0_2 m c t) y = byGates m c _
    have hy : (y : S256x2048.Idx) = ix2 (y 0) (y 1) := eq_ix2 y
    refine (congrArg (blockGate (iblk m c 0 t) (iblk m c 1 t) (X0_2 m c t)) hy).trans (blockGate_at m c t (y 0) (y 1) _ _ ?_ ?_)
    · show win0_4.index t 0 * 256 + 1 * (y 0).val = _; rw [e0]; omega
    · apply Fin.ext; show win0_4.index t 1 * 2048 + 1 * (y 1).val = _; rw [e1]; omega
  · have b0 : (i 0).val < 8448 := (i 0).isLt
    have b1 : (i 1).val < 2048 := (i 1).isLt
    obtain ⟨t, ht⟩ := point _ b0
    refine ⟨t, flush0_4 t, ?_⟩
    obtain ⟨e0, e1⟩ := idx4 t
    show i ∈ ((View.whole main_v0_1).slice (win0_4.rect t)).set
    rw [View.set_slice_whole, Rect.mem_set_unit]
    intro a
    match a with
    | ⟨0, _⟩ => show win0_4.index t 0 * 256 ≤ (i 0).val ∧ (i 0).val < win0_4.index t 0 * 256 + 256; omega
    | ⟨1, _⟩ => show win0_4.index t 1 * 2048 ≤ (i 1).val ∧ (i 1).val < win0_4.index t 1 * 2048 + 2048; omega

theorem array5 : (dats m 0 c).arrAt 5 cfg0.N = sums m c := by
  refine (dats m 0 c).arrAt_eq_of_cover 5 (sums m c) (fun t hf => ?_) (fun i => ?_)
  · obtain ⟨e0, e1, e2⟩ := idx5 t
    rw [Value.flushed5_A, out5_eq]
    funext y
    rw [View.read_apply]
    show blockSums (iblk m c 0 t) (iblk m c 1 t) (X0_2 m c t) y = sums m c _
    have hy : (y : S4x256x128.Idx) = ix3 (y 0) (y 1) (y 2) := eq_ix3 y
    refine (congrArg (blockSums (iblk m c 0 t) (iblk m c 1 t) (X0_2 m c t)) hy).trans (blockSums_at m c t (y 0) _ (y 1) (y 2) _ _ ?_ ?_ ?_)
    · show win0_5.index t 1 * 256 + 1 * (y 1).val = _; rw [e1]; omega
    · apply Fin.ext; show win0_5.index t 0 * 4 + 1 * (y 0).val = _; rw [e0]; omega
    · apply Fin.ext; show win0_5.index t 2 * 128 + 1 * (y 2).val = _; rw [e2]; omega
  · have b0 : (i 0).val < 4 := (i 0).isLt
    have b1 : (i 1).val < 8448 := (i 1).isLt
    have b2 : (i 2).val < 128 := (i 2).isLt
    obtain ⟨t, ht⟩ := point _ b1
    refine ⟨t, flush0_5 t, ?_⟩
    obtain ⟨e0, e1, e2⟩ := idx5 t
    show i ∈ ((View.whole main_v0_2).slice (win0_5.rect t)).set
    rw [View.set_slice_whole, Rect.mem_set_unit]
    intro a
    match a with
    | ⟨0, _⟩ => show win0_5.index t 0 * 4 ≤ (i 0).val ∧ (i 0).val < win0_5.index t 0 * 4 + 4; omega
    | ⟨1, _⟩ => show win0_5.index t 1 * 256 ≤ (i 1).val ∧ (i 1).val < win0_5.index t 1 * 256 + 256; omega
    | ⟨2, _⟩ => show win0_5.index t 2 * 128 ≤ (i 2).val ∧ (i 2).val < win0_5.index t 2 * 128 + 128; omega

end

/-- Where the cotangent and the output are numbers, the gradient by the gate is the sum of the product rule's two terms, at
every gate. -/
theorem byGate_eq (d o : ℝ) (g : EReal) :
    byGate (d : EReal) (o : EReal) g
      = (o : EReal) * d * logistic g + g * ((o : EReal) * d) * (logistic g * (1 - logistic g)) := by
  have ht : logistic ⊤ = 1 := by
    unfold logistic
    rw [zero_sub, EReal.neg_top, show Ideal.exp ⊥ = 0 from rfl]
    simp [Ideal.div]
  have hb : logistic ⊥ = 0 := by
    unfold logistic
    rw [zero_sub, EReal.neg_bot, show Ideal.exp ⊤ = ⊤ from rfl, ← EReal.coe_one, EReal.coe_add_top]
    simp [Ideal.div]
  have hr : ∀ r : ℝ, ∃ s : ℝ, logistic (r : EReal) = (s : EReal) := by
    intro r
    have h0 : (1 + Real.exp (-r)) ≠ 0 := by positivity
    refine ⟨1 / (1 + Real.exp (-r)), ?_⟩
    unfold logistic
    rw [zero_sub, ← EReal.coe_neg]
    show Ideal.div 1 (1 + ((Real.exp (-r) : ℝ) : EReal)) = _
    rw [← EReal.coe_one, ← EReal.coe_add, Ideal.div_coe h0, ← EReal.coe_mul, one_mul]
  unfold byGate
  induction g using EReal.rec with
  | bot => rw [hb]; simp
  | top =>
    rw [ht]
    have h1 : (1 : EReal) - 1 = 0 := by rw [← EReal.coe_one, ← EReal.coe_sub]; norm_num
    simp [h1, mul_comm]
  | coe r =>
    obtain ⟨s, hs⟩ := hr r
    rw [hs]
    norm_cast
    ring

section
open Cert.GateReferenceIdeal Cert.GateReferenceIdeal.Gen

/-- The reference's gate, and the logistic function of it. -/
def gateR (Q : FVec Ideal S8448x5120 .bf16) : FVec Ideal S8448x2048 .f32 :=
  extf .f32 (extractStridedSlice S8448x2048 ![0, 2048] Q slices_S8448x5120_S8448x2048_0_2048) bitsLt_bf16_f32

def oneR : FVec Ideal S8448x2048 .f32 := broadcastInDim S8448x2048 ![] bcast_S_S8448x2048 (constant S_ .f32 0x3F800000#32)

def logisticR (Q : FVec Ideal S8448x5120 .bf16) : FVec Ideal S8448x2048 .f32 :=
  Host.divf oneR (addf oneR (Host.exp (Host.negf (gateR Q))))

/-- Its gradients by the output and by the gate. -/
def outR (D : FVec Ideal S8448x2048 .bf16) (Q : FVec Ideal S8448x5120 .bf16) : FVec Ideal S8448x2048 .f32 :=
  mulf (extf .f32 D bitsLt_bf16_f32) (mulf (gateR Q) (logisticR Q))

def gradR (D O : FVec Ideal S8448x2048 .bf16) (Q : FVec Ideal S8448x5120 .bf16) : FVec Ideal S8448x2048 .f32 :=
  addf (mulf (mulf (extf .f32 O bitsLt_bf16_f32) (extf .f32 D bitsLt_bf16_f32)) (logisticR Q))
    (mulf (mulf (gateR Q) (mulf (extf .f32 O bitsLt_bf16_f32) (extf .f32 D bitsLt_bf16_f32)))
      (mulf (logisticR Q) (subf oneR (logisticR Q))))

/-- Its sums over the heads. -/
def sumsR (P O : FVec Ideal S8448x2048 .f32) : FVec Ideal S4x8448x4 .f32 :=
  transpose S4x8448x4 [1, 0, 2] (Host.reduceAdd (shapeCast _ (mulf P O) shapeCasts_S8448x2048_S8448x4x4x128) (constant S_ .f32 0x00000000#32) reducesTo_S8448x4x4x128_S8448x4x4_d3 h_S_) transposes_S8448x4x4_S4x8448x4_1_0_2

def paddedR (S : FVec Ideal S4x8448x4 .f32) : FVec Ideal S4x8448x128 .f32 :=
  pad S4x8448x128 ![0, 0, 0] ![0, 0, 124] ![0, 0, 0] S (sitofp .f32 (constantI S_ 32 0#32)) pads_S4x8448x4_S4x8448x128_000_000_01240 h_S_

theorem gateR_at (Q : FVec Ideal S8448x5120 .bf16) (R : Fin 8448) (x : Fin 2048) : gateR Q (ix2 R x) = Q (ix2 R ⟨2048 + x.val, by omega⟩) := by
  pointwise [gateR]

theorem logisticR_at (Q : FVec Ideal S8448x5120 .bf16) (R : Fin 8448) (x : Fin 2048) : logisticR Q (ix2 R x) = logistic (gateR Q (ix2 R x)) := by
  unfold logistic
  rw [sub_eq_add_neg, zero_add]
  pointwise [logisticR, oneR]

theorem outR_at (D : FVec Ideal S8448x2048 .bf16) (Q : FVec Ideal S8448x5120 .bf16) (R : Fin 8448) (x : Fin 2048) :
    outR D Q (ix2 R x) = byOutput (D (ix2 R x)) (Q (ix2 R ⟨2048 + x.val, by omega⟩)) := by
  unfold byOutput
  rw [← gateR_at Q, ← logisticR_at]
  pointwise [outR]

theorem gradR_at (D O : FVec Ideal S8448x2048 .bf16) (Q : FVec Ideal S8448x5120 .bf16) (R : Fin 8448) (x : Fin 2048) :
    gradR D O Q (ix2 R x) = O (ix2 R x) * D (ix2 R x) * logistic (Q (ix2 R ⟨2048 + x.val, by omega⟩))
      + Q (ix2 R ⟨2048 + x.val, by omega⟩) * (O (ix2 R x) * D (ix2 R x)) * (logistic (Q (ix2 R ⟨2048 + x.val, by omega⟩)) * (1 - logistic (Q (ix2 R ⟨2048 + x.val, by omega⟩)))) := by
  rw [← gateR_at Q, ← logisticR_at]
  pointwise [gradR, oneR]

theorem sumsR_at (P O : FVec Ideal S8448x2048 .f32) (g : Fin 4) (R : Fin 8448) (l : Fin 4) :
    sumsR P O (ix3 g R l) = ∑ z : Fin 128, P (ix2 R ⟨128 * (4 * g.val + l.val) + z.val, by omega⟩) * O (ix2 R ⟨128 * (4 * g.val + l.val) + z.val, by omega⟩) := by
  have e : sumsR P O (ix3 g R l) = ∑ z : Fin 128, P (ix2 R ⟨g.val * 512 + l.val * 128 + z.val, by omega⟩) * O (ix2 R ⟨g.val * 512 + l.val * 128 + z.val, by omega⟩) := by
    pointwise [sumsR]
  rw [e]
  refine Finset.sum_congr rfl fun z _ => ?_
  have ez : (⟨g.val * 512 + l.val * 128 + z.val, by omega⟩ : Fin 2048) = ⟨128 * (4 * g.val + l.val) + z.val, by omega⟩ := Fin.ext (by show g.val * 512 + l.val * 128 + z.val = 128 * (4 * g.val + l.val) + z.val; omega)
  rw [ez]

/-- The sums, filled up with zeros to 128 lanes. -/
theorem paddedR_at (S : FVec Ideal S4x8448x4 .f32) (g : Fin 4) (R : Fin 8448) (l : Fin 128) :
    paddedR S (ix3 g R l) = if h : l.val < 4 then S (ix3 g R ⟨l.val, h⟩) else 0 := by
  have hz : (FloatOps.sitofp (F := Ideal) FTy.f32 (0#32 : BitVec 32)) = (0 : EReal) := by simp [FloatOps.sitofp]
  rw [← hz]
  pointwise [paddedR]

end

/-- The side conditions of the precondition. -/
theorem pre_facts : Cert.Pre_finite_gate.Facts where
  bcast_S_S8448x2048 := by decide

/-- What compares below infinity in size is a number. -/
theorem real_of_lt (x : EReal) (h : Ideal.cmp .olt (max x (-x)) (Ideal.ofBits .bf16 0x7F80#16) = 1#1) : x = (x.toReal : EReal) := by
  have word : Ideal.ofBits .bf16 0x7F80#16 = (⊤ : EReal) := by simp [Ideal.ofBits, Ideal.ieee]
  rw [word] at h
  have hx : max x (-x) < ⊤ := by
    by_contra hn
    simp [Ideal.cmp, hn] at h
  refine (EReal.coe_toReal ?_ ?_).symm
  · rintro rfl; simp at hx
  · rintro rfl; simp at hx

section
open Cert.GateIdeal

variable (m : (ℓ : Loc nD τ sig) → Buf (Elt Ideal) ℓ) (c : Dev nD)

theorem out_eq : (truncf .bf16 (outR (m ((c : Thread nD τ).loc main_arg0)) (m ((c : Thread nD τ).loc main_arg2))) Cert.GateReferenceIdeal.Gen.facts.bitsLt_bf16_f32 : FVec Ideal S8448x2048 .bf16) = byOutputs m c := by
  funext i
  have hi : i = ix2 (i 0) (i 1) := eq_ix2 i
  exact (congrArg _ hi).trans (outR_at _ _ (i 0) (i 1))

theorem grad_eq (hp : Cert.Pre_GateIdeal_finite_gate (hPre_finite_gate := pre_facts) m) :
    (truncf .bf16 (gradR (m ((c : Thread nD τ).loc main_arg0)) (m ((c : Thread nD τ).loc main_arg1)) (m ((c : Thread nD τ).loc main_arg2))) Cert.GateReferenceIdeal.Gen.facts.bitsLt_bf16_f32 : FVec Ideal S8448x2048 .bf16) = byGates m c := by
  obtain ⟨h0, h1⟩ := hp c
  funext i
  have hi : i = ix2 (i 0) (i 1) := eq_ix2 i
  refine (congrArg _ hi).trans ((gradR_at _ _ _ (i 0) (i 1)).trans ?_)
  have f0 : cot m c (i 0) (i 1) = ((cot m c (i 0) (i 1)).toReal : EReal) := real_of_lt _ (congrFun h0 (ix2 (i 0) (i 1)))
  have f1 : att m c (i 0) (i 1) = ((att m c (i 0) (i 1)).toReal : EReal) := real_of_lt _ (congrFun h1 (ix2 (i 0) (i 1)))
  show att m c (i 0) (i 1) * cot m c (i 0) (i 1) * logistic (gate m c (i 0) (i 1))
      + gate m c (i 0) (i 1) * (att m c (i 0) (i 1) * cot m c (i 0) (i 1)) * (logistic (gate m c (i 0) (i 1)) * (1 - logistic (gate m c (i 0) (i 1))))
    = byGate (cot m c (i 0) (i 1)) (att m c (i 0) (i 1)) (gate m c (i 0) (i 1))
  rw [f0, f1]
  exact (byGate_eq _ _ _).symm

theorem sums_at (g : Fin 4) (R : Fin 8448) (l : Fin 128) :
    paddedR (sumsR (outR (m ((c : Thread nD τ).loc main_arg0)) (m ((c : Thread nD τ).loc main_arg2)))
      (extf .f32 (m ((c : Thread nD τ).loc main_arg1) : FVec Ideal S8448x2048 .bf16) Cert.GateReferenceIdeal.Gen.facts.bitsLt_bf16_f32)) (ix3 g R l)
      = sumAt m c g R l := by
  rw [paddedR_at]
  unfold sumAt
  refine dite_congr rfl (fun h => ?_) (fun _ => rfl)
  rw [sumsR_at]
  refine Finset.sum_congr rfl fun z _ => ?_
  rw [outR_at]
  rfl

theorem sums_eq : paddedR (sumsR (outR (m ((c : Thread nD τ).loc main_arg0)) (m ((c : Thread nD τ).loc main_arg2)))
    (extf .f32 (m ((c : Thread nD τ).loc main_arg1) : FVec Ideal S8448x2048 .bf16) Cert.GateReferenceIdeal.Gen.facts.bitsLt_bf16_f32)) = sums m c := by
  funext i
  have hi : i = ix3 (i 0) (i 1) (i 2) := eq_ix3 i
  exact (congrArg _ hi).trans (sums_at m c (i 0) (i 1) (i 2))

end

theorem algebraic : Cert.algebraic_GateIdeal_GateReferenceIdeal_pre_finite_gate (hPre_finite_gate := pre_facts) := by
  intro m g m' g' hp hagree
  refine ⟨_, _, _, Cert.GateIdeal.Value.run_blocks m g, ?_⟩
  refine (θ_run _ _ _).mono (fun _ h c => ?_) (Cert.GateReferenceIdeal.Value.run (F := Ideal) m' g')
  obtain ⟨r0, r1, r2, ha⟩ := h c
  obtain ⟨a0, a1, a2⟩ := hagree c
  refine ⟨r0.trans (Eq.trans ?_ (array3 m c).symm), r1.trans (Eq.trans ?_ (array4 m c).symm), r2.trans (Eq.trans ?_ (array5 m c).symm), ha⟩
  · rw [a0, a2]; exact out_eq m c
  · rw [a0, a1, a2]; exact grad_eq m c hp
  · rw [a0, a1, a2]; exact sums_eq m c

theorem frame_kernel : Cert.quiescent_Gate := fun m ρ _ => Cert.Gate.Gen.frame m ρ

theorem frame_ideal : Cert.quiescent_GateIdeal := fun m ρ _ => Cert.GateIdeal.Gen.frame m ρ

theorem frame_ideal_pre : Cert.quiescent_GateIdeal_pre_finite_gate (hPre_finite_gate := pre_facts) :=
  fun m ρ _ => Cert.GateIdeal.Gen.frame m ρ

theorem frame_reference : Cert.quiescent_GateReferenceIdeal := fun m ρ _ =>
  (θ_run Cert.GateReferenceIdeal.defs _ _).mono (fun r h => ⟨fun c => (h c).2.2.2,
      Idealize.ShloMosaic.sem_eq_zero_of_no_sems (by decide) r.2⟩)
    (Cert.GateReferenceIdeal.Value.run (F := Ideal) m ρ)

theorem frame_reference_pre : Cert.quiescent_GateReferenceIdeal_pre_finite_gate (hPre_finite_gate := pre_facts) :=
  fun m ρ _ => frame_reference m ρ trivial

end Cert.Gate

end
-- ==== Proof.lean ====
/- The proof of the claims of this certificate. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import proofs.«01_k».proof.Proof.DwAlgebraic
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxReferenceIdeal
public import proofs.«01_k».proof.Proof.Gen.DxReferenceIdeal.Run
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwReferenceIdeal
public import proofs.«01_k».proof.Proof.Gen.DwReferenceIdeal.Run
public import proofs.«01_k».proof.Proof.Forward
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdReferenceIdeal
public import proofs.«01_k».proof.Proof.Gen.FwdReferenceIdeal.Run
public import proofs.«01_k».proof.Proof.GateAlgebraic
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Dx.Gen.facts, Cert.DxIdeal.Gen.facts, Cert.DxReferenceIdeal.Gen.facts,
    Cert.Dw.Gen.facts, Cert.DwIdeal.Gen.facts, Cert.DwReferenceIdeal.Gen.facts,
    Cert.Fwd.Gen.facts, Cert.FwdIdeal.Gen.facts, Cert.FwdReferenceIdeal.Gen.facts,
    Cert.Gate.Gen.facts, Cert.GateIdeal.Gen.facts, Cert.GateReferenceIdeal.Gen.facts, Cert.Attn.pre_facts, Cert.Gate.pre_facts,
    Cert.Attn.frame_kernel, Cert.Attn.frame_ideal, Cert.Attn.frame_ideal_pre, Cert.Attn.frame_reference,
    Cert.Attn.frame_reference_pre,
    Cert.Products.Dx.frame_kernel, Cert.Products.Dx.frame_ideal, Cert.Products.Dx.frame_reference,
    Cert.Products.Dw.frame_kernel, Cert.Products.Dw.frame_ideal, Cert.Products.Dw.frame_reference,
    Cert.Products.Fwd.frame_kernel, Cert.Products.Fwd.frame_ideal, Cert.Products.Fwd.frame_reference,
    Cert.Gate.frame_kernel, Cert.Gate.frame_ideal, Cert.Gate.frame_ideal_pre, Cert.Gate.frame_reference, Cert.Gate.frame_reference_pre,
    Cert.Attn.preserves, Cert.Attn.algebraic, trivial, Cert.Products.Dx.algebraic, trivial, Cert.Products.Dw.algebraic,
    trivial, Cert.Products.Fwd.algebraic, trivial, Cert.Gate.algebraic⟩

end Cert.Proof

end
